-- ==== Defs.lean ====
def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Reference1Ideal (m : (ℓ : Loc Cert.Reference1Ideal.nD Cert.Reference1Ideal.τ Cert.Reference1Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2)
      ∧ r.2.mem ((c.tc : Thread Cert.Kernel1.nD Cert.Kernel1.τ).loc Cert.Kernel1.main_arg3) = m ((c.tc : Thread Cert.Kernel1.nD Cert.Kernel1.τ).loc Cert.Kernel1.main_arg3)
      ∧ r.2.mem ((c.tc : Thread Cert.Kernel1.nD Cert.Kernel1.τ).loc Cert.Kernel1.main_arg4) = m ((c.tc : Thread Cert.Kernel1.nD Cert.Kernel1.τ).loc Cert.Kernel1.main_arg4)
      ∧ r.2.mem ((c.tc : Thread Cert.Kernel1.nD Cert.Kernel1.τ).loc Cert.Kernel1.main_arg5) = m ((c.tc : Thread Cert.Kernel1.nD Cert.Kernel1.τ).loc Cert.Kernel1.main_arg5)
      ∧ r.2.mem ((c.tc : Thread Cert.Kernel1.nD Cert.Kernel1.τ).loc Cert.Kernel1.main_arg6) = m ((c.tc : Thread Cert.Kernel1.nD Cert.Kernel1.τ).loc Cert.Kernel1.main_arg6)
      ∧ r.2.mem ((c.tc : Thread Cert.Kernel1.nD Cert.Kernel1.τ).loc Cert.Kernel1.main_arg7) = m ((c.tc : Thread Cert.Kernel1.nD Cert.Kernel1.τ).loc Cert.Kernel1.main_arg7)
      ∧ r.2.mem ((c.tc : Thread Cert.Kernel1.nD Cert.Kernel1.τ).loc Cert.Kernel1.main_arg8) = m ((c.tc : Thread Cert.Kernel1.nD Cert.Kernel1.τ).loc Cert.Kernel1.main_arg8)
      ∧ r.2.mem ((c.tc : Thread Cert.Kernel1.nD Cert.Kernel1.τ).loc Cert.Kernel1.main_arg9) = m ((c.tc : Thread Cert.Kernel1.nD Cert.Kernel1.τ).loc Cert.Kernel1.main_arg9)
      ∧ r.2.mem ((c.tc : Thread Cert.Kernel1.nD Cert.Kernel1.τ).loc Cert.Kernel1.main_arg10) = m ((c.tc : Thread Cert.Kernel1.nD Cert.Kernel1.τ).loc Cert.Kernel1.main_arg10)
      ∧ r.2.mem ((c.tc : Thread Cert.Kernel1.nD Cert.Kernel1.τ).loc Cert.Kernel1.main_arg11) = m ((c.tc : Thread Cert.Kernel1.nD Cert.Kernel1.τ).loc Cert.Kernel1.main_arg11)
      ∧ r.2.mem ((c.tc : Thread Cert.Kernel1.nD Cert.Kernel1.τ).loc Cert.Kernel1.main_arg12) = m ((c.tc : Thread Cert.Kernel1.nD Cert.Kernel1.τ).loc Cert.Kernel1.main_arg12)
      ∧ r.2.mem ((c.tc : Thread Cert.Kernel1.nD Cert.Kernel1.τ).loc Cert.Kernel1.main_arg13) = m ((c.tc : Thread Cert.Kernel1.nD Cert.Kernel1.τ).loc Cert.Kernel1.main_arg13)
      ∧ r.2.mem ((c.tc : Thread Cert.Kernel1.nD Cert.Kernel1.τ).loc Cert.Kernel1.main_arg14) = m ((c.tc : Thread Cert.Kernel1.nD Cert.Kernel1.τ).loc Cert.Kernel1.main_arg14)
      ∧ r.2.mem ((c.tc : Thread Cert.Kernel1.nD Cert.Kernel1.τ).loc Cert.Kernel1.main_arg15) = m ((c.tc : Thread Cert.Kernel1.nD Cert.Kernel1.τ).loc Cert.Kernel1.main_arg15)
      ∧ r.2.mem ((c.tc : Thread Cert.Kernel1.nD Cert.Kernel1.τ).loc Cert.Kernel1.main_arg16) = m ((c.tc : Thread Cert.Kernel1.nD Cert.Kernel1.τ).loc Cert.Kernel1.main_arg16))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
      ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
      ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
      ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8)
      ∧ r.2.mem ((c.tc : Thread Cert.Kernel1Ideal.nD Cert.Kernel1Ideal.τ).loc Cert.Kernel1Ideal.main_arg9) = m ((c.tc : Thread Cert.Kernel1Ideal.nD Cert.Kernel1Ideal.τ).loc Cert.Kernel1Ideal.main_arg9)
      ∧ r.2.mem ((c.tc : Thread Cert.Kernel1Ideal.nD Cert.Kernel1Ideal.τ).loc Cert.Kernel1Ideal.main_arg10) = m ((c.tc : Thread Cert.Kernel1Ideal.nD Cert.Kernel1Ideal.τ).loc Cert.Kernel1Ideal.main_arg10)
      ∧ r.2.mem ((c.tc : Thread Cert.Kernel1Ideal.nD Cert.Kernel1Ideal.τ).loc Cert.Kernel1Ideal.main_arg11) = m ((c.tc : Thread Cert.Kernel1Ideal.nD Cert.Kernel1Ideal.τ).loc Cert.Kernel1Ideal.main_arg11)
      ∧ r.2.mem ((c.tc : Thread Cert.Kernel1Ideal.nD Cert.Kernel1Ideal.τ).loc Cert.Kernel1Ideal.main_arg12) = m ((c.tc : Thread Cert.Kernel1Ideal.nD Cert.Kernel1Ideal.τ).loc Cert.Kernel1Ideal.main_arg12)
      ∧ r.2.mem ((c.tc : Thread Cert.Kernel1Ideal.nD Cert.Kernel1Ideal.τ).loc Cert.Kernel1Ideal.main_arg13) = m ((c.tc : Thread Cert.Kernel1Ideal.nD Cert.Kernel1Ideal.τ).loc Cert.Kernel1Ideal.main_arg13)
      ∧ r.2.mem ((c.tc : Thread Cert.Kernel1Ideal.nD Cert.Kernel1Ideal.τ).loc Cert.Kernel1Ideal.main_arg14) = m ((c.tc : Thread Cert.Kernel1Ideal.nD Cert.Kernel1Ideal.τ).loc Cert.Kernel1Ideal.main_arg14)
      ∧ r.2.mem ((c.tc : Thread Cert.Kernel1Ideal.nD Cert.Kernel1Ideal.τ).loc Cert.Kernel1Ideal.main_arg15) = m ((c.tc : Thread Cert.Kernel1Ideal.nD Cert.Kernel1Ideal.τ).loc Cert.Kernel1Ideal.main_arg15)
      ∧ r.2.mem ((c.tc : Thread Cert.Kernel1Ideal.nD Cert.Kernel1Ideal.τ).loc Cert.Kernel1Ideal.main_arg16) = m ((c.tc : Thread Cert.Kernel1Ideal.nD Cert.Kernel1Ideal.τ).loc Cert.Kernel1Ideal.main_arg16))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5)
      ∧ r.2.mem ((c.tc : Thread Cert.Reference1Ideal.nD Cert.Reference1Ideal.τ).loc Cert.Reference1Ideal.main_arg6) = m ((c.tc : Thread Cert.Reference1Ideal.nD Cert.Reference1Ideal.τ).loc Cert.Reference1Ideal.main_arg6)
      ∧ r.2.mem ((c.tc : Thread Cert.Reference1Ideal.nD Cert.Reference1Ideal.τ).loc Cert.Reference1Ideal.main_arg7) = m ((c.tc : Thread Cert.Reference1Ideal.nD Cert.Reference1Ideal.τ).loc Cert.Reference1Ideal.main_arg7)
      ∧ r.2.mem ((c.tc : Thread Cert.Reference1Ideal.nD Cert.Reference1Ideal.τ).loc Cert.Reference1Ideal.main_arg8) = m ((c.tc : Thread Cert.Reference1Ideal.nD Cert.Reference1Ideal.τ).loc Cert.Reference1Ideal.main_arg8)
      ∧ r.2.mem ((c.tc : Thread Cert.Reference1Ideal.nD Cert.Reference1Ideal.τ).loc Cert.Reference1Ideal.main_arg9) = m ((c.tc : Thread Cert.Reference1Ideal.nD Cert.Reference1Ideal.τ).loc Cert.Reference1Ideal.main_arg9)
      ∧ r.2.mem ((c.tc : Thread Cert.Reference1Ideal.nD Cert.Reference1Ideal.τ).loc Cert.Reference1Ideal.main_arg10) = m ((c.tc : Thread Cert.Reference1Ideal.nD Cert.Reference1Ideal.τ).loc Cert.Reference1Ideal.main_arg10)
      ∧ r.2.mem ((c.tc : Thread Cert.Reference1Ideal.nD Cert.Reference1Ideal.τ).loc Cert.Reference1Ideal.main_arg11) = m ((c.tc : Thread Cert.Reference1Ideal.nD Cert.Reference1Ideal.τ).loc Cert.Reference1Ideal.main_arg11)
      ∧ r.2.mem ((c.tc : Thread Cert.Reference1Ideal.nD Cert.Reference1Ideal.τ).loc Cert.Reference1Ideal.main_arg12) = m ((c.tc : Thread Cert.Reference1Ideal.nD Cert.Reference1Ideal.τ).loc Cert.Reference1Ideal.main_arg12)
      ∧ r.2.mem ((c.tc : Thread Cert.Reference1Ideal.nD Cert.Reference1Ideal.τ).loc Cert.Reference1Ideal.main_arg13) = m ((c.tc : Thread Cert.Reference1Ideal.nD Cert.Reference1Ideal.τ).loc Cert.Reference1Ideal.main_arg13)
      ∧ r.2.mem ((c.tc : Thread Cert.Reference1Ideal.nD Cert.Reference1Ideal.τ).loc Cert.Reference1Ideal.main_arg14) = m ((c.tc : Thread Cert.Reference1Ideal.nD Cert.Reference1Ideal.τ).loc Cert.Reference1Ideal.main_arg14)
      ∧ r.2.mem ((c.tc : Thread Cert.Reference1Ideal.nD Cert.Reference1Ideal.τ).loc Cert.Reference1Ideal.main_arg15) = m ((c.tc : Thread Cert.Reference1Ideal.nD Cert.Reference1Ideal.τ).loc Cert.Reference1Ideal.main_arg15)
      ∧ r.2.mem ((c.tc : Thread Cert.Reference1Ideal.nD Cert.Reference1Ideal.τ).loc Cert.Reference1Ideal.main_arg16) = m ((c.tc : Thread Cert.Reference1Ideal.nD Cert.Reference1Ideal.τ).loc Cert.Reference1Ideal.main_arg16))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel1_Kernel1Ideal : Prop :=
  True

def algebraic_Kernel1Ideal_Reference1Ideal [hKernel1Ideal : Cert.Kernel1Ideal.Facts] [hReference1Ideal : Cert.Reference1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)
      ∧ m' ((c.tc : Thread Cert.Reference1Ideal.nD Cert.Reference1Ideal.τ).loc Cert.Reference1Ideal.main_arg3) = m ((c.tc : Thread Cert.Kernel1Ideal.nD Cert.Kernel1Ideal.τ).loc Cert.Kernel1Ideal.main_arg3)
      ∧ m' ((c.tc : Thread Cert.Reference1Ideal.nD Cert.Reference1Ideal.τ).loc Cert.Reference1Ideal.main_arg4) = m ((c.tc : Thread Cert.Kernel1Ideal.nD Cert.Kernel1Ideal.τ).loc Cert.Kernel1Ideal.main_arg4)
      ∧ m' ((c.tc : Thread Cert.Reference1Ideal.nD Cert.Reference1Ideal.τ).loc Cert.Reference1Ideal.main_arg5) = m ((c.tc : Thread Cert.Kernel1Ideal.nD Cert.Kernel1Ideal.τ).loc Cert.Kernel1Ideal.main_arg5)
      ∧ m' ((c.tc : Thread Cert.Reference1Ideal.nD Cert.Reference1Ideal.τ).loc Cert.Reference1Ideal.main_arg6) = m ((c.tc : Thread Cert.Kernel1Ideal.nD Cert.Kernel1Ideal.τ).loc Cert.Kernel1Ideal.main_arg6)
      ∧ m' ((c.tc : Thread Cert.Reference1Ideal.nD Cert.Reference1Ideal.τ).loc Cert.Reference1Ideal.main_arg7) = m ((c.tc : Thread Cert.Kernel1Ideal.nD Cert.Kernel1Ideal.τ).loc Cert.Kernel1Ideal.main_arg7)
      ∧ m' ((c.tc : Thread Cert.Reference1Ideal.nD Cert.Reference1Ideal.τ).loc Cert.Reference1Ideal.main_arg8) = m ((c.tc : Thread Cert.Kernel1Ideal.nD Cert.Kernel1Ideal.τ).loc Cert.Kernel1Ideal.main_arg8)
      ∧ m' ((c.tc : Thread Cert.Reference1Ideal.nD Cert.Reference1Ideal.τ).loc Cert.Reference1Ideal.main_arg9) = m ((c.tc : Thread Cert.Kernel1Ideal.nD Cert.Kernel1Ideal.τ).loc Cert.Kernel1Ideal.main_arg9)
      ∧ m' ((c.tc : Thread Cert.Reference1Ideal.nD Cert.Reference1Ideal.τ).loc Cert.Reference1Ideal.main_arg10) = m ((c.tc : Thread Cert.Kernel1Ideal.nD Cert.Kernel1Ideal.τ).loc Cert.Kernel1Ideal.main_arg10)
      ∧ m' ((c.tc : Thread Cert.Reference1Ideal.nD Cert.Reference1Ideal.τ).loc Cert.Reference1Ideal.main_arg11) = m ((c.tc : Thread Cert.Kernel1Ideal.nD Cert.Kernel1Ideal.τ).loc Cert.Kernel1Ideal.main_arg11)
      ∧ m' ((c.tc : Thread Cert.Reference1Ideal.nD Cert.Reference1Ideal.τ).loc Cert.Reference1Ideal.main_arg12) = m ((c.tc : Thread Cert.Kernel1Ideal.nD Cert.Kernel1Ideal.τ).loc Cert.Kernel1Ideal.main_arg12)
      ∧ m' ((c.tc : Thread Cert.Reference1Ideal.nD Cert.Reference1Ideal.τ).loc Cert.Reference1Ideal.main_arg13) = m ((c.tc : Thread Cert.Kernel1Ideal.nD Cert.Kernel1Ideal.τ).loc Cert.Kernel1Ideal.main_arg13)
      ∧ m' ((c.tc : Thread Cert.Reference1Ideal.nD Cert.Reference1Ideal.τ).loc Cert.Reference1Ideal.main_arg14) = m ((c.tc : Thread Cert.Kernel1Ideal.nD Cert.Kernel1Ideal.τ).loc Cert.Kernel1Ideal.main_arg14)
      ∧ m' ((c.tc : Thread Cert.Reference1Ideal.nD Cert.Reference1Ideal.τ).loc Cert.Reference1Ideal.main_arg15) = m ((c.tc : Thread Cert.Kernel1Ideal.nD Cert.Kernel1Ideal.τ).loc Cert.Kernel1Ideal.main_arg15)
      ∧ m' ((c.tc : Thread Cert.Reference1Ideal.nD Cert.Reference1Ideal.τ).loc Cert.Reference1Ideal.main_arg16) = m ((c.tc : Thread Cert.Kernel1Ideal.nD Cert.Kernel1Ideal.τ).loc Cert.Kernel1Ideal.main_arg16)) →
    ∃ (v0 : (c : Dev Cert.Kernel1Ideal.nD) → Buf (Elt Ideal) ((c.tc : Thread Cert.Kernel1Ideal.nD Cert.Kernel1Ideal.τ).loc Cert.Kernel1Ideal.main_v49_5)) (v1 : (c : Dev Cert.Kernel1Ideal.nD) → Buf (Elt Ideal) ((c.tc : Thread Cert.Kernel1Ideal.nD Cert.Kernel1Ideal.τ).loc Cert.Kernel1Ideal.main_v49_9)) (v2 : (c : Dev Cert.Kernel1Ideal.nD) → Buf (Elt Ideal) ((c.tc : Thread Cert.Kernel1Ideal.nD Cert.Kernel1Ideal.τ).loc Cert.Kernel1Ideal.main_v49_1)) (v3 : (c : Dev Cert.Kernel1Ideal.nD) → Buf (Elt Ideal) ((c.tc : Thread Cert.Kernel1Ideal.nD Cert.Kernel1Ideal.τ).loc Cert.Kernel1Ideal.main_v49_2)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v49_5) = v0 c
          ∧ r.2.mem ((c.tc : Thread Cert.Kernel1Ideal.nD Cert.Kernel1Ideal.τ).loc Cert.Kernel1Ideal.main_v49_9) = v1 c
          ∧ r.2.mem ((c.tc : Thread Cert.Kernel1Ideal.nD Cert.Kernel1Ideal.τ).loc Cert.Kernel1Ideal.main_v49_1) = v2 c
          ∧ r.2.mem ((c.tc : Thread Cert.Kernel1Ideal.nD Cert.Kernel1Ideal.τ).loc Cert.Kernel1Ideal.main_v49_2) = v3 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
          ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
          ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
          ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
          ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
          ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
          ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8)
          ∧ r.2.mem ((c.tc : Thread Cert.Kernel1Ideal.nD Cert.Kernel1Ideal.τ).loc Cert.Kernel1Ideal.main_arg9) = m ((c.tc : Thread Cert.Kernel1Ideal.nD Cert.Kernel1Ideal.τ).loc Cert.Kernel1Ideal.main_arg9)
          ∧ r.2.mem ((c.tc : Thread Cert.Kernel1Ideal.nD Cert.Kernel1Ideal.τ).loc Cert.Kernel1Ideal.main_arg10) = m ((c.tc : Thread Cert.Kernel1Ideal.nD Cert.Kernel1Ideal.τ).loc Cert.Kernel1Ideal.main_arg10)
          ∧ r.2.mem ((c.tc : Thread Cert.Kernel1Ideal.nD Cert.Kernel1Ideal.τ).loc Cert.Kernel1Ideal.main_arg11) = m ((c.tc : Thread Cert.Kernel1Ideal.nD Cert.Kernel1Ideal.τ).loc Cert.Kernel1Ideal.main_arg11)
          ∧ r.2.mem ((c.tc : Thread Cert.Kernel1Ideal.nD Cert.Kernel1Ideal.τ).loc Cert.Kernel1Ideal.main_arg12) = m ((c.tc : Thread Cert.Kernel1Ideal.nD Cert.Kernel1Ideal.τ).loc Cert.Kernel1Ideal.main_arg12)
          ∧ r.2.mem ((c.tc : Thread Cert.Kernel1Ideal.nD Cert.Kernel1Ideal.τ).loc Cert.Kernel1Ideal.main_arg13) = m ((c.tc : Thread Cert.Kernel1Ideal.nD Cert.Kernel1Ideal.τ).loc Cert.Kernel1Ideal.main_arg13)
          ∧ r.2.mem ((c.tc : Thread Cert.Kernel1Ideal.nD Cert.Kernel1Ideal.τ).loc Cert.Kernel1Ideal.main_arg14) = m ((c.tc : Thread Cert.Kernel1Ideal.nD Cert.Kernel1Ideal.τ).loc Cert.Kernel1Ideal.main_arg14)
          ∧ r.2.mem ((c.tc : Thread Cert.Kernel1Ideal.nD Cert.Kernel1Ideal.τ).loc Cert.Kernel1Ideal.main_arg15) = m ((c.tc : Thread Cert.Kernel1Ideal.nD Cert.Kernel1Ideal.τ).loc Cert.Kernel1Ideal.main_arg15)
          ∧ r.2.mem ((c.tc : Thread Cert.Kernel1Ideal.nD Cert.Kernel1Ideal.τ).loc Cert.Kernel1Ideal.main_arg16) = m ((c.tc : Thread Cert.Kernel1Ideal.nD Cert.Kernel1Ideal.τ).loc Cert.Kernel1Ideal.main_arg16))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v33) = v0 c
          ∧ r.2.mem ((c.tc : Thread Cert.Reference1Ideal.nD Cert.Reference1Ideal.τ).loc Cert.Reference1Ideal.main_v34) = v1 c
          ∧ r.2.mem ((c.tc : Thread Cert.Reference1Ideal.nD Cert.Reference1Ideal.τ).loc Cert.Reference1Ideal.main_v35) = v2 c
          ∧ r.2.mem ((c.tc : Thread Cert.Reference1Ideal.nD Cert.Reference1Ideal.τ).loc Cert.Reference1Ideal.main_v36) = v3 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2)
          ∧ r.2.mem ((c.tc : Thread Cert.Reference1Ideal.nD Cert.Reference1Ideal.τ).loc Cert.Reference1Ideal.main_arg3) = m' ((c.tc : Thread Cert.Reference1Ideal.nD Cert.Reference1Ideal.τ).loc Cert.Reference1Ideal.main_arg3)
          ∧ r.2.mem ((c.tc : Thread Cert.Reference1Ideal.nD Cert.Reference1Ideal.τ).loc Cert.Reference1Ideal.main_arg4) = m' ((c.tc : Thread Cert.Reference1Ideal.nD Cert.Reference1Ideal.τ).loc Cert.Reference1Ideal.main_arg4)
          ∧ r.2.mem ((c.tc : Thread Cert.Reference1Ideal.nD Cert.Reference1Ideal.τ).loc Cert.Reference1Ideal.main_arg5) = m' ((c.tc : Thread Cert.Reference1Ideal.nD Cert.Reference1Ideal.τ).loc Cert.Reference1Ideal.main_arg5)
          ∧ r.2.mem ((c.tc : Thread Cert.Reference1Ideal.nD Cert.Reference1Ideal.τ).loc Cert.Reference1Ideal.main_arg6) = m' ((c.tc : Thread Cert.Reference1Ideal.nD Cert.Reference1Ideal.τ).loc Cert.Reference1Ideal.main_arg6)
          ∧ r.2.mem ((c.tc : Thread Cert.Reference1Ideal.nD Cert.Reference1Ideal.τ).loc Cert.Reference1Ideal.main_arg7) = m' ((c.tc : Thread Cert.Reference1Ideal.nD Cert.Reference1Ideal.τ).loc Cert.Reference1Ideal.main_arg7)
          ∧ r.2.mem ((c.tc : Thread Cert.Reference1Ideal.nD Cert.Reference1Ideal.τ).loc Cert.Reference1Ideal.main_arg8) = m' ((c.tc : Thread Cert.Reference1Ideal.nD Cert.Reference1Ideal.τ).loc Cert.Reference1Ideal.main_arg8)
          ∧ r.2.mem ((c.tc : Thread Cert.Reference1Ideal.nD Cert.Reference1Ideal.τ).loc Cert.Reference1Ideal.main_arg9) = m' ((c.tc : Thread Cert.Reference1Ideal.nD Cert.Reference1Ideal.τ).loc Cert.Reference1Ideal.main_arg9)
          ∧ r.2.mem ((c.tc : Thread Cert.Reference1Ideal.nD Cert.Reference1Ideal.τ).loc Cert.Reference1Ideal.main_arg10) = m' ((c.tc : Thread Cert.Reference1Ideal.nD Cert.Reference1Ideal.τ).loc Cert.Reference1Ideal.main_arg10)
          ∧ r.2.mem ((c.tc : Thread Cert.Reference1Ideal.nD Cert.Reference1Ideal.τ).loc Cert.Reference1Ideal.main_arg11) = m' ((c.tc : Thread Cert.Reference1Ideal.nD Cert.Reference1Ideal.τ).loc Cert.Reference1Ideal.main_arg11)
          ∧ r.2.mem ((c.tc : Thread Cert.Reference1Ideal.nD Cert.Reference1Ideal.τ).loc Cert.Reference1Ideal.main_arg12) = m' ((c.tc : Thread Cert.Reference1Ideal.nD Cert.Reference1Ideal.τ).loc Cert.Reference1Ideal.main_arg12)
          ∧ r.2.mem ((c.tc : Thread Cert.Reference1Ideal.nD Cert.Reference1Ideal.τ).loc Cert.Reference1Ideal.main_arg13) = m' ((c.tc : Thread Cert.Reference1Ideal.nD Cert.Reference1Ideal.τ).loc Cert.Reference1Ideal.main_arg13)
          ∧ r.2.mem ((c.tc : Thread Cert.Reference1Ideal.nD Cert.Reference1Ideal.τ).loc Cert.Reference1Ideal.main_arg14) = m' ((c.tc : Thread Cert.Reference1Ideal.nD Cert.Reference1Ideal.τ).loc Cert.Reference1Ideal.main_arg14)
          ∧ r.2.mem ((c.tc : Thread Cert.Reference1Ideal.nD Cert.Reference1Ideal.τ).loc Cert.Reference1Ideal.main_arg15) = m' ((c.tc : Thread Cert.Reference1Ideal.nD Cert.Reference1Ideal.τ).loc Cert.Reference1Ideal.main_arg15)
          ∧ r.2.mem ((c.tc : Thread Cert.Reference1Ideal.nD Cert.Reference1Ideal.τ).loc Cert.Reference1Ideal.main_arg16) = m' ((c.tc : Thread Cert.Reference1Ideal.nD Cert.Reference1Ideal.τ).loc Cert.Reference1Ideal.main_arg16))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v97) = v0 c
          ∧ r.2.mem ((c.tc : Thread Cert.Reference2Ideal.nD Cert.Reference2Ideal.τ).loc Cert.Reference2Ideal.main_v98) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v59_0)) (v1 : (c : Dev Cert.Kernel3Ideal.nD) → Buf (Elt Ideal) ((c.tc : Thread Cert.Kernel3Ideal.nD Cert.Kernel3Ideal.τ).loc Cert.Kernel3Ideal.main_v59_1)) (v2 : (c : Dev Cert.Kernel3Ideal.nD) → Buf (Elt Ideal) ((c.tc : Thread Cert.Kernel3Ideal.nD Cert.Kernel3Ideal.τ).loc Cert.Kernel3Ideal.main_v59_2)) (v3 : (c : Dev Cert.Kernel3Ideal.nD) → Buf (Elt Ideal) ((c.tc : Thread Cert.Kernel3Ideal.nD Cert.Kernel3Ideal.τ).loc Cert.Kernel3Ideal.main_v59_3)) (v4 : (c : Dev Cert.Kernel3Ideal.nD) → Buf (Elt Ideal) ((c.tc : Thread Cert.Kernel3Ideal.nD Cert.Kernel3Ideal.τ).loc Cert.Kernel3Ideal.main_v59_4)) (v5 : (c : Dev Cert.Kernel3Ideal.nD) → Buf (Elt Ideal) ((c.tc : Thread Cert.Kernel3Ideal.nD Cert.Kernel3Ideal.τ).loc Cert.Kernel3Ideal.main_v59_5)) (v6 : (c : Dev Cert.Kernel3Ideal.nD) → Buf (Elt Ideal) ((c.tc : Thread Cert.Kernel3Ideal.nD Cert.Kernel3Ideal.τ).loc Cert.Kernel3Ideal.main_v59_6)) (v7 : (c : Dev Cert.Kernel3Ideal.nD) → Buf (Elt Ideal) ((c.tc : Thread Cert.Kernel3Ideal.nD Cert.Kernel3Ideal.τ).loc Cert.Kernel3Ideal.main_v59_7)) (v8 : (c : Dev Cert.Kernel3Ideal.nD) → Buf (Elt Ideal) ((c.tc : Thread Cert.Kernel3Ideal.nD Cert.Kernel3Ideal.τ).loc Cert.Kernel3Ideal.main_v59_8)) (v9 : (c : Dev Cert.Kernel3Ideal.nD) → Buf (Elt Ideal) ((c.tc : Thread Cert.Kernel3Ideal.nD Cert.Kernel3Ideal.τ).loc Cert.Kernel3Ideal.main_v59_9)) (v10 : (c : Dev Cert.Kernel3Ideal.nD) → Buf (Elt Ideal) ((c.tc : Thread Cert.Kernel3Ideal.nD Cert.Kernel3Ideal.τ).loc Cert.Kernel3Ideal.main_v59_14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v59_0) = v0 c
          ∧ r.2.mem ((c.tc : Thread Cert.Kernel3Ideal.nD Cert.Kernel3Ideal.τ).loc Cert.Kernel3Ideal.main_v59_1) = v1 c
          ∧ r.2.mem ((c.tc : Thread Cert.Kernel3Ideal.nD Cert.Kernel3Ideal.τ).loc Cert.Kernel3Ideal.main_v59_2) = v2 c
          ∧ r.2.mem ((c.tc : Thread Cert.Kernel3Ideal.nD Cert.Kernel3Ideal.τ).loc Cert.Kernel3Ideal.main_v59_3) = v3 c
          ∧ r.2.mem ((c.tc : Thread Cert.Kernel3Ideal.nD Cert.Kernel3Ideal.τ).loc Cert.Kernel3Ideal.main_v59_4) = v4 c
          ∧ r.2.mem ((c.tc : Thread Cert.Kernel3Ideal.nD Cert.Kernel3Ideal.τ).loc Cert.Kernel3Ideal.main_v59_5) = v5 c
          ∧ r.2.mem ((c.tc : Thread Cert.Kernel3Ideal.nD Cert.Kernel3Ideal.τ).loc Cert.Kernel3Ideal.main_v59_6) = v6 c
          ∧ r.2.mem ((c.tc : Thread Cert.Kernel3Ideal.nD Cert.Kernel3Ideal.τ).loc Cert.Kernel3Ideal.main_v59_7) = v7 c
          ∧ r.2.mem ((c.tc : Thread Cert.Kernel3Ideal.nD Cert.Kernel3Ideal.τ).loc Cert.Kernel3Ideal.main_v59_8) = v8 c
          ∧ r.2.mem ((c.tc : Thread Cert.Kernel3Ideal.nD Cert.Kernel3Ideal.τ).loc Cert.Kernel3Ideal.main_v59_9) = v9 c
          ∧ r.2.mem ((c.tc : Thread Cert.Kernel3Ideal.nD Cert.Kernel3Ideal.τ).loc Cert.Kernel3Ideal.main_v59_14) = v10 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v144) = v0 c
          ∧ r.2.mem ((c.tc : Thread Cert.Reference3Ideal.nD Cert.Reference3Ideal.τ).loc Cert.Reference3Ideal.main_v145) = v1 c
          ∧ r.2.mem ((c.tc : Thread Cert.Reference3Ideal.nD Cert.Reference3Ideal.τ).loc Cert.Reference3Ideal.main_v146) = v2 c
          ∧ r.2.mem ((c.tc : Thread Cert.Reference3Ideal.nD Cert.Reference3Ideal.τ).loc Cert.Reference3Ideal.main_v147) = v3 c
          ∧ r.2.mem ((c.tc : Thread Cert.Reference3Ideal.nD Cert.Reference3Ideal.τ).loc Cert.Reference3Ideal.main_v148) = v4 c
          ∧ r.2.mem ((c.tc : Thread Cert.Reference3Ideal.nD Cert.Reference3Ideal.τ).loc Cert.Reference3Ideal.main_v149) = v5 c
          ∧ r.2.mem ((c.tc : Thread Cert.Reference3Ideal.nD Cert.Reference3Ideal.τ).loc Cert.Reference3Ideal.main_v150) = v6 c
          ∧ r.2.mem ((c.tc : Thread Cert.Reference3Ideal.nD Cert.Reference3Ideal.τ).loc Cert.Reference3Ideal.main_v132) = v7 c
          ∧ r.2.mem ((c.tc : Thread Cert.Reference3Ideal.nD Cert.Reference3Ideal.τ).loc Cert.Reference3Ideal.main_v133) = v8 c
          ∧ r.2.mem ((c.tc : Thread Cert.Reference3Ideal.nD Cert.Reference3Ideal.τ).loc Cert.Reference3Ideal.main_v151) = v9 c
          ∧ r.2.mem ((c.tc : Thread Cert.Reference3Ideal.nD Cert.Reference3Ideal.τ).loc Cert.Reference3Ideal.main_v152) = v10 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v16_0)) (v1 : (c : Dev Cert.Kernel4Ideal.nD) → Buf (Elt Ideal) ((c.tc : Thread Cert.Kernel4Ideal.nD Cert.Kernel4Ideal.τ).loc Cert.Kernel4Ideal.main_v16_1)) (v2 : (c : Dev Cert.Kernel4Ideal.nD) → Buf (Elt Ideal) ((c.tc : Thread Cert.Kernel4Ideal.nD Cert.Kernel4Ideal.τ).loc Cert.Kernel4Ideal.main_v16_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16_0) = v0 c
          ∧ r.2.mem ((c.tc : Thread Cert.Kernel4Ideal.nD Cert.Kernel4Ideal.τ).loc Cert.Kernel4Ideal.main_v16_1) = v1 c
          ∧ r.2.mem ((c.tc : Thread Cert.Kernel4Ideal.nD Cert.Kernel4Ideal.τ).loc Cert.Kernel4Ideal.main_v16_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v99) = v0 c
          ∧ r.2.mem ((c.tc : Thread Cert.Reference4Ideal.nD Cert.Reference4Ideal.τ).loc Cert.Reference4Ideal.main_v100) = v1 c
          ∧ r.2.mem ((c.tc : Thread Cert.Reference4Ideal.nD Cert.Reference4Ideal.τ).loc Cert.Reference4Ideal.main_v101) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernel1 : Cert.Kernel1.Facts) (hKernel1Ideal : Cert.Kernel1Ideal.Facts) (hReference1Ideal : Cert.Reference1Ideal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel1 (hKernel1 := hKernel1)
    ∧ quiescent_Kernel1Ideal (hKernel1Ideal := hKernel1Ideal)
    ∧ quiescent_Reference1Ideal (hReference1Ideal := hReference1Ideal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel1_Kernel1Ideal
    ∧ algebraic_Kernel1Ideal_Reference1Ideal (hKernel1Ideal := hKernel1Ideal) (hReference1Ideal := hReference1Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel1.lean ====
abbrev S4x4096x1024 : Shape := ⟨3, ![4, 4096, 1024]⟩
abbrev S1x1024 : Shape := ⟨2, ![1, 1024]⟩
abbrev S1x1024x2568 : Shape := ⟨3, ![1, 1024, 2568]⟩
abbrev S1x8 : Shape := ⟨2, ![1, 8]⟩
abbrev S1x4x512 : Shape := ⟨3, ![1, 4, 512]⟩
abbrev S1x512 : Shape := ⟨2, ![1, 512]⟩
abbrev S1x8x64x64 : Shape := ⟨4, ![1, 8, 64, 64]⟩
abbrev S8x512 : Shape := ⟨2, ![8, 512]⟩
abbrev S8x128 : Shape := ⟨2, ![8, 128]⟩
abbrev S128x512 : Shape := ⟨2, ![128, 512]⟩
abbrev S1024x2568 : Shape := ⟨2, ![1024, 2568]⟩
abbrev S1024x8 : Shape := ⟨2, ![1024, 8]⟩
abbrev S_ : Shape := ⟨0, ![]⟩
abbrev S1024x128 : Shape := ⟨2, ![1024, 128]⟩
abbrev S1024x512 : Shape := ⟨2, ![1024, 512]⟩
abbrev S1024x1024 : Shape := ⟨2, ![1024, 1024]⟩
abbrev S1024x2688 : Shape := ⟨2, ![1024, 2688]⟩
abbrev S8x64x64 : Shape := ⟨3, ![8, 64, 64]⟩
abbrev S8x8 : Shape := ⟨2, ![8, 8]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S256x256 : Shape := ⟨2, ![256, 256]⟩
abbrev S256x512 : Shape := ⟨2, ![256, 512]⟩
abbrev S1x256x512 : Shape := ⟨3, ![1, 256, 512]⟩
abbrev S2x256x512 : Shape := ⟨3, ![2, 256, 512]⟩
abbrev S8 : Shape := ⟨1, ![8]⟩
abbrev S8x1 : Shape := ⟨2, ![8, 1]⟩
abbrev S4x512 : Shape := ⟨2, ![4, 512]⟩
abbrev S4x4096x512 : Shape := ⟨3, ![4, 4096, 512]⟩
abbrev S4x512x4112 : Shape := ⟨3, ![4, 512, 4112]⟩
abbrev S4x512x4096 : Shape := ⟨3, ![4, 512, 4096]⟩
abbrev S4x8x4096 : Shape := ⟨3, ![4, 8, 4096]⟩
abbrev S4x32x4096 : Shape := ⟨3, ![4, 32, 4096]⟩
abbrev S4x1x512 : Shape := ⟨3, ![4, 1, 512]⟩
abbrev S4x8x512 : Shape := ⟨3, ![4, 8, 512]⟩
abbrev S1x512x1024 : Shape := ⟨3, ![1, 512, 1024]⟩
abbrev S1x512x512 : Shape := ⟨3, ![1, 512, 512]⟩
abbrev S1x8x512 : Shape := ⟨3, ![1, 8, 512]⟩
abbrev S1x32x512 : Shape := ⟨3, ![1, 32, 512]⟩
abbrev S1x1x512 : Shape := ⟨3, ![1, 1, 512]⟩
abbrev S520x512 : Shape := ⟨2, ![520, 512]⟩
abbrev S16x512 : Shape := ⟨2, ![16, 512]⟩
abbrev S496x512 : Shape := ⟨2, ![496, 512]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S512x128 : Shape := ⟨2, ![512, 128]⟩
abbrev S32x512 : Shape := ⟨2, ![32, 512]⟩

abbrev nBuf : Space → Nat
  | .hbm => 81
  | .vmem => 42
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x2568, .f32⟩
  | .hbm, ⟨3, _⟩ => ⟨S1x8, .f32⟩
  | .hbm, ⟨4, _⟩ => ⟨S1x4x512, .f32⟩
  | .hbm, ⟨5, _⟩ => ⟨S1x512, .f32⟩
  | .hbm, ⟨6, _⟩ => ⟨S1x8x64x64, .f32⟩
  | .hbm, ⟨7, _⟩ => ⟨S1x512, .f32⟩
  | .hbm, ⟨8, _⟩ => ⟨S1x8x64x64, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S8x512, .f32⟩
  | .hbm, ⟨13, _⟩ => ⟨S8x512, .f32⟩
  | .hbm, ⟨14, _⟩ => ⟨S8x128, .f32⟩
  | .hbm, ⟨15, _⟩ => ⟨S128x512, .f32⟩
  | .hbm, ⟨16, _⟩ => ⟨S128x512, .f32⟩
  | .hbm, ⟨17, _⟩ => ⟨S1024x2568, .f32⟩
  | .hbm, ⟨18, _⟩ => ⟨S1024x8, .f32⟩
  | .hbm, ⟨19, _⟩ => ⟨S_, .i32⟩
  | .hbm, ⟨20, _⟩ => ⟨S_, .f32⟩
  | .hbm, ⟨21, _⟩ => ⟨S1024x128, .f32⟩
  | .hbm, ⟨22, _⟩ => ⟨S1024x512, .f32⟩
  | .hbm, ⟨23, _⟩ => ⟨S_, .f32⟩
  | .hbm, ⟨24, _⟩ => ⟨S1024x512, .f32⟩
  | .hbm, ⟨25, _⟩ => ⟨S1024x512, .f32⟩
  | .hbm, ⟨26, _⟩ => ⟨S1024x1024, .f32⟩
  | .hbm, ⟨27, _⟩ => ⟨S1024x1024, .f32⟩
  | .hbm, ⟨28, _⟩ => ⟨S1024x2688, .f32⟩
  | .hbm, ⟨29, _⟩ => ⟨S1024x2688, .bf16⟩
  | .hbm, ⟨30, _⟩ => ⟨S8x64x64, .f32⟩
  | .hbm, ⟨31, _⟩ => ⟨S8x8, .i32⟩
  | .hbm, ⟨32, _⟩ => ⟨S8x8, .i32⟩
  | .hbm, ⟨33, _⟩ => ⟨S_, .i32⟩
  | .hbm, ⟨34, _⟩ => ⟨S8x8, .i32⟩
  | .hbm, ⟨35, _⟩ => ⟨S8x8, .i32⟩
  | .hbm, ⟨36, _⟩ => ⟨S8x8, .i1⟩
  | .hbm, ⟨37, _⟩ => ⟨S8x8, .f32⟩
  | .hbm, ⟨38, _⟩ => ⟨S8x1x8x1, .f32⟩
  | .hbm, ⟨39, _⟩ => ⟨S8x64x1x64, .f32⟩
  | .hbm, ⟨40, _⟩ => ⟨S8x64x8x64, .f32⟩
  | .hbm, ⟨41, _⟩ => ⟨S8x64x8x64, .f32⟩
  | .hbm, ⟨42, _⟩ => ⟨S8x64x8x64, .f32⟩
  | .hbm, ⟨43, _⟩ => ⟨S512x512, .f32⟩
  | .hbm, ⟨44, _⟩ => ⟨S8x64x64, .f32⟩
  | .hbm, ⟨45, _⟩ => ⟨S8x8, .i32⟩
  | .hbm, ⟨46, _⟩ => ⟨S8x8, .i32⟩
  | .hbm, ⟨47, _⟩ => ⟨S_, .i32⟩
  | .hbm, ⟨48, _⟩ => ⟨S8x8, .i32⟩
  | .hbm, ⟨49, _⟩ => ⟨S8x8, .i32⟩
  | .hbm, ⟨50, _⟩ => ⟨S8x8, .i1⟩
  | .hbm, ⟨51, _⟩ => ⟨S8x8, .f32⟩
  | .hbm, ⟨52, _⟩ => ⟨S8x1x8x1, .f32⟩
  | .hbm, ⟨53, _⟩ => ⟨S8x64x1x64, .f32⟩
  | .hbm, ⟨54, _⟩ => ⟨S8x64x8x64, .f32⟩
  | .hbm, ⟨55, _⟩ => ⟨S8x64x8x64, .f32⟩
  | .hbm, ⟨56, _⟩ => ⟨S8x64x8x64, .f32⟩
  | .hbm, ⟨57, _⟩ => ⟨S512x512, .f32⟩
  | .hbm, ⟨58, _⟩ => ⟨S256x256, .f32⟩
  | .hbm, ⟨59, _⟩ => ⟨S256x256, .f32⟩
  | .hbm, ⟨60, _⟩ => ⟨S256x512, .f32⟩
  | .hbm, ⟨61, _⟩ => ⟨S256x256, .f32⟩
  | .hbm, ⟨62, _⟩ => ⟨S256x256, .f32⟩
  | .hbm, ⟨63, _⟩ => ⟨S256x512, .f32⟩
  | .hbm, ⟨64, _⟩ => ⟨S1x256x512, .f32⟩
  | .hbm, ⟨65, _⟩ => ⟨S1x256x512, .f32⟩
  | .hbm, ⟨66, _⟩ => ⟨S2x256x512, .f32⟩
  | .hbm, ⟨67, _⟩ => ⟨S2x256x512, .bf16⟩
  | .hbm, ⟨68, _⟩ => ⟨S8, .f32⟩
  | .hbm, ⟨69, _⟩ => ⟨S8x1, .f32⟩
  | .hbm, ⟨70, _⟩ => ⟨S4x512, .f32⟩
  | .hbm, ⟨71, _⟩ => ⟨S4x4096x512, .bf16⟩
  | .hbm, ⟨72, _⟩ => ⟨S4x512x4112, .f32⟩
  | .hbm, ⟨73, _⟩ => ⟨S4x512x4112, .f32⟩
  | .hbm, ⟨74, _⟩ => ⟨S4x512x4096, .bf16⟩
  | .hbm, ⟨75, _⟩ => ⟨S4x4096x512, .bf16⟩
  | .hbm, ⟨76, _⟩ => ⟨S4x8x4096, .f32⟩
  | .hbm, ⟨77, _⟩ => ⟨S4x32x4096, .bf16⟩
  | .hbm, ⟨78, _⟩ => ⟨S4x4096x512, .bf16⟩
  | .hbm, ⟨79, _⟩ => ⟨S4x1x512, .f32⟩
  | .hbm, ⟨80, _⟩ => ⟨S4x8x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2688, .bf16⟩
  | .local _ .vmem, ⟨4, _⟩ => ⟨S8x1, .f32⟩
  | .local _ .vmem, ⟨5, _⟩ => ⟨S4x512, .f32⟩
  | .local _ .vmem, ⟨6, _⟩ => ⟨S1x512, .f32⟩
  | .local _ .vmem, ⟨7, _⟩ => ⟨S2x256x512, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S8x512, .f32⟩
  | .local _ .vmem, ⟨13, _⟩ => ⟨S8x512, .f32⟩
  | .local _ .vmem, ⟨14, _⟩ => ⟨S8x128, .f32⟩
  | .local _ .vmem, ⟨15, _⟩ => ⟨S128x512, .f32⟩
  | .local _ .vmem, ⟨16, _⟩ => ⟨S128x512, .f32⟩
  | .local _ .vmem, ⟨17, _⟩ => ⟨S1x512x512, .bf16⟩
  | .local _ .vmem, ⟨18, _⟩ => ⟨S1x512x512, .bf16⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x8x512, .f32⟩
  | .local _ .vmem, ⟨28, _⟩ => ⟨S1x8x512, .f32⟩
  | .local _ .vmem, ⟨29, _⟩ => ⟨S1x32x512, .bf16⟩
  | .local _ .vmem, ⟨30, _⟩ => ⟨S1x32x512, .bf16⟩
  | .local _ .vmem, ⟨31, _⟩ => ⟨S1x512x512, .bf16⟩
  | .local _ .vmem, ⟨32, _⟩ => ⟨S1x512x512, .bf16⟩
  | .local _ .vmem, ⟨33, _⟩ => ⟨S1x1x512, .f32⟩
  | .local _ .vmem, ⟨34, _⟩ => ⟨S1x1x512, .f32⟩
  | .local _ .vmem, ⟨35, _⟩ => ⟨S1x8x512, .f32⟩
  | .local _ .vmem, ⟨36, _⟩ => ⟨S1x8x512, .f32⟩
  | .local _ .vmem, ⟨37, _⟩ => ⟨S520x512, .f32⟩
  | .local _ .vmem, ⟨38, _⟩ => ⟨S1x512, .f32⟩
  | .local _ .vmem, ⟨39, _⟩ => ⟨S8x1, .f32⟩
  | .local _ .vmem, ⟨40, _⟩ => ⟨S16x512, .f32⟩
  | .local _ .vmem, ⟨41, _⟩ => ⟨S16x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_call0_v0 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c_0 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_1 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49_0 : Ref sig .tc := ⟨.hbm, 71, rfl⟩
abbrev main_v49_1 : Ref sig .tc := ⟨.hbm, 72, rfl⟩
abbrev main_v49_2 : Ref sig .tc := ⟨.hbm, 73, rfl⟩
abbrev main_v49_3 : Ref sig .tc := ⟨.hbm, 74, rfl⟩
abbrev main_v49_4 : Ref sig .tc := ⟨.hbm, 75, rfl⟩
abbrev main_v49_5 : Ref sig .tc := ⟨.hbm, 76, rfl⟩
abbrev main_v49_6 : Ref sig .tc := ⟨.hbm, 77, rfl⟩
abbrev main_v49_7 : Ref sig .tc := ⟨.hbm, 78, rfl⟩
abbrev main_v49_8 : Ref sig .tc := ⟨.hbm, 79, rfl⟩
abbrev main_v49_9 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_stg22_0 : Ref sig .tc := ⟨.vmem, 29, rfl⟩
abbrev cc0_stg22_1 : Ref sig .tc := ⟨.vmem, 30, rfl⟩
abbrev cc0_stg23_0 : Ref sig .tc := ⟨.vmem, 31, rfl⟩
abbrev cc0_stg23_1 : Ref sig .tc := ⟨.vmem, 32, rfl⟩
abbrev cc0_stg24_0 : Ref sig .tc := ⟨.vmem, 33, rfl⟩
abbrev cc0_stg24_1 : Ref sig .tc := ⟨.vmem, 34, rfl⟩
abbrev cc0_stg25_0 : Ref sig .tc := ⟨.vmem, 35, rfl⟩
abbrev cc0_stg25_1 : Ref sig .tc := ⟨.vmem, 36, rfl⟩
abbrev cc0_scratch0 : Ref sig .tc := ⟨.vmem, 37, rfl⟩
abbrev cc0_scratch1 : Ref sig .tc := ⟨.vmem, 38, rfl⟩
abbrev cc0_scratch2 : Ref sig .tc := ⟨.vmem, 39, rfl⟩
abbrev cc0_scratch3 : Ref sig .tc := ⟨.vmem, 40, rfl⟩
abbrev cc0_scratch4 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18
abbrev cc0_sem17_0 : DmaSem sig := 19
abbrev cc0_sem17_1 : DmaSem sig := 20
abbrev cc0_sem18_0 : DmaSem sig := 21
abbrev cc0_sem18_1 : DmaSem sig := 22
abbrev cc0_sem19_0 : DmaSem sig := 23
abbrev cc0_sem19_1 : DmaSem sig := 24
abbrev cc0_sem20_0 : DmaSem sig := 25
abbrev cc0_sem20_1 : DmaSem sig := 26
abbrev cc0_sem21_0 : DmaSem sig := 27
abbrev cc0_sem21_1 : DmaSem sig := 28
abbrev cc0_sem22_0 : DmaSem sig := 29
abbrev cc0_sem22_1 : DmaSem sig := 30
abbrev cc0_sem23_0 : DmaSem sig := 31
abbrev cc0_sem23_1 : DmaSem sig := 32
abbrev cc0_sem24_0 : DmaSem sig := 33
abbrev cc0_sem24_1 : DmaSem sig := 34
abbrev cc0_sem25_0 : DmaSem sig := 35
abbrev cc0_sem25_1 : DmaSem sig := 36

abbrev nD : Nat := 1
abbrev τ : Topo := Topo.v7x

variable {F : FTy → Type} [FloatOps F]

abbrev grid0 : Pipeline.Grid := ⟨2, ![4, 9], ![false, false]⟩

def k0_cond3 (i : grid0.Coords) : BitVec 1 :=
  let arg1 : BitVec 32 := BitVec.ofNat 32 (i 1).val
  let c8_i32_2 : BitVec 32 := 8#32
  let v6 : BitVec 1 := Scalar.cmpi .slt arg1 c8_i32_2
  let v7 : BitVec 32 := Scalar.extui v6
  let c0_i32_3 : BitVec 32 := 0#32
  let v8 : BitVec 1 := Scalar.cmpi .ne v7 c0_i32_3
  v8

def k0_cond2 (i : grid0.Coords) : BitVec 1 :=
  let arg1 : BitVec 32 := BitVec.ofNat 32 (i 1).val
  let c8_i32 : BitVec 32 := 8#32
  let v3 : BitVec 1 := Scalar.cmpi .eq arg1 c8_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, c0_i32.toNat, v0.toNat]

def cc0_transform_20 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_21 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, c0_i32.toNat, v0.toNat]

def cc0_transform_22 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, c0_i32.toNat, v0.toNat]

def cc0_transform_23 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S8x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x8x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x32x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x1x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, false]

abbrev stage0_25 : Fin 2 → Memref sig .tc .vmem S1x8x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, false]
-- ==== Reference1Ideal.lean ====
abbrev S4x4096x1024 : Shape := ⟨3, ![4, 4096, 1024]⟩
abbrev S1x1024 : Shape := ⟨2, ![1, 1024]⟩
abbrev S1x1024x2568 : Shape := ⟨3, ![1, 1024, 2568]⟩
abbrev S1x8 : Shape := ⟨2, ![1, 8]⟩
abbrev S1x4x512 : Shape := ⟨3, ![1, 4, 512]⟩
abbrev S1x512 : Shape := ⟨2, ![1, 512]⟩
abbrev S1x8x64x64 : Shape := ⟨4, ![1, 8, 64, 64]⟩
abbrev S8x512 : Shape := ⟨2, ![8, 512]⟩
abbrev S8x128 : Shape := ⟨2, ![8, 128]⟩
abbrev S128x512 : Shape := ⟨2, ![128, 512]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x2568 : Shape := ⟨2, ![1024, 2568]⟩
abbrev S4x4096x2568 : Shape := ⟨3, ![4, 4096, 2568]⟩
abbrev S4x4096x512 : Shape := ⟨3, ![4, 4096, 512]⟩
abbrev S4x4096x8 : Shape := ⟨3, ![4, 4096, 8]⟩
abbrev S8 : Shape := ⟨1, ![8]⟩
abbrev S1x1x8 : Shape := ⟨3, ![1, 1, 8]⟩
abbrev S16x512 : Shape := ⟨2, ![16, 512]⟩
abbrev S4x16x512 : Shape := ⟨3, ![4, 16, 512]⟩
abbrev S4x4112x512 : Shape := ⟨3, ![4, 4112, 512]⟩
abbrev S4x8x4096 : Shape := ⟨3, ![4, 8, 4096]⟩
abbrev S4x8x512 : Shape := ⟨3, ![4, 8, 512]⟩
abbrev S4x512x4112 : Shape := ⟨3, ![4, 512, 4112]⟩

abbrev nBuf : Space → Nat
  | .hbm => 72
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x2568, .f32⟩
  | .hbm, ⟨3, _⟩ => ⟨S1x8, .f32⟩
  | .hbm, ⟨4, _⟩ => ⟨S1x4x512, .f32⟩
  | .hbm, ⟨5, _⟩ => ⟨S1x512, .f32⟩
  | .hbm, ⟨6, _⟩ => ⟨S1x8x64x64, .f32⟩
  | .hbm, ⟨7, _⟩ => ⟨S1x512, .f32⟩
  | .hbm, ⟨8, _⟩ => ⟨S1x8x64x64, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S8x512, .f32⟩
  | .hbm, ⟨13, _⟩ => ⟨S8x512, .f32⟩
  | .hbm, ⟨14, _⟩ => ⟨S8x128, .f32⟩
  | .hbm, ⟨15, _⟩ => ⟨S128x512, .f32⟩
  | .hbm, ⟨16, _⟩ => ⟨S128x512, .f32⟩
  | .hbm, ⟨17, _⟩ => ⟨S1024, .f32⟩
  | .hbm, ⟨18, _⟩ => ⟨S4x4096x1024, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x1, .f32⟩
  | .hbm, ⟨29, _⟩ => ⟨S4x4096x1024, .f32⟩
  | .hbm, ⟨30, _⟩ => ⟨S4x4096x1024, .f32⟩
  | .hbm, ⟨31, _⟩ => ⟨S1x1x1024, .f32⟩
  | .hbm, ⟨32, _⟩ => ⟨S4x4096x1024, .f32⟩
  | .hbm, ⟨33, _⟩ => ⟨S4x4096x1024, .f32⟩
  | .hbm, ⟨34, _⟩ => ⟨S1024x2568, .f32⟩
  | .hbm, ⟨35, _⟩ => ⟨S4x4096x2568, .f32⟩
  | .hbm, ⟨36, _⟩ => ⟨S4x4096x512, .f32⟩
  | .hbm, ⟨37, _⟩ => ⟨S4x4096x512, .f32⟩
  | .hbm, ⟨38, _⟩ => ⟨S4x4096x512, .f32⟩
  | .hbm, ⟨39, _⟩ => ⟨S4x4096x8, .f32⟩
  | .hbm, ⟨40, _⟩ => ⟨S4x4096x512, .f32⟩
  | .hbm, ⟨41, _⟩ => ⟨S4x4096x512, .f32⟩
  | .hbm, ⟨42, _⟩ => ⟨S8, .f32⟩
  | .hbm, ⟨43, _⟩ => ⟨S1x1x8, .f32⟩
  | .hbm, ⟨44, _⟩ => ⟨S4x4096x8, .f32⟩
  | .hbm, ⟨45, _⟩ => ⟨S4x4096x8, .f32⟩
  | .hbm, ⟨46, _⟩ => ⟨S4x4096x8, .f32⟩
  | .hbm, ⟨47, _⟩ => ⟨S_, .f32⟩
  | .hbm, ⟨48, _⟩ => ⟨S4x4096x8, .f32⟩
  | .hbm, ⟨49, _⟩ => ⟨S4x4096x8, .f32⟩
  | .hbm, ⟨50, _⟩ => ⟨S4x4096x8, .f32⟩
  | .hbm, ⟨51, _⟩ => ⟨S4x4096x8, .f32⟩
  | .hbm, ⟨52, _⟩ => ⟨S4x4096x8, .i1⟩
  | .hbm, ⟨53, _⟩ => ⟨S4x4096x8, .f32⟩
  | .hbm, ⟨54, _⟩ => ⟨S4x4096x8, .f32⟩
  | .hbm, ⟨55, _⟩ => ⟨S4x4096x8, .f32⟩
  | .hbm, ⟨56, _⟩ => ⟨S4x4096x8, .f32⟩
  | .hbm, ⟨57, _⟩ => ⟨S4x4096x8, .f32⟩
  | .hbm, ⟨58, _⟩ => ⟨S4x4096x8, .f32⟩
  | .hbm, ⟨59, _⟩ => ⟨S4x4096x8, .f32⟩
  | .hbm, ⟨60, _⟩ => ⟨S4x4096x8, .f32⟩
  | .hbm, ⟨61, _⟩ => ⟨S4x4096x8, .f32⟩
  | .hbm, ⟨62, _⟩ => ⟨S16x512, .f32⟩
  | .hbm, ⟨63, _⟩ => ⟨S4x16x512, .f32⟩
  | .hbm, ⟨64, _⟩ => ⟨S4x4112x512, .f32⟩
  | .hbm, ⟨65, _⟩ => ⟨S16x512, .f32⟩
  | .hbm, ⟨66, _⟩ => ⟨S4x16x512, .f32⟩
  | .hbm, ⟨67, _⟩ => ⟨S4x4112x512, .f32⟩
  | .hbm, ⟨68, _⟩ => ⟨S4x8x4096, .f32⟩
  | .hbm, ⟨69, _⟩ => ⟨S4x8x512, .f32⟩
  | .hbm, ⟨70, _⟩ => ⟨S4x512x4112, .f32⟩
  | .hbm, ⟨71, _⟩ => ⟨S4x512x4112, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_call0_v0 : Ref sig .tc := ⟨.hbm, 46, rfl⟩
abbrev main_call0_call0_cst : Ref sig .tc := ⟨.hbm, 47, rfl⟩
abbrev main_call0_call0_v0 : Ref sig .tc := ⟨.hbm, 48, rfl⟩
abbrev main_call0_call0_v1 : Ref sig .tc := ⟨.hbm, 49, rfl⟩
abbrev main_call0_call0_v2 : Ref sig .tc := ⟨.hbm, 50, rfl⟩
abbrev main_call0_call0_v3 : Ref sig .tc := ⟨.hbm, 51, rfl⟩
abbrev main_call0_call0_v4 : Ref sig .tc := ⟨.hbm, 52, rfl⟩
abbrev main_call0_call0_v5 : Ref sig .tc := ⟨.hbm, 53, rfl⟩
abbrev main_call0_call0_v6 : Ref sig .tc := ⟨.hbm, 54, rfl⟩
abbrev main_call0_call0_v7 : Ref sig .tc := ⟨.hbm, 55, rfl⟩
abbrev main_call0_call0_v8 : Ref sig .tc := ⟨.hbm, 56, rfl⟩
abbrev main_call0_call0_v9 : Ref sig .tc := ⟨.hbm, 57, rfl⟩
abbrev main_call0_call0_v10 : Ref sig .tc := ⟨.hbm, 58, rfl⟩
abbrev main_call0_call0_v11 : Ref sig .tc := ⟨.hbm, 59, rfl⟩
abbrev main_call0_v1 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x4096x512 : Shape := ⟨3, ![4, 4096, 512]⟩
abbrev S1x512 : Shape := ⟨2, ![1, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S8x2816 : Shape := ⟨2, ![8, 2816]⟩
abbrev S1x512x1024 : Shape := ⟨3, ![1, 512, 1024]⟩
abbrev S512x1024 : Shape := ⟨2, ![512, 1024]⟩
abbrev S1024x5632 : Shape := ⟨2, ![1024, 5632]⟩
abbrev S2816x1024 : Shape := ⟨2, ![2816, 1024]⟩
abbrev S3x2816 : Shape := ⟨2, ![3, 2816]⟩
abbrev S4x8x2816 : Shape := ⟨3, ![4, 8, 2816]⟩
abbrev S1x512x512 : Shape := ⟨3, ![1, 512, 512]⟩
abbrev S1x8x2816 : Shape := ⟨3, ![1, 8, 2816]⟩
abbrev S520x2816 : Shape := ⟨2, ![520, 2816]⟩
abbrev S512x512 : Shape := ⟨2, ![512, 512]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩

abbrev nBuf : Space → Nat
  | .hbm => 26
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .bf16⟩
  | .hbm, ⟨3, _⟩ => ⟨S1x512, .f32⟩
  | .hbm, ⟨4, _⟩ => ⟨S1x1024x1024, .f32⟩
  | .hbm, ⟨5, _⟩ => ⟨S1x1024, .f32⟩
  | .hbm, ⟨6, _⟩ => ⟨S1x1024x5632, .f32⟩
  | .hbm, ⟨7, _⟩ => ⟨S1x3x2816, .f32⟩
  | .hbm, ⟨8, _⟩ => ⟨S1x2816, .f32⟩
  | .hbm, ⟨9, _⟩ => ⟨S1x2816x1024, .f32⟩
  | .hbm, ⟨10, _⟩ => ⟨S1024, .f32⟩
  | .hbm, ⟨11, _⟩ => ⟨S8x2816, .f32⟩
  | .hbm, ⟨12, _⟩ => ⟨S1x512x1024, .f32⟩
  | .hbm, ⟨13, _⟩ => ⟨S512x1024, .f32⟩
  | .hbm, ⟨14, _⟩ => ⟨S512x1024, .bf16⟩
  | .hbm, ⟨15, _⟩ => ⟨S1x512x1024, .f32⟩
  | .hbm, ⟨16, _⟩ => ⟨S512x1024, .f32⟩
  | .hbm, ⟨17, _⟩ => ⟨S512x1024, .bf16⟩
  | .hbm, ⟨18, _⟩ => ⟨S1024x5632, .f32⟩
  | .hbm, ⟨19, _⟩ => ⟨S1024x5632, .bf16⟩
  | .hbm, ⟨20, _⟩ => ⟨S2816x1024, .f32⟩
  | .hbm, ⟨21, _⟩ => ⟨S2816x1024, .bf16⟩
  | .hbm, ⟨22, _⟩ => ⟨S1x1024, .f32⟩
  | .hbm, ⟨23, _⟩ => ⟨S3x2816, .f32⟩
  | .hbm, ⟨24, _⟩ => ⟨S4x4096x1024, .f32⟩
  | .hbm, ⟨25, _⟩ => ⟨S4x8x2816, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .bf16⟩
  | .local _ .vmem, ⟨5, _⟩ => ⟨S1x512x512, .bf16⟩
  | .local _ .vmem, ⟨6, _⟩ => ⟨S1x512, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1024x5632, .bf16⟩
  | .local _ .vmem, ⟨11, _⟩ => ⟨S3x2816, .f32⟩
  | .local _ .vmem, ⟨12, _⟩ => ⟨S1x2816, .f32⟩
  | .local _ .vmem, ⟨13, _⟩ => ⟨S2816x1024, .bf16⟩
  | .local _ .vmem, ⟨14, _⟩ => ⟨S1x1024, .f32⟩
  | .local _ .vmem, ⟨15, _⟩ => ⟨S8x2816, .f32⟩
  | .local _ .vmem, ⟨16, _⟩ => ⟨S1x512x1024, .f32⟩
  | .local _ .vmem, ⟨17, _⟩ => ⟨S1x512x1024, .f32⟩
  | .local _ .vmem, ⟨18, _⟩ => ⟨S1x8x2816, .f32⟩
  | .local _ .vmem, ⟨19, _⟩ => ⟨S1x8x2816, .f32⟩
  | .local _ .vmem, ⟨20, _⟩ => ⟨S520x2816, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S8x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x2816 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== Reference2Ideal.lean ====
abbrev S4x4096x1024 : Shape := ⟨3, ![4, 4096, 1024]⟩
abbrev S4x4096x512 : Shape := ⟨3, ![4, 4096, 512]⟩
abbrev S1x512 : Shape := ⟨2, ![1, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S8x2816 : Shape := ⟨2, ![8, 2816]⟩
abbrev S512 : Shape := ⟨1, ![512]⟩
abbrev S_ : Shape := ⟨0, ![]⟩
abbrev S4x4096 : Shape := ⟨2, ![4, 4096]⟩
abbrev S4x4096x1 : Shape := ⟨3, ![4, 4096, 1]⟩
abbrev S1x1x512 : Shape := ⟨3, ![1, 1, 512]⟩
abbrev S1024x1024 : Shape := ⟨2, ![1024, 1024]⟩
abbrev S1x1x1024 : Shape := ⟨3, ![1, 1, 1024]⟩
abbrev S1024x5632 : Shape := ⟨2, ![1024, 5632]⟩
abbrev S4x4096x5632 : Shape := ⟨3, ![4, 4096, 5632]⟩
abbrev S4x4096x2816 : Shape := ⟨3, ![4, 4096, 2816]⟩
abbrev S2x2816 : Shape := ⟨2, ![2, 2816]⟩
abbrev S1x2x2816 : Shape := ⟨3, ![1, 2, 2816]⟩
abbrev S4x2x2816 : Shape := ⟨3, ![4, 2, 2816]⟩
abbrev S3x2816 : Shape := ⟨2, ![3, 2816]⟩
abbrev S2816 : Shape := ⟨1, ![2816]⟩
abbrev S4x4098x2816 : Shape := ⟨3, ![4, 4098, 2816]⟩
abbrev S1x1x2816 : Shape := ⟨3, ![1, 1, 2816]⟩
abbrev S2816x1024 : Shape := ⟨2, ![2816, 1024]⟩
abbrev S4x8x2816 : Shape := ⟨3, ![4, 8, 2816]⟩

abbrev nBuf : Space → Nat
  | .hbm => 125
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .bf16⟩
  | .hbm, ⟨3, _⟩ => ⟨S1x512, .f32⟩
  | .hbm, ⟨4, _⟩ => ⟨S1x1024x1024, .f32⟩
  | .hbm, ⟨5, _⟩ => ⟨S1x1024, .f32⟩
  | .hbm, ⟨6, _⟩ => ⟨S1x1024x5632, .f32⟩
  | .hbm, ⟨7, _⟩ => ⟨S1x3x2816, .f32⟩
  | .hbm, ⟨8, _⟩ => ⟨S1x2816, .f32⟩
  | .hbm, ⟨9, _⟩ => ⟨S1x2816x1024, .f32⟩
  | .hbm, ⟨10, _⟩ => ⟨S1024, .f32⟩
  | .hbm, ⟨11, _⟩ => ⟨S8x2816, .f32⟩
  | .hbm, ⟨12, _⟩ => ⟨S512, .f32⟩
  | .hbm, ⟨13, _⟩ => ⟨S4x4096x512, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x512, .f32⟩
  | .hbm, ⟨25, _⟩ => ⟨S4x4096x512, .f32⟩
  | .hbm, ⟨26, _⟩ => ⟨S1x1x512, .f32⟩
  | .hbm, ⟨27, _⟩ => ⟨S4x4096x512, .f32⟩
  | .hbm, ⟨28, _⟩ => ⟨S4x4096x512, .f32⟩
  | .hbm, ⟨29, _⟩ => ⟨S4x4096x512, .f32⟩
  | .hbm, ⟨30, _⟩ => ⟨S4x4096x1024, .f32⟩
  | .hbm, ⟨31, _⟩ => ⟨S1024x1024, .f32⟩
  | .hbm, ⟨32, _⟩ => ⟨S4x4096x1024, .f32⟩
  | .hbm, ⟨33, _⟩ => ⟨S4x4096x1024, .f32⟩
  | .hbm, ⟨34, _⟩ => ⟨S1024, .f32⟩
  | .hbm, ⟨35, _⟩ => ⟨S4x4096x1024, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S4x4096x1, .f32⟩
  | .hbm, ⟨46, _⟩ => ⟨S4x4096x1024, .f32⟩
  | .hbm, ⟨47, _⟩ => ⟨S4x4096x1024, .f32⟩
  | .hbm, ⟨48, _⟩ => ⟨S1x1x1024, .f32⟩
  | .hbm, ⟨49, _⟩ => ⟨S4x4096x1024, .f32⟩
  | .hbm, ⟨50, _⟩ => ⟨S4x4096x1024, .f32⟩
  | .hbm, ⟨51, _⟩ => ⟨S1024x5632, .f32⟩
  | .hbm, ⟨52, _⟩ => ⟨S4x4096x5632, .f32⟩
  | .hbm, ⟨53, _⟩ => ⟨S4x4096x2816, .f32⟩
  | .hbm, ⟨54, _⟩ => ⟨S4x4096x2816, .f32⟩
  | .hbm, ⟨55, _⟩ => ⟨S2x2816, .f32⟩
  | .hbm, ⟨56, _⟩ => ⟨S1x2x2816, .f32⟩
  | .hbm, ⟨57, _⟩ => ⟨S4x2x2816, .f32⟩
  | .hbm, ⟨58, _⟩ => ⟨S3x2816, .f32⟩
  | .hbm, ⟨59, _⟩ => ⟨S2816, .f32⟩
  | .hbm, ⟨60, _⟩ => ⟨S4x4098x2816, .f32⟩
  | .hbm, ⟨61, _⟩ => ⟨S1x2816, .f32⟩
  | .hbm, ⟨62, _⟩ => ⟨S2816, .f32⟩
  | .hbm, ⟨63, _⟩ => ⟨S4x4096x2816, .f32⟩
  | .hbm, ⟨64, _⟩ => ⟨S1x1x2816, .f32⟩
  | .hbm, ⟨65, _⟩ => ⟨S4x4096x2816, .f32⟩
  | .hbm, ⟨66, _⟩ => ⟨S4x4096x2816, .f32⟩
  | .hbm, ⟨67, _⟩ => ⟨S_, .f32⟩
  | .hbm, ⟨68, _⟩ => ⟨S4x4096x2816, .f32⟩
  | .hbm, ⟨69, _⟩ => ⟨S4x4096x2816, .f32⟩
  | .hbm, ⟨70, _⟩ => ⟨S1x2816, .f32⟩
  | .hbm, ⟨71, _⟩ => ⟨S2816, .f32⟩
  | .hbm, ⟨72, _⟩ => ⟨S4x4096x2816, .f32⟩
  | .hbm, ⟨73, _⟩ => ⟨S1x1x2816, .f32⟩
  | .hbm, ⟨74, _⟩ => ⟨S4x4096x2816, .f32⟩
  | .hbm, ⟨75, _⟩ => ⟨S4x4096x2816, .f32⟩
  | .hbm, ⟨76, _⟩ => ⟨S4x4096x2816, .f32⟩
  | .hbm, ⟨77, _⟩ => ⟨S1x2816, .f32⟩
  | .hbm, ⟨78, _⟩ => ⟨S2816, .f32⟩
  | .hbm, ⟨79, _⟩ => ⟨S4x4096x2816, .f32⟩
  | .hbm, ⟨80, _⟩ => ⟨S1x1x2816, .f32⟩
  | .hbm, ⟨81, _⟩ => ⟨S4x4096x2816, .f32⟩
  | .hbm, ⟨82, _⟩ => ⟨S4x4096x2816, .f32⟩
  | .hbm, ⟨83, _⟩ => ⟨S4x4096x2816, .f32⟩
  | .hbm, ⟨84, _⟩ => ⟨S1x1x2816, .f32⟩
  | .hbm, ⟨85, _⟩ => ⟨S4x4096x2816, .f32⟩
  | .hbm, ⟨86, _⟩ => ⟨S4x4096x2816, .f32⟩
  | .hbm, ⟨87, _⟩ => ⟨S4x4096x2816, .f32⟩
  | .hbm, ⟨88, _⟩ => ⟨S4x4096x2816, .f32⟩
  | .hbm, ⟨89, _⟩ => ⟨S_, .f32⟩
  | .hbm, ⟨90, _⟩ => ⟨S4x4096x2816, .f32⟩
  | .hbm, ⟨91, _⟩ => ⟨S4x4096x2816, .f32⟩
  | .hbm, ⟨92, _⟩ => ⟨S4x4096x2816, .f32⟩
  | .hbm, ⟨93, _⟩ => ⟨S_, .f32⟩
  | .hbm, ⟨94, _⟩ => ⟨S4x4096x2816, .f32⟩
  | .hbm, ⟨95, _⟩ => ⟨S4x4096x2816, .f32⟩
  | .hbm, ⟨96, _⟩ => ⟨S4x4096x2816, .f32⟩
  | .hbm, ⟨97, _⟩ => ⟨S_, .f32⟩
  | .hbm, ⟨98, _⟩ => ⟨S4x4096x2816, .f32⟩
  | .hbm, ⟨99, _⟩ => ⟨S4x4096x2816, .f32⟩
  | .hbm, ⟨100, _⟩ => ⟨S_, .f32⟩
  | .hbm, ⟨101, _⟩ => ⟨S4x4096x2816, .f32⟩
  | .hbm, ⟨102, _⟩ => ⟨S4x4096x2816, .f32⟩
  | .hbm, ⟨103, _⟩ => ⟨S4x4096x2816, .f32⟩
  | .hbm, ⟨104, _⟩ => ⟨S4x4096x2816, .f32⟩
  | .hbm, ⟨105, _⟩ => ⟨S2816x1024, .f32⟩
  | .hbm, ⟨106, _⟩ => ⟨S4x4096x1024, .f32⟩
  | .hbm, ⟨107, _⟩ => ⟨S4x4096x1024, .f32⟩
  | .hbm, ⟨108, _⟩ => ⟨S4x4096x1024, .f32⟩
  | .hbm, ⟨109, _⟩ => ⟨S_, .f32⟩
  | .hbm, ⟨110, _⟩ => ⟨S4x4096, .f32⟩
  | .hbm, ⟨111, _⟩ => ⟨S4x4096x1, .f32⟩
  | .hbm, ⟨112, _⟩ => ⟨S_, .f32⟩
  | .hbm, ⟨113, _⟩ => ⟨S4x4096x1, .f32⟩
  | .hbm, ⟨114, _⟩ => ⟨S4x4096x1, .f32⟩
  | .hbm, ⟨115, _⟩ => ⟨S_, .f32⟩
  | .hbm, ⟨116, _⟩ => ⟨S4x4096x1, .f32⟩
  | .hbm, ⟨117, _⟩ => ⟨S4x4096x1, .f32⟩
  | .hbm, ⟨118, _⟩ => ⟨S4x4096x1, .f32⟩
  | .hbm, ⟨119, _⟩ => ⟨S4x4096x1024, .f32⟩
  | .hbm, ⟨120, _⟩ => ⟨S4x4096x1024, .f32⟩
  | .hbm, ⟨121, _⟩ => ⟨S1x1x1024, .f32⟩
  | .hbm, ⟨122, _⟩ => ⟨S4x4096x1024, .f32⟩
  | .hbm, ⟨123, _⟩ => ⟨S4x4096x1024, .f32⟩
  | .hbm, ⟨124, _⟩ => ⟨S4x8x2816, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_5 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_6 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_7 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_8 : Ref sig .tc := ⟨.hbm, 97, rfl⟩
abbrev main_v76 : Ref sig .tc := ⟨.hbm, 98, rfl⟩
abbrev main_v77 : Ref sig .tc := ⟨.hbm, 99, rfl⟩
abbrev main_cst_9 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_10 : Ref sig .tc := ⟨.hbm, 109, rfl⟩
abbrev main_v86 : Ref sig .tc := ⟨.hbm, 110, rfl⟩
abbrev main_v87 : Ref sig .tc := ⟨.hbm, 111, rfl⟩
abbrev main_cst_11 : Ref sig .tc := ⟨.hbm, 112, rfl⟩
abbrev main_v88 : Ref sig .tc := ⟨.hbm, 113, rfl⟩
abbrev main_v89 : Ref sig .tc := ⟨.hbm, 114, rfl⟩
abbrev main_cst_12 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩

abbrev nD : Nat := 1
abbrev τ : Topo := Topo.v7x

variable {F : FTy → Type} [FloatOps F]
-- ==== Kernel3.lean ====
abbrev S16x1024 : Shape := ⟨2, ![16, 1024]⟩
abbrev S32x1x1024 : Shape := ⟨3, ![32, 1, 1024]⟩
abbrev S1x1024 : Shape := ⟨2, ![1, 1024]⟩
abbrev S1x1024x2568 : Shape := ⟨3, ![1, 1024, 2568]⟩
abbrev S1x8 : Shape := ⟨2, ![1, 8]⟩
abbrev S1x4x512 : Shape := ⟨3, ![1, 4, 512]⟩
abbrev S1x512 : Shape := ⟨2, ![1, 512]⟩
abbrev S1x8x64x64 : Shape := ⟨4, ![1, 8, 64, 64]⟩
abbrev S1x32x512 : Shape := ⟨3, ![1, 32, 512]⟩
abbrev S1x32x3x512 : Shape := ⟨4, ![1, 32, 3, 512]⟩
abbrev S1024x2568 : Shape := ⟨2, ![1024, 2568]⟩
abbrev S1024x8 : Shape := ⟨2, ![1024, 8]⟩
abbrev S_ : Shape := ⟨0, ![]⟩
abbrev S1024x128 : Shape := ⟨2, ![1024, 128]⟩
abbrev S1024x512 : Shape := ⟨2, ![1024, 512]⟩
abbrev S1024x1024 : Shape := ⟨2, ![1024, 1024]⟩
abbrev S1024x2688 : Shape := ⟨2, ![1024, 2688]⟩
abbrev S8x64x64 : Shape := ⟨3, ![8, 64, 64]⟩
abbrev S8x8 : Shape := ⟨2, ![8, 8]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S256x256 : Shape := ⟨2, ![256, 256]⟩
abbrev S256x512 : Shape := ⟨2, ![256, 512]⟩
abbrev S1x256x512 : Shape := ⟨3, ![1, 256, 512]⟩
abbrev S2x256x512 : Shape := ⟨3, ![2, 256, 512]⟩
abbrev S8 : Shape := ⟨1, ![8]⟩
abbrev S8x1 : Shape := ⟨2, ![8, 1]⟩
abbrev S112x1024 : Shape := ⟨2, ![112, 1024]⟩
abbrev S32x1024 : Shape := ⟨2, ![32, 1024]⟩
abbrev S160x1024 : Shape := ⟨2, ![160, 1024]⟩
abbrev S4x512 : Shape := ⟨2, ![4, 512]⟩
abbrev S32x512 : Shape := ⟨2, ![32, 512]⟩
abbrev S1x32x1x512 : Shape := ⟨4, ![1, 32, 1, 512]⟩
abbrev S32x8 : Shape := ⟨2, ![32, 8]⟩
abbrev S512x128 : Shape := ⟨2, ![512, 128]⟩
abbrev S128x512 : Shape := ⟨2, ![128, 512]⟩
abbrev S8x128 : Shape := ⟨2, ![8, 128]⟩
abbrev S32x128 : Shape := ⟨2, ![32, 128]⟩
abbrev S8x512 : Shape := ⟨2, ![8, 512]⟩
abbrev S160x512 : Shape := ⟨2, ![160, 512]⟩
abbrev S160 : Shape := ⟨1, ![160]⟩
abbrev S160x1 : Shape := ⟨2, ![160, 1]⟩
abbrev S160x2688 : Shape := ⟨2, ![160, 2688]⟩
abbrev S32x2688 : Shape := ⟨2, ![32, 2688]⟩
abbrev S32x256 : Shape := ⟨2, ![32, 256]⟩
abbrev S32 : Shape := ⟨1, ![32]⟩
abbrev S32x1 : Shape := ⟨2, ![32, 1]⟩
abbrev S128x2688 : Shape := ⟨2, ![128, 2688]⟩
abbrev S128x128 : Shape := ⟨2, ![128, 128]⟩
abbrev S16x512 : Shape := ⟨2, ![16, 512]⟩
abbrev S16x256 : Shape := ⟨2, ![16, 256]⟩
abbrev S16 : Shape := ⟨1, ![16]⟩
abbrev S16x1 : Shape := ⟨2, ![16, 1]⟩
abbrev S112x512 : Shape := ⟨2, ![112, 512]⟩
abbrev S1x128 : Shape := ⟨2, ![1, 128]⟩
abbrev S128 : Shape := ⟨1, ![128]⟩
abbrev S128x1 : Shape := ⟨2, ![128, 1]⟩

abbrev nBuf : Space → Nat
  | .hbm => 96
  | .vmem => 32
  | .smem => 0
  | _ => 0

abbrev bufTy : (tb : Table) → Fin (tcTables nBuf tb) → BufTy
  | .hbm, ⟨0, _⟩ => ⟨S16x1024, .f32⟩
  | .hbm, ⟨1, _⟩ => ⟨S32x1x1024, .f32⟩
  | .hbm, ⟨2, _⟩ => ⟨S1x1024, .f32⟩
  | .hbm, ⟨3, _⟩ => ⟨S1x1024x2568, .f32⟩
  | .hbm, ⟨4, _⟩ => ⟨S1x8, .f32⟩
  | .hbm, ⟨5, _⟩ => ⟨S1x4x512, .f32⟩
  | .hbm, ⟨6, _⟩ => ⟨S1x512, .f32⟩
  | .hbm, ⟨7, _⟩ => ⟨S1x8x64x64, .f32⟩
  | .hbm, ⟨8, _⟩ => ⟨S1x512, .f32⟩
  | .hbm, ⟨9, _⟩ => ⟨S1x8x64x64, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x32x512, .f32⟩
  | .hbm, ⟨14, _⟩ => ⟨S1x32x3x512, .f32⟩
  | .hbm, ⟨15, _⟩ => ⟨S1024x2568, .f32⟩
  | .hbm, ⟨16, _⟩ => ⟨S1024x8, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x512, .f32⟩
  | .hbm, ⟨21, _⟩ => ⟨S_, .f32⟩
  | .hbm, ⟨22, _⟩ => ⟨S1024x512, .f32⟩
  | .hbm, ⟨23, _⟩ => ⟨S1024x512, .f32⟩
  | .hbm, ⟨24, _⟩ => ⟨S1024x1024, .f32⟩
  | .hbm, ⟨25, _⟩ => ⟨S1024x1024, .f32⟩
  | .hbm, ⟨26, _⟩ => ⟨S1024x2688, .f32⟩
  | .hbm, ⟨27, _⟩ => ⟨S1024x2688, .bf16⟩
  | .hbm, ⟨28, _⟩ => ⟨S8x64x64, .f32⟩
  | .hbm, ⟨29, _⟩ => ⟨S8x8, .i32⟩
  | .hbm, ⟨30, _⟩ => ⟨S8x8, .i32⟩
  | .hbm, ⟨31, _⟩ => ⟨S_, .i32⟩
  | .hbm, ⟨32, _⟩ => ⟨S8x8, .i32⟩
  | .hbm, ⟨33, _⟩ => ⟨S8x8, .i32⟩
  | .hbm, ⟨34, _⟩ => ⟨S8x8, .i1⟩
  | .hbm, ⟨35, _⟩ => ⟨S8x8, .f32⟩
  | .hbm, ⟨36, _⟩ => ⟨S8x1x8x1, .f32⟩
  | .hbm, ⟨37, _⟩ => ⟨S8x64x1x64, .f32⟩
  | .hbm, ⟨38, _⟩ => ⟨S8x64x8x64, .f32⟩
  | .hbm, ⟨39, _⟩ => ⟨S8x64x8x64, .f32⟩
  | .hbm, ⟨40, _⟩ => ⟨S8x64x8x64, .f32⟩
  | .hbm, ⟨41, _⟩ => ⟨S512x512, .f32⟩
  | .hbm, ⟨42, _⟩ => ⟨S8x64x64, .f32⟩
  | .hbm, ⟨43, _⟩ => ⟨S8x8, .i32⟩
  | .hbm, ⟨44, _⟩ => ⟨S8x8, .i32⟩
  | .hbm, ⟨45, _⟩ => ⟨S_, .i32⟩
  | .hbm, ⟨46, _⟩ => ⟨S8x8, .i32⟩
  | .hbm, ⟨47, _⟩ => ⟨S8x8, .i32⟩
  | .hbm, ⟨48, _⟩ => ⟨S8x8, .i1⟩
  | .hbm, ⟨49, _⟩ => ⟨S8x8, .f32⟩
  | .hbm, ⟨50, _⟩ => ⟨S8x1x8x1, .f32⟩
  | .hbm, ⟨51, _⟩ => ⟨S8x64x1x64, .f32⟩
  | .hbm, ⟨52, _⟩ => ⟨S8x64x8x64, .f32⟩
  | .hbm, ⟨53, _⟩ => ⟨S8x64x8x64, .f32⟩
  | .hbm, ⟨54, _⟩ => ⟨S8x64x8x64, .f32⟩
  | .hbm, ⟨55, _⟩ => ⟨S512x512, .f32⟩
  | .hbm, ⟨56, _⟩ => ⟨S256x256, .f32⟩
  | .hbm, ⟨57, _⟩ => ⟨S256x256, .f32⟩
  | .hbm, ⟨58, _⟩ => ⟨S256x512, .f32⟩
  | .hbm, ⟨59, _⟩ => ⟨S256x256, .f32⟩
  | .hbm, ⟨60, _⟩ => ⟨S256x256, .f32⟩
  | .hbm, ⟨61, _⟩ => ⟨S256x512, .f32⟩
  | .hbm, ⟨62, _⟩ => ⟨S1x256x512, .f32⟩
  | .hbm, ⟨63, _⟩ => ⟨S1x256x512, .f32⟩
  | .hbm, ⟨64, _⟩ => ⟨S2x256x512, .f32⟩
  | .hbm, ⟨65, _⟩ => ⟨S2x256x512, .bf16⟩
  | .hbm, ⟨66, _⟩ => ⟨S8, .f32⟩
  | .hbm, ⟨67, _⟩ => ⟨S8x1, .f32⟩
  | .hbm, ⟨68, _⟩ => ⟨S_, .f32⟩
  | .hbm, ⟨69, _⟩ => ⟨S112x1024, .f32⟩
  | .hbm, ⟨70, _⟩ => ⟨S32x1024, .f32⟩
  | .hbm, ⟨71, _⟩ => ⟨S160x1024, .f32⟩
  | .hbm, ⟨72, _⟩ => ⟨S4x512, .f32⟩
  | .hbm, ⟨73, _⟩ => ⟨S32x512, .f32⟩
  | .hbm, ⟨74, _⟩ => ⟨S1x32x1x512, .f32⟩
  | .hbm, ⟨75, _⟩ => ⟨S32x512, .f32⟩
  | .hbm, ⟨76, _⟩ => ⟨S1x32x1x512, .f32⟩
  | .hbm, ⟨77, _⟩ => ⟨S32x512, .f32⟩
  | .hbm, ⟨78, _⟩ => ⟨S1x32x1x512, .f32⟩
  | .hbm, ⟨79, _⟩ => ⟨S32x512, .f32⟩
  | .hbm, ⟨80, _⟩ => ⟨S32x512, .f32⟩
  | .hbm, ⟨81, _⟩ => ⟨S32x512, .f32⟩
  | .hbm, ⟨82, _⟩ => ⟨S32x512, .f32⟩
  | .hbm, ⟨83, _⟩ => ⟨S32x8, .f32⟩
  | .hbm, ⟨84, _⟩ => ⟨S32x512, .f32⟩
  | .hbm, ⟨85, _⟩ => ⟨S32x512, .f32⟩
  | .hbm, ⟨86, _⟩ => ⟨S512x128, .f32⟩
  | .hbm, ⟨87, _⟩ => ⟨S128x512, .f32⟩
  | .hbm, ⟨88, _⟩ => ⟨S128x512, .f32⟩
  | .hbm, ⟨89, _⟩ => ⟨S8x128, .f32⟩
  | .hbm, ⟨90, _⟩ => ⟨S8x128, .f32⟩
  | .hbm, ⟨91, _⟩ => ⟨S32x128, .bf16⟩
  | .hbm, ⟨92, _⟩ => ⟨S128x512, .f32⟩
  | .hbm, ⟨93, _⟩ => ⟨S8x512, .f32⟩
  | .hbm, ⟨94, _⟩ => ⟨S8x512, .f32⟩
  | .hbm, ⟨95, _⟩ => ⟨S160x512, .f32⟩
  | .local _ .vmem, ⟨0, _⟩ => ⟨S160x1024, .f32⟩
  | .local _ .vmem, ⟨1, _⟩ => ⟨S1x1024, .f32⟩
  | .local _ .vmem, ⟨2, _⟩ => ⟨S1024x2688, .bf16⟩
  | .local _ .vmem, ⟨3, _⟩ => ⟨S8x1, .f32⟩
  | .local _ .vmem, ⟨4, _⟩ => ⟨S1x8, .f32⟩
  | .local _ .vmem, ⟨5, _⟩ => ⟨S4x512, .f32⟩
  | .local _ .vmem, ⟨6, _⟩ => ⟨S1x512, .f32⟩
  | .local _ .vmem, ⟨7, _⟩ => ⟨S2x256x512, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S32x512, .f32⟩
  | .local _ .vmem, ⟨13, _⟩ => ⟨S32x512, .f32⟩
  | .local _ .vmem, ⟨14, _⟩ => ⟨S32x512, .f32⟩
  | .local _ .vmem, ⟨15, _⟩ => ⟨S32x512, .f32⟩
  | .local _ .vmem, ⟨16, _⟩ => ⟨S32x512, .f32⟩
  | .local _ .vmem, ⟨17, _⟩ => ⟨S32x512, .f32⟩
  | .local _ .vmem, ⟨18, _⟩ => ⟨S32x512, .f32⟩
  | .local _ .vmem, ⟨19, _⟩ => ⟨S32x8, .f32⟩
  | .local _ .vmem, ⟨20, _⟩ => ⟨S32x512, .f32⟩
  | .local _ .vmem, ⟨21, _⟩ => ⟨S32x512, .f32⟩
  | .local _ .vmem, ⟨22, _⟩ => ⟨S512x128, .f32⟩
  | .local _ .vmem, ⟨23, _⟩ => ⟨S128x512, .f32⟩
  | .local _ .vmem, ⟨24, _⟩ => ⟨S128x512, .f32⟩
  | .local _ .vmem, ⟨25, _⟩ => ⟨S8x128, .f32⟩
  | .local _ .vmem, ⟨26, _⟩ => ⟨S8x128, .f32⟩
  | .local _ .vmem, ⟨27, _⟩ => ⟨S32x128, .bf16⟩
  | .local _ .vmem, ⟨28, _⟩ => ⟨S128x512, .f32⟩
  | .local _ .vmem, ⟨29, _⟩ => ⟨S8x512, .f32⟩
  | .local _ .vmem, ⟨30, _⟩ => ⟨S8x512, .f32⟩
  | .local _ .vmem, ⟨31, _⟩ => ⟨S160x512, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_call0_v0 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_1 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_2 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59_0 : Ref sig .tc := ⟨.hbm, 80, rfl⟩
abbrev main_v59_1 : Ref sig .tc := ⟨.hbm, 81, rfl⟩
abbrev main_v59_2 : Ref sig .tc := ⟨.hbm, 82, rfl⟩
abbrev main_v59_3 : Ref sig .tc := ⟨.hbm, 83, rfl⟩
abbrev main_v59_4 : Ref sig .tc := ⟨.hbm, 84, rfl⟩
abbrev main_v59_5 : Ref sig .tc := ⟨.hbm, 85, rfl⟩
abbrev main_v59_6 : Ref sig .tc := ⟨.hbm, 86, rfl⟩
abbrev main_v59_7 : Ref sig .tc := ⟨.hbm, 87, rfl⟩
abbrev main_v59_8 : Ref sig .tc := ⟨.hbm, 88, rfl⟩
abbrev main_v59_9 : Ref sig .tc := ⟨.hbm, 89, rfl⟩
abbrev main_v59_10 : Ref sig .tc := ⟨.hbm, 90, rfl⟩
abbrev main_v59_11 : Ref sig .tc := ⟨.hbm, 91, rfl⟩
abbrev main_v59_12 : Ref sig .tc := ⟨.hbm, 92, rfl⟩
abbrev main_v59_13 : Ref sig .tc := ⟨.hbm, 93, rfl⟩
abbrev main_v59_14 : Ref sig .tc := ⟨.hbm, 94, rfl⟩
abbrev main_v59_15 : Ref sig .tc := ⟨.hbm, 95, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31

abbrev nD : Nat := 1
abbrev τ : Topo := Topo.v7x

variable {F : FTy → Type} [FloatOps F]

abbrev grid0 : Pipeline.Grid := .none

abbrev stage0_0 : Fin 1 → Memref sig .tc .vmem S160x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S32x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S32x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S32x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S32x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S32x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S32x8 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S32x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S32x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S512x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S128x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S128x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S8x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S8x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S32x128 .bf16 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S128x512 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S8x512 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S8x512 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S160x512 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
-- ==== Reference3Ideal.lean ====
abbrev S16x1024 : Shape := ⟨2, ![16, 1024]⟩
abbrev S32x1x1024 : Shape := ⟨3, ![32, 1, 1024]⟩
abbrev S1x1024 : Shape := ⟨2, ![1, 1024]⟩
abbrev S1x1024x2568 : Shape := ⟨3, ![1, 1024, 2568]⟩
abbrev S1x8 : Shape := ⟨2, ![1, 8]⟩
abbrev S1x4x512 : Shape := ⟨3, ![1, 4, 512]⟩
abbrev S1x512 : Shape := ⟨2, ![1, 512]⟩
abbrev S1x8x64x64 : Shape := ⟨4, ![1, 8, 64, 64]⟩
abbrev S1x32x512 : Shape := ⟨3, ![1, 32, 512]⟩
abbrev S1x32x3x512 : Shape := ⟨4, ![1, 32, 3, 512]⟩
abbrev S1024 : Shape := ⟨1, ![1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S1024x2568 : Shape := ⟨2, ![1024, 2568]⟩
abbrev S32x1x2568 : Shape := ⟨3, ![32, 1, 2568]⟩
abbrev S32x1x512 : Shape := ⟨3, ![32, 1, 512]⟩
abbrev S32x1x8 : Shape := ⟨3, ![32, 1, 8]⟩
abbrev S8 : Shape := ⟨1, ![8]⟩
abbrev S1x1x8 : Shape := ⟨3, ![1, 1, 8]⟩
abbrev S32x3x512 : Shape := ⟨3, ![32, 3, 512]⟩
abbrev S4x512 : Shape := ⟨2, ![4, 512]⟩
abbrev S512 : Shape := ⟨1, ![512]⟩
abbrev S32x4x512 : Shape := ⟨3, ![32, 4, 512]⟩
abbrev S1x1x512 : Shape := ⟨3, ![1, 1, 512]⟩
abbrev S8x64x64 : Shape := ⟨3, ![8, 64, 64]⟩
abbrev S32x1x8x64 : Shape := ⟨4, ![32, 1, 8, 64]⟩
abbrev S8x64x32x1 : Shape := ⟨4, ![8, 64, 32, 1]⟩
abbrev S32x512 : Shape := ⟨2, ![32, 512]⟩
abbrev S112x1024 : Shape := ⟨2, ![112, 1024]⟩
abbrev S128x1024 : Shape := ⟨2, ![128, 1024]⟩
abbrev S128 : Shape := ⟨1, ![128]⟩
abbrev S128x1 : Shape := ⟨2, ![128, 1]⟩
abbrev S128x2568 : Shape := ⟨2, ![128, 2568]⟩
abbrev S128x512 : Shape := ⟨2, ![128, 512]⟩
abbrev S128x8 : Shape := ⟨2, ![128, 8]⟩
abbrev S32x8 : Shape := ⟨2, ![32, 8]⟩
abbrev S512x128 : Shape := ⟨2, ![512, 128]⟩
abbrev S8x128 : Shape := ⟨2, ![8, 128]⟩
abbrev S8x512 : Shape := ⟨2, ![8, 512]⟩

abbrev nBuf : Space → Nat
  | .hbm => 226
  | .vmem => 0
  | .smem => 0
  | _ => 0

abbrev hbmTy0_0 (i : Nat) : BufTy := match i % 128 with
  | 0 => ⟨S16x1024, .f32⟩
  | 1 => ⟨S32x1x1024, .f32⟩
  | 2 => ⟨S1x1024, .f32⟩
  | 3 => ⟨S1x1024x2568, .f32⟩
  | 4 => ⟨S1x8, .f32⟩
  | 5 => ⟨S1x4x512, .f32⟩
  | 6 => ⟨S1x512, .f32⟩
  | 7 => ⟨S1x8x64x64, .f32⟩
  | 8 => ⟨S1x512, .f32⟩
  | 9 => ⟨S1x8x64x64, .f32⟩
  | 10 => ⟨S1x512, .f32⟩
  | 11 => ⟨S1x512, .f32⟩
  | 12 => ⟨S1x512, .f32⟩
  | 13 => ⟨S1x32x512, .f32⟩
  | 14 => ⟨S1x32x3x512, .f32⟩
  | 15 => ⟨S1024, .f32⟩
  | 16 => ⟨S32x1x1024, .f32⟩
  | 17 => ⟨S_, .f32⟩
  | 18 => ⟨S32x1, .f32⟩
  | 19 => ⟨S32x1x1, .f32⟩
  | 20 => ⟨S_, .f32⟩
  | 21 => ⟨S32x1x1, .f32⟩
  | 22 => ⟨S32x1x1, .f32⟩
  | 23 => ⟨S_, .f32⟩
  | 24 => ⟨S32x1x1, .f32⟩
  | 25 => ⟨S32x1x1, .f32⟩
  | 26 => ⟨S32x1x1, .f32⟩
  | 27 => ⟨S32x1x1024, .f32⟩
  | 28 => ⟨S32x1x1024, .f32⟩
  | 29 => ⟨S1x1x1024, .f32⟩
  | 30 => ⟨S32x1x1024, .f32⟩
  | 31 => ⟨S32x1x1024, .f32⟩
  | 32 => ⟨S1024x2568, .f32⟩
  | 33 => ⟨S32x1x2568, .f32⟩
  | 34 => ⟨S32x1x512, .f32⟩
  | 35 => ⟨S32x1x512, .f32⟩
  | 36 => ⟨S32x1x512, .f32⟩
  | 37 => ⟨S32x1x8, .f32⟩
  | 38 => ⟨S32x1x512, .f32⟩
  | 39 => ⟨S32x1x512, .f32⟩
  | 40 => ⟨S8, .f32⟩
  | 41 => ⟨S1x1x8, .f32⟩
  | 42 => ⟨S32x1x8, .f32⟩
  | 43 => ⟨S32x1x8, .f32⟩
  | 44 => ⟨S32x1x8, .f32⟩
  | 45 => ⟨S_, .f32⟩
  | 46 => ⟨S32x1x8, .f32⟩
  | 47 => ⟨S32x1x8, .f32⟩
  | 48 => ⟨S32x1x8, .f32⟩
  | 49 => ⟨S32x1x8, .f32⟩
  | 50 => ⟨S32x1x8, .i1⟩
  | 51 => ⟨S32x1x8, .f32⟩
  | 52 => ⟨S32x1x8, .f32⟩
  | 53 => ⟨S32x1x8, .f32⟩
  | 54 => ⟨S32x1x8, .f32⟩
  | 55 => ⟨S32x1x8, .f32⟩
  | 56 => ⟨S32x1x8, .f32⟩
  | 57 => ⟨S32x1x8, .f32⟩
  | 58 => ⟨S32x1x8, .f32⟩
  | 59 => ⟨S32x1x8, .f32⟩
  | 60 => ⟨S32x3x512, .f32⟩
  | 61 => ⟨S4x512, .f32⟩
  | 62 => ⟨S512, .f32⟩
  | 63 => ⟨S32x4x512, .f32⟩
  | 64 => ⟨S1x512, .f32⟩
  | 65 => ⟨S512, .f32⟩
  | 66 => ⟨S32x1x512, .f32⟩
  | 67 => ⟨S1x1x512, .f32⟩
  | 68 => ⟨S32x1x512, .f32⟩
  | 69 => ⟨S32x1x512, .f32⟩
  | 70 => ⟨S_, .f32⟩
  | 71 => ⟨S32x1x512, .f32⟩
  | 72 => ⟨S32x1x512, .f32⟩
  | 73 => ⟨S1x512, .f32⟩
  | 74 => ⟨S512, .f32⟩
  | 75 => ⟨S32x1x512, .f32⟩
  | 76 => ⟨S1x1x512, .f32⟩
  | 77 => ⟨S32x1x512, .f32⟩
  | 78 => ⟨S32x1x512, .f32⟩
  | 79 => ⟨S32x1x512, .f32⟩
  | 80 => ⟨S1x512, .f32⟩
  | 81 => ⟨S512, .f32⟩
  | 82 => ⟨S32x1x512, .f32⟩
  | 83 => ⟨S1x1x512, .f32⟩
  | 84 => ⟨S32x1x512, .f32⟩
  | 85 => ⟨S32x1x512, .f32⟩
  | 86 => ⟨S32x1x512, .f32⟩
  | 87 => ⟨S1x512, .f32⟩
  | 88 => ⟨S512, .f32⟩
  | 89 => ⟨S32x1x512, .f32⟩
  | 90 => ⟨S1x1x512, .f32⟩
  | 91 => ⟨S32x1x512, .f32⟩
  | 92 => ⟨S32x1x512, .f32⟩
  | 93 => ⟨S32x1x512, .f32⟩
  | 94 => ⟨S1x1x512, .f32⟩
  | 95 => ⟨S32x1x512, .f32⟩
  | 96 => ⟨S32x1x512, .f32⟩
  | 97 => ⟨S8x64x64, .f32⟩
  | 98 => ⟨S512, .f32⟩
  | 99 => ⟨S32x1x8x64, .f32⟩
  | 100 => ⟨S8x64x32x1, .f32⟩
  | 101 => ⟨S32x1x8x64, .f32⟩
  | 102 => ⟨S32x1x512, .f32⟩
  | 103 => ⟨S1x1x512, .f32⟩
  | 104 => ⟨S32x1x512, .f32⟩
  | 105 => ⟨S32x1x512, .f32⟩
  | 106 => ⟨S32x1x512, .f32⟩
  | 107 => ⟨S32x1x512, .f32⟩
  | 108 => ⟨S_, .f32⟩
  | 109 => ⟨S32x1x512, .f32⟩
  | 110 => ⟨S32x1x512, .f32⟩
  | 111 => ⟨S_, .f32⟩
  | 112 => ⟨S32x1x512, .f32⟩
  | 113 => ⟨S32x1x512, .f32⟩
  | 114 => ⟨S8x64x64, .f32⟩
  | 115 => ⟨S512, .f32⟩
  | 116 => ⟨S32x1x8x64, .f32⟩
  | 117 => ⟨S8x64x32x1, .f32⟩
  | 118 => ⟨S32x1x8x64, .f32⟩
  | 119 => ⟨S32x1x512, .f32⟩
  | 120 => ⟨S1x1x512, .f32⟩
  | 121 => ⟨S32x1x512, .f32⟩
  | 122 => ⟨S32x1x512, .f32⟩
  | 123 => ⟨S32x1x512, .f32⟩
  | 124 => ⟨S32x1x512, .f32⟩
  | 125 => ⟨S_, .f32⟩
  | 126 => ⟨S32x1x512, .f32⟩
  | 127 => ⟨S32x1x512, .f32⟩
  | _ => ⟨S16x1024, .f32⟩

abbrev hbmTy0_1 (i : Nat) : BufTy := match i % 128 with
  | 0 => ⟨S_, .f32⟩
  | 1 => ⟨S32x1x512, .f32⟩
  | 2 => ⟨S32x1x512, .f32⟩
  | 3 => ⟨S_, .f32⟩
  | 4 => ⟨S32x1x512, .f32⟩
  | 5 => ⟨S32x1x512, .f32⟩
  | 6 => ⟨S512, .f32⟩
  | 7 => ⟨S512, .f32⟩
  | 8 => ⟨S_, .f32⟩
  | 9 => ⟨S512, .f32⟩
  | 10 => ⟨S512, .f32⟩
  | 11 => ⟨S512, .f32⟩
  | 12 => ⟨S512, .f32⟩
  | 13 => ⟨S512, .i1⟩
  | 14 => ⟨S512, .f32⟩
  | 15 => ⟨S512, .f32⟩
  | 16 => ⟨S512, .f32⟩
  | 17 => ⟨S512, .f32⟩
  | 18 => ⟨S512, .f32⟩
  | 19 => ⟨S512, .f32⟩
  | 20 => ⟨S512, .f32⟩
  | 21 => ⟨S512, .f32⟩
  | 22 => ⟨S1x1x512, .f32⟩
  | 23 => ⟨S32x1x512, .f32⟩
  | 24 => ⟨S32x1x512, .f32⟩
  | 25 => ⟨S32x1x512, .f32⟩
  | 26 => ⟨S_, .f32⟩
  | 27 => ⟨S32x1x512, .f32⟩
  | 28 => ⟨S32x1x512, .f32⟩
  | 29 => ⟨S32x1x512, .f32⟩
  | 30 => ⟨S32x1x512, .f32⟩
  | 31 => ⟨S32x1x512, .f32⟩
  | 32 => ⟨S32x1x512, .f32⟩
  | 33 => ⟨S32x1x512, .f32⟩
  | 34 => ⟨S32x512, .f32⟩
  | 35 => ⟨S32x1x512, .f32⟩
  | 36 => ⟨S32x1x512, .f32⟩
  | 37 => ⟨S32x1x512, .f32⟩
  | 38 => ⟨S_, .f32⟩
  | 39 => ⟨S112x1024, .f32⟩
  | 40 => ⟨S128x1024, .f32⟩
  | 41 => ⟨S1024, .f32⟩
  | 42 => ⟨S128x1024, .f32⟩
  | 43 => ⟨S_, .f32⟩
  | 44 => ⟨S128, .f32⟩
  | 45 => ⟨S128x1, .f32⟩
  | 46 => ⟨S_, .f32⟩
  | 47 => ⟨S128x1, .f32⟩
  | 48 => ⟨S128x1, .f32⟩
  | 49 => ⟨S_, .f32⟩
  | 50 => ⟨S128x1, .f32⟩
  | 51 => ⟨S128x1, .f32⟩
  | 52 => ⟨S128x1, .f32⟩
  | 53 => ⟨S128x1024, .f32⟩
  | 54 => ⟨S128x1024, .f32⟩
  | 55 => ⟨S1x1024, .f32⟩
  | 56 => ⟨S128x1024, .f32⟩
  | 57 => ⟨S128x1024, .f32⟩
  | 58 => ⟨S1024x2568, .f32⟩
  | 59 => ⟨S128x2568, .f32⟩
  | 60 => ⟨S128x512, .f32⟩
  | 61 => ⟨S128x512, .f32⟩
  | 62 => ⟨S128x512, .f32⟩
  | 63 => ⟨S128x8, .f32⟩
  | 64 => ⟨S128x512, .f32⟩
  | 65 => ⟨S128x512, .f32⟩
  | 66 => ⟨S8, .f32⟩
  | 67 => ⟨S1x8, .f32⟩
  | 68 => ⟨S128x8, .f32⟩
  | 69 => ⟨S128x8, .f32⟩
  | 70 => ⟨S128x8, .f32⟩
  | 71 => ⟨S_, .f32⟩
  | 72 => ⟨S128x8, .f32⟩
  | 73 => ⟨S128x8, .f32⟩
  | 74 => ⟨S128x8, .f32⟩
  | 75 => ⟨S128x8, .f32⟩
  | 76 => ⟨S128x8, .i1⟩
  | 77 => ⟨S128x8, .f32⟩
  | 78 => ⟨S128x8, .f32⟩
  | 79 => ⟨S128x8, .f32⟩
  | 80 => ⟨S128x8, .f32⟩
  | 81 => ⟨S128x8, .f32⟩
  | 82 => ⟨S128x8, .f32⟩
  | 83 => ⟨S128x8, .f32⟩
  | 84 => ⟨S128x8, .f32⟩
  | 85 => ⟨S128x8, .f32⟩
  | 86 => ⟨S32x512, .f32⟩
  | 87 => ⟨S_, .f32⟩
  | 88 => ⟨S32x512, .f32⟩
  | 89 => ⟨S32x512, .f32⟩
  | 90 => ⟨S32x512, .f32⟩
  | 91 => ⟨S32x512, .f32⟩
  | 92 => ⟨S32x8, .f32⟩
  | 93 => ⟨S32x512, .f32⟩
  | 94 => ⟨S32x512, .f32⟩
  | 95 => ⟨S512x128, .f32⟩
  | 96 => ⟨S8x128, .f32⟩
  | 97 => ⟨S8x512, .f32⟩
  | _ => ⟨S16x1024, .f32⟩

abbrev hbmTy (i : Nat) : BufTy := match i / 128 with
  | 0 => hbmTy0_0 i
  | 1 => hbmTy0_1 i
  | _ => ⟨S16x1024, .f32⟩

abbrev bufTy : (tb : Table) → Fin (tcTables nBuf tb) → BufTy
  | .hbm, ⟨i, _⟩ => hbmTy i
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_call0_v0 : Ref sig .tc := ⟨.hbm, 44, rfl⟩
abbrev main_call0_call0_cst : Ref sig .tc := ⟨.hbm, 45, rfl⟩
abbrev main_call0_call0_v0 : Ref sig .tc := ⟨.hbm, 46, rfl⟩
abbrev main_call0_call0_v1 : Ref sig .tc := ⟨.hbm, 47, rfl⟩
abbrev main_call0_call0_v2 : Ref sig .tc := ⟨.hbm, 48, rfl⟩
abbrev main_call0_call0_v3 : Ref sig .tc := ⟨.hbm, 49, rfl⟩
abbrev main_call0_call0_v4 : Ref sig .tc := ⟨.hbm, 50, rfl⟩
abbrev main_call0_call0_v5 : Ref sig .tc := ⟨.hbm, 51, rfl⟩
abbrev main_call0_call0_v6 : Ref sig .tc := ⟨.hbm, 52, rfl⟩
abbrev main_call0_call0_v7 : Ref sig .tc := ⟨.hbm, 53, rfl⟩
abbrev main_call0_call0_v8 : Ref sig .tc := ⟨.hbm, 54, rfl⟩
abbrev main_call0_call0_v9 : Ref sig .tc := ⟨.hbm, 55, rfl⟩
abbrev main_call0_call0_v10 : Ref sig .tc := ⟨.hbm, 56, rfl⟩
abbrev main_call0_call0_v11 : Ref sig .tc := ⟨.hbm, 57, rfl⟩
abbrev main_call0_v1 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_2 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_3 : Ref sig .tc := ⟨.hbm, 108, rfl⟩
abbrev main_v74 : Ref sig .tc := ⟨.hbm, 109, rfl⟩
abbrev main_v75 : Ref sig .tc := ⟨.hbm, 110, rfl⟩
abbrev main_cst_4 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_5 : Ref sig .tc := ⟨.hbm, 125, rfl⟩
abbrev main_v89 : Ref sig .tc := ⟨.hbm, 126, rfl⟩
abbrev main_v90 : Ref sig .tc := ⟨.hbm, 127, rfl⟩
abbrev main_cst_6 : Ref sig .tc := ⟨.hbm, 128, rfl⟩
abbrev main_v91 : Ref sig .tc := ⟨.hbm, 129, rfl⟩
abbrev main_v92 : Ref sig .tc := ⟨.hbm, 130, rfl⟩
abbrev main_cst_7 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_call1_cst : Ref sig .tc := ⟨.hbm, 136, rfl⟩
abbrev main_call1_v0 : Ref sig .tc := ⟨.hbm, 137, rfl⟩
abbrev main_call1_v1 : Ref sig .tc := ⟨.hbm, 138, rfl⟩
abbrev main_call1_v2 : Ref sig .tc := ⟨.hbm, 139, rfl⟩
abbrev main_call1_v3 : Ref sig .tc := ⟨.hbm, 140, rfl⟩
abbrev main_call1_v4 : Ref sig .tc := ⟨.hbm, 141, rfl⟩
abbrev main_call1_v5 : Ref sig .tc := ⟨.hbm, 142, rfl⟩
abbrev main_call1_v6 : Ref sig .tc := ⟨.hbm, 143, rfl⟩
abbrev main_call1_v7 : Ref sig .tc := ⟨.hbm, 144, rfl⟩
abbrev main_call1_v8 : Ref sig .tc := ⟨.hbm, 145, rfl⟩
abbrev main_call1_v9 : Ref sig .tc := ⟨.hbm, 146, rfl⟩
abbrev main_call1_v10 : Ref sig .tc := ⟨.hbm, 147, rfl⟩
abbrev main_call1_v11 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_cst_8 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_cst_9 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_cst_10 : Ref sig .tc := ⟨.hbm, 171, rfl⟩
abbrev main_v117 : Ref sig .tc := ⟨.hbm, 172, rfl⟩
abbrev main_v118 : Ref sig .tc := ⟨.hbm, 173, rfl⟩
abbrev main_cst_11 : Ref sig .tc := ⟨.hbm, 174, rfl⟩
abbrev main_v119 : Ref sig .tc := ⟨.hbm, 175, rfl⟩
abbrev main_v120 : Ref sig .tc := ⟨.hbm, 176, rfl⟩
abbrev main_cst_12 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_call2_v0 : Ref sig .tc := ⟨.hbm, 198, rfl⟩
abbrev main_call2_call0_cst : Ref sig .tc := ⟨.hbm, 199, rfl⟩
abbrev main_call2_call0_v0 : Ref sig .tc := ⟨.hbm, 200, rfl⟩
abbrev main_call2_call0_v1 : Ref sig .tc := ⟨.hbm, 201, rfl⟩
abbrev main_call2_call0_v2 : Ref sig .tc := ⟨.hbm, 202, rfl⟩
abbrev main_call2_call0_v3 : Ref sig .tc := ⟨.hbm, 203, rfl⟩
abbrev main_call2_call0_v4 : Ref sig .tc := ⟨.hbm, 204, rfl⟩
abbrev main_call2_call0_v5 : Ref sig .tc := ⟨.hbm, 205, rfl⟩
abbrev main_call2_call0_v6 : Ref sig .tc := ⟨.hbm, 206, rfl⟩
abbrev main_call2_call0_v7 : Ref sig .tc := ⟨.hbm, 207, rfl⟩
abbrev main_call2_call0_v8 : Ref sig .tc := ⟨.hbm, 208, rfl⟩
abbrev main_call2_call0_v9 : Ref sig .tc := ⟨.hbm, 209, rfl⟩
abbrev main_call2_call0_v10 : Ref sig .tc := ⟨.hbm, 210, rfl⟩
abbrev main_call2_call0_v11 : Ref sig .tc := ⟨.hbm, 211, rfl⟩
abbrev main_call2_v1 : Ref sig .tc := ⟨.hbm, 212, rfl⟩
abbrev main_v141 : Ref sig .tc := ⟨.hbm, 213, rfl⟩
abbrev main_v142 : Ref sig .tc := ⟨.hbm, 214, rfl⟩
abbrev main_cst_13 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩

abbrev nD : Nat := 1
abbrev τ : Topo := Topo.v7x

variable {F : FTy → Type} [FloatOps F]
-- ==== Kernel4.lean ====
abbrev S160x1024 : Shape := ⟨2, ![160, 1024]⟩
abbrev S160x512 : Shape := ⟨2, ![160, 512]⟩
abbrev S1x512 : Shape := ⟨2, ![1, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S1x32x2x2816 : Shape := ⟨4, ![1, 32, 2, 2816]⟩
abbrev S1x512x1024 : Shape := ⟨3, ![1, 512, 1024]⟩
abbrev S512x1024 : Shape := ⟨2, ![512, 1024]⟩
abbrev S1024x5632 : Shape := ⟨2, ![1024, 5632]⟩
abbrev S2816x1024 : Shape := ⟨2, ![2816, 1024]⟩
abbrev S3x2816 : Shape := ⟨2, ![3, 2816]⟩
abbrev S1x32x1x2816 : Shape := ⟨4, ![1, 32, 1, 2816]⟩
abbrev S32x2816 : Shape := ⟨2, ![32, 2816]⟩
abbrev S32x1024 : Shape := ⟨2, ![32, 1024]⟩
abbrev S8x2816 : Shape := ⟨2, ![8, 2816]⟩
abbrev S160 : Shape := ⟨1, ![160]⟩
abbrev S160x1 : Shape := ⟨2, ![160, 1]⟩
abbrev S160x5632 : Shape := ⟨2, ![160, 5632]⟩
abbrev S160x2816 : Shape := ⟨2, ![160, 2816]⟩
abbrev S128x2816 : Shape := ⟨2, ![128, 2816]⟩
abbrev S32 : Shape := ⟨1, ![32]⟩
abbrev S32x1 : Shape := ⟨2, ![32, 1]⟩

abbrev nBuf : Space → Nat
  | .hbm => 31
  | .vmem => 17
  | .smem => 0
  | _ => 0

abbrev bufTy : (tb : Table) → Fin (tcTables nBuf tb) → BufTy
  | .hbm, ⟨0, _⟩ => ⟨S160x1024, .f32⟩
  | .hbm, ⟨1, _⟩ => ⟨S160x512, .f32⟩
  | .hbm, ⟨2, _⟩ => ⟨S160x512, .f32⟩
  | .hbm, ⟨3, _⟩ => ⟨S1x512, .f32⟩
  | .hbm, ⟨4, _⟩ => ⟨S1x1024x1024, .f32⟩
  | .hbm, ⟨5, _⟩ => ⟨S1x1024, .f32⟩
  | .hbm, ⟨6, _⟩ => ⟨S1x1024x5632, .f32⟩
  | .hbm, ⟨7, _⟩ => ⟨S1x3x2816, .f32⟩
  | .hbm, ⟨8, _⟩ => ⟨S1x2816, .f32⟩
  | .hbm, ⟨9, _⟩ => ⟨S1x2816x1024, .f32⟩
  | .hbm, ⟨10, _⟩ => ⟨S1024, .f32⟩
  | .hbm, ⟨11, _⟩ => ⟨S1x32x2x2816, .f32⟩
  | .hbm, ⟨12, _⟩ => ⟨S1x512x1024, .f32⟩
  | .hbm, ⟨13, _⟩ => ⟨S512x1024, .f32⟩
  | .hbm, ⟨14, _⟩ => ⟨S512x1024, .bf16⟩
  | .hbm, ⟨15, _⟩ => ⟨S1x512x1024, .f32⟩
  | .hbm, ⟨16, _⟩ => ⟨S512x1024, .f32⟩
  | .hbm, ⟨17, _⟩ => ⟨S512x1024, .bf16⟩
  | .hbm, ⟨18, _⟩ => ⟨S1024x5632, .f32⟩
  | .hbm, ⟨19, _⟩ => ⟨S1024x5632, .bf16⟩
  | .hbm, ⟨20, _⟩ => ⟨S2816x1024, .f32⟩
  | .hbm, ⟨21, _⟩ => ⟨S2816x1024, .bf16⟩
  | .hbm, ⟨22, _⟩ => ⟨S1x1024, .f32⟩
  | .hbm, ⟨23, _⟩ => ⟨S3x2816, .f32⟩
  | .hbm, ⟨24, _⟩ => ⟨S1x32x1x2816, .f32⟩
  | .hbm, ⟨25, _⟩ => ⟨S32x2816, .f32⟩
  | .hbm, ⟨26, _⟩ => ⟨S1x32x1x2816, .f32⟩
  | .hbm, ⟨27, _⟩ => ⟨S32x2816, .f32⟩
  | .hbm, ⟨28, _⟩ => ⟨S32x1024, .f32⟩
  | .hbm, ⟨29, _⟩ => ⟨S32x2816, .f32⟩
  | .hbm, ⟨30, _⟩ => ⟨S8x2816, .f32⟩
  | .local _ .vmem, ⟨0, _⟩ => ⟨S160x1024, .f32⟩
  | .local _ .vmem, ⟨1, _⟩ => ⟨S160x512, .f32⟩
  | .local _ .vmem, ⟨2, _⟩ => ⟨S160x512, .f32⟩
  | .local _ .vmem, ⟨3, _⟩ => ⟨S1x512, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1024x5632, .bf16⟩
  | .local _ .vmem, ⟨8, _⟩ => ⟨S3x2816, .f32⟩
  | .local _ .vmem, ⟨9, _⟩ => ⟨S1x2816, .f32⟩
  | .local _ .vmem, ⟨10, _⟩ => ⟨S2816x1024, .bf16⟩
  | .local _ .vmem, ⟨11, _⟩ => ⟨S1x1024, .f32⟩
  | .local _ .vmem, ⟨12, _⟩ => ⟨S32x2816, .f32⟩
  | .local _ .vmem, ⟨13, _⟩ => ⟨S32x2816, .f32⟩
  | .local _ .vmem, ⟨14, _⟩ => ⟨S32x1024, .f32⟩
  | .local _ .vmem, ⟨15, _⟩ => ⟨S32x2816, .f32⟩
  | .local _ .vmem, ⟨16, _⟩ => ⟨S8x2816, .f32⟩
  | _, _ => ⟨S160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v16_2 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S160x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S160x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S160x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x2816 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S32x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S32x2816 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S8x2816 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Reference4Ideal.lean ====
abbrev S160x1024 : Shape := ⟨2, ![160, 1024]⟩
abbrev S160x512 : Shape := ⟨2, ![160, 512]⟩
abbrev S1x512 : Shape := ⟨2, ![1, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S1x32x2x2816 : Shape := ⟨4, ![1, 32, 2, 2816]⟩
abbrev S512 : Shape := ⟨1, ![512]⟩
abbrev S_ : Shape := ⟨0, ![]⟩
abbrev S160 : Shape := ⟨1, ![160]⟩
abbrev S160x1 : Shape := ⟨2, ![160, 1]⟩
abbrev S1024x1024 : Shape := ⟨2, ![1024, 1024]⟩
abbrev S1024x5632 : Shape := ⟨2, ![1024, 5632]⟩
abbrev S160x5632 : Shape := ⟨2, ![160, 5632]⟩
abbrev S160x2816 : Shape := ⟨2, ![160, 2816]⟩
abbrev S32x2816 : Shape := ⟨2, ![32, 2816]⟩
abbrev S32x1x2816 : Shape := ⟨3, ![32, 1, 2816]⟩
abbrev S32x2x2816 : Shape := ⟨3, ![32, 2, 2816]⟩
abbrev S3x2816 : Shape := ⟨2, ![3, 2816]⟩
abbrev S2816 : Shape := ⟨1, ![2816]⟩
abbrev S32x3x2816 : Shape := ⟨3, ![32, 3, 2816]⟩
abbrev S1x1x2816 : Shape := ⟨3, ![1, 1, 2816]⟩
abbrev S2816x1024 : Shape := ⟨2, ![2816, 1024]⟩
abbrev S32x1024 : Shape := ⟨2, ![32, 1024]⟩
abbrev S32 : Shape := ⟨1, ![32]⟩
abbrev S32x1 : Shape := ⟨2, ![32, 1]⟩
abbrev S8x2816 : Shape := ⟨2, ![8, 2816]⟩

abbrev nBuf : Space → Nat
  | .hbm => 128
  | .vmem => 0
  | .smem => 0
  | _ => 0

abbrev bufTy : (tb : Table) → Fin (tcTables nBuf tb) → BufTy
  | .hbm, ⟨0, _⟩ => ⟨S160x1024, .f32⟩
  | .hbm, ⟨1, _⟩ => ⟨S160x512, .f32⟩
  | .hbm, ⟨2, _⟩ => ⟨S160x512, .f32⟩
  | .hbm, ⟨3, _⟩ => ⟨S1x512, .f32⟩
  | .hbm, ⟨4, _⟩ => ⟨S1x1024x1024, .f32⟩
  | .hbm, ⟨5, _⟩ => ⟨S1x1024, .f32⟩
  | .hbm, ⟨6, _⟩ => ⟨S1x1024x5632, .f32⟩
  | .hbm, ⟨7, _⟩ => ⟨S1x3x2816, .f32⟩
  | .hbm, ⟨8, _⟩ => ⟨S1x2816, .f32⟩
  | .hbm, ⟨9, _⟩ => ⟨S1x2816x1024, .f32⟩
  | .hbm, ⟨10, _⟩ => ⟨S1024, .f32⟩
  | .hbm, ⟨11, _⟩ => ⟨S1x32x2x2816, .f32⟩
  | .hbm, ⟨12, _⟩ => ⟨S512, .f32⟩
  | .hbm, ⟨13, _⟩ => ⟨S160x512, .f32⟩
  | .hbm, ⟨14, _⟩ => ⟨S_, .f32⟩
  | .hbm, ⟨15, _⟩ => ⟨S160, .f32⟩
  | .hbm, ⟨16, _⟩ => ⟨S160x1, .f32⟩
  | .hbm, ⟨17, _⟩ => ⟨S_, .f32⟩
  | .hbm, ⟨18, _⟩ => ⟨S160x1, .f32⟩
  | .hbm, ⟨19, _⟩ => ⟨S160x1, .f32⟩
  | .hbm, ⟨20, _⟩ => ⟨S_, .f32⟩
  | .hbm, ⟨21, _⟩ => ⟨S160x1, .f32⟩
  | .hbm, ⟨22, _⟩ => ⟨S160x1, .f32⟩
  | .hbm, ⟨23, _⟩ => ⟨S160x1, .f32⟩
  | .hbm, ⟨24, _⟩ => ⟨S160x512, .f32⟩
  | .hbm, ⟨25, _⟩ => ⟨S160x512, .f32⟩
  | .hbm, ⟨26, _⟩ => ⟨S1x512, .f32⟩
  | .hbm, ⟨27, _⟩ => ⟨S160x512, .f32⟩
  | .hbm, ⟨28, _⟩ => ⟨S160x512, .f32⟩
  | .hbm, ⟨29, _⟩ => ⟨S160x1024, .f32⟩
  | .hbm, ⟨30, _⟩ => ⟨S1024x1024, .f32⟩
  | .hbm, ⟨31, _⟩ => ⟨S160x1024, .f32⟩
  | .hbm, ⟨32, _⟩ => ⟨S160x1024, .f32⟩
  | .hbm, ⟨33, _⟩ => ⟨S1024, .f32⟩
  | .hbm, ⟨34, _⟩ => ⟨S160x1024, .f32⟩
  | .hbm, ⟨35, _⟩ => ⟨S_, .f32⟩
  | .hbm, ⟨36, _⟩ => ⟨S160, .f32⟩
  | .hbm, ⟨37, _⟩ => ⟨S160x1, .f32⟩
  | .hbm, ⟨38, _⟩ => ⟨S_, .f32⟩
  | .hbm, ⟨39, _⟩ => ⟨S160x1, .f32⟩
  | .hbm, ⟨40, _⟩ => ⟨S160x1, .f32⟩
  | .hbm, ⟨41, _⟩ => ⟨S_, .f32⟩
  | .hbm, ⟨42, _⟩ => ⟨S160x1, .f32⟩
  | .hbm, ⟨43, _⟩ => ⟨S160x1, .f32⟩
  | .hbm, ⟨44, _⟩ => ⟨S160x1, .f32⟩
  | .hbm, ⟨45, _⟩ => ⟨S160x1024, .f32⟩
  | .hbm, ⟨46, _⟩ => ⟨S160x1024, .f32⟩
  | .hbm, ⟨47, _⟩ => ⟨S1x1024, .f32⟩
  | .hbm, ⟨48, _⟩ => ⟨S160x1024, .f32⟩
  | .hbm, ⟨49, _⟩ => ⟨S160x1024, .f32⟩
  | .hbm, ⟨50, _⟩ => ⟨S1024x5632, .f32⟩
  | .hbm, ⟨51, _⟩ => ⟨S160x5632, .f32⟩
  | .hbm, ⟨52, _⟩ => ⟨S160x2816, .f32⟩
  | .hbm, ⟨53, _⟩ => ⟨S160x2816, .f32⟩
  | .hbm, ⟨54, _⟩ => ⟨S32x2816, .f32⟩
  | .hbm, ⟨55, _⟩ => ⟨S32x1x2816, .f32⟩
  | .hbm, ⟨56, _⟩ => ⟨S32x2x2816, .f32⟩
  | .hbm, ⟨57, _⟩ => ⟨S3x2816, .f32⟩
  | .hbm, ⟨58, _⟩ => ⟨S2816, .f32⟩
  | .hbm, ⟨59, _⟩ => ⟨S32x3x2816, .f32⟩
  | .hbm, ⟨60, _⟩ => ⟨S1x2816, .f32⟩
  | .hbm, ⟨61, _⟩ => ⟨S2816, .f32⟩
  | .hbm, ⟨62, _⟩ => ⟨S32x1x2816, .f32⟩
  | .hbm, ⟨63, _⟩ => ⟨S1x1x2816, .f32⟩
  | .hbm, ⟨64, _⟩ => ⟨S32x1x2816, .f32⟩
  | .hbm, ⟨65, _⟩ => ⟨S32x1x2816, .f32⟩
  | .hbm, ⟨66, _⟩ => ⟨S_, .f32⟩
  | .hbm, ⟨67, _⟩ => ⟨S32x1x2816, .f32⟩
  | .hbm, ⟨68, _⟩ => ⟨S32x1x2816, .f32⟩
  | .hbm, ⟨69, _⟩ => ⟨S1x2816, .f32⟩
  | .hbm, ⟨70, _⟩ => ⟨S2816, .f32⟩
  | .hbm, ⟨71, _⟩ => ⟨S32x1x2816, .f32⟩
  | .hbm, ⟨72, _⟩ => ⟨S1x1x2816, .f32⟩
  | .hbm, ⟨73, _⟩ => ⟨S32x1x2816, .f32⟩
  | .hbm, ⟨74, _⟩ => ⟨S32x1x2816, .f32⟩
  | .hbm, ⟨75, _⟩ => ⟨S32x1x2816, .f32⟩
  | .hbm, ⟨76, _⟩ => ⟨S1x2816, .f32⟩
  | .hbm, ⟨77, _⟩ => ⟨S2816, .f32⟩
  | .hbm, ⟨78, _⟩ => ⟨S32x1x2816, .f32⟩
  | .hbm, ⟨79, _⟩ => ⟨S1x1x2816, .f32⟩
  | .hbm, ⟨80, _⟩ => ⟨S32x1x2816, .f32⟩
  | .hbm, ⟨81, _⟩ => ⟨S32x1x2816, .f32⟩
  | .hbm, ⟨82, _⟩ => ⟨S32x1x2816, .f32⟩
  | .hbm, ⟨83, _⟩ => ⟨S1x1x2816, .f32⟩
  | .hbm, ⟨84, _⟩ => ⟨S32x1x2816, .f32⟩
  | .hbm, ⟨85, _⟩ => ⟨S32x1x2816, .f32⟩
  | .hbm, ⟨86, _⟩ => ⟨S32x2816, .f32⟩
  | .hbm, ⟨87, _⟩ => ⟨S32x2816, .f32⟩
  | .hbm, ⟨88, _⟩ => ⟨S32x2816, .f32⟩
  | .hbm, ⟨89, _⟩ => ⟨S_, .f32⟩
  | .hbm, ⟨90, _⟩ => ⟨S32x2816, .f32⟩
  | .hbm, ⟨91, _⟩ => ⟨S32x2816, .f32⟩
  | .hbm, ⟨92, _⟩ => ⟨S32x2816, .f32⟩
  | .hbm, ⟨93, _⟩ => ⟨S_, .f32⟩
  | .hbm, ⟨94, _⟩ => ⟨S32x2816, .f32⟩
  | .hbm, ⟨95, _⟩ => ⟨S32x2816, .f32⟩
  | .hbm, ⟨96, _⟩ => ⟨S32x2816, .f32⟩
  | .hbm, ⟨97, _⟩ => ⟨S_, .f32⟩
  | .hbm, ⟨98, _⟩ => ⟨S32x2816, .f32⟩
  | .hbm, ⟨99, _⟩ => ⟨S32x2816, .f32⟩
  | .hbm, ⟨100, _⟩ => ⟨S_, .f32⟩
  | .hbm, ⟨101, _⟩ => ⟨S32x2816, .f32⟩
  | .hbm, ⟨102, _⟩ => ⟨S32x2816, .f32⟩
  | .hbm, ⟨103, _⟩ => ⟨S32x2816, .f32⟩
  | .hbm, ⟨104, _⟩ => ⟨S32x2816, .f32⟩
  | .hbm, ⟨105, _⟩ => ⟨S32x2816, .f32⟩
  | .hbm, ⟨106, _⟩ => ⟨S2816x1024, .f32⟩
  | .hbm, ⟨107, _⟩ => ⟨S32x1024, .f32⟩
  | .hbm, ⟨108, _⟩ => ⟨S32x1024, .f32⟩
  | .hbm, ⟨109, _⟩ => ⟨S32x1024, .f32⟩
  | .hbm, ⟨110, _⟩ => ⟨S32x1024, .f32⟩
  | .hbm, ⟨111, _⟩ => ⟨S_, .f32⟩
  | .hbm, ⟨112, _⟩ => ⟨S32, .f32⟩
  | .hbm, ⟨113, _⟩ => ⟨S32x1, .f32⟩
  | .hbm, ⟨114, _⟩ => ⟨S_, .f32⟩
  | .hbm, ⟨115, _⟩ => ⟨S32x1, .f32⟩
  | .hbm, ⟨116, _⟩ => ⟨S32x1, .f32⟩
  | .hbm, ⟨117, _⟩ => ⟨S_, .f32⟩
  | .hbm, ⟨118, _⟩ => ⟨S32x1, .f32⟩
  | .hbm, ⟨119, _⟩ => ⟨S32x1, .f32⟩
  | .hbm, ⟨120, _⟩ => ⟨S32x1, .f32⟩
  | .hbm, ⟨121, _⟩ => ⟨S32x1024, .f32⟩
  | .hbm, ⟨122, _⟩ => ⟨S32x1024, .f32⟩
  | .hbm, ⟨123, _⟩ => ⟨S1x1024, .f32⟩
  | .hbm, ⟨124, _⟩ => ⟨S32x1024, .f32⟩
  | .hbm, ⟨125, _⟩ => ⟨S32x1024, .f32⟩
  | .hbm, ⟨126, _⟩ => ⟨S32x2816, .f32⟩
  | .hbm, ⟨127, _⟩ => ⟨S8x2816, .f32⟩
  | _, _ => ⟨S160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_5 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_6 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_7 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_8 : Ref sig .tc := ⟨.hbm, 97, rfl⟩
abbrev main_v76 : Ref sig .tc := ⟨.hbm, 98, rfl⟩
abbrev main_v77 : Ref sig .tc := ⟨.hbm, 99, rfl⟩
abbrev main_cst_9 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_10 : Ref sig .tc := ⟨.hbm, 111, rfl⟩
abbrev main_v88 : Ref sig .tc := ⟨.hbm, 112, rfl⟩
abbrev main_v89 : Ref sig .tc := ⟨.hbm, 113, rfl⟩
abbrev main_cst_11 : Ref sig .tc := ⟨.hbm, 114, rfl⟩
abbrev main_v90 : Ref sig .tc := ⟨.hbm, 115, rfl⟩
abbrev main_v91 : Ref sig .tc := ⟨.hbm, 116, rfl⟩
abbrev main_cst_12 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩

abbrev nD : Nat := 1
abbrev τ : Topo := Topo.v7x

variable {F : FTy → Type} [FloatOps F]
-- ==== Proof.FfnTile.lean ====
module

public import proofs.«01_k».proof.Proof.Gen.Kernel2Ideal.Value
public import proofs.«01_k».proof.Proof.Gen.Reference2Ideal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Kernel2Ideal.Ffn

open Cert.Kernel2Ideal Cert.Kernel2Ideal.Gen

variable (m : (ℓ : Loc nD τ sig) → Buf (Elt Ideal) ℓ) (c : Dev nD)

/-! ## The arguments and the reference's tensors over them -/

/-- The prompt's residual stream. -/
abbrev a0 : FVec Ideal S4x4096x1024 .f32 := m ((c : Thread nD τ).loc main_arg0)
/-- The attention's result. -/
abbrev a1 : FVec Ideal S4x4096x512 .f32 := m ((c : Thread nD τ).loc main_arg1)
/-- The normalised recurrence's result. -/
abbrev a2 : FVec Ideal S4x4096x512 .bf16 := m ((c : Thread nD τ).loc main_arg2)
/-- The attention's output norm. -/
abbrev a3 : FVec Ideal S1x512 .f32 := m ((c : Thread nD τ).loc main_arg3)
/-- The output projection. -/
abbrev a4 : FVec Ideal S1x1024x1024 .f32 := m ((c : Thread nD τ).loc main_arg4)
/-- The feed-forward norm. -/
abbrev a5 : FVec Ideal S1x1024 .f32 := m ((c : Thread nD τ).loc main_arg5)
/-- The up projection: gate and value halves side by side. -/
abbrev a6 : FVec Ideal S1x1024x5632 .f32 := m ((c : Thread nD τ).loc main_arg6)
/-- The gate convolution's three taps. -/
abbrev a7 : FVec Ideal S1x3x2816 .f32 := m ((c : Thread nD τ).loc main_arg7)
/-- The gate convolution's bias. -/
abbrev a8 : FVec Ideal S1x2816 .f32 := m ((c : Thread nD τ).loc main_arg8)
/-- The down projection. -/
abbrev a9 : FVec Ideal S1x2816x1024 .f32 := m ((c : Thread nD τ).loc main_arg9)
/-- The final norm. -/
abbrev a10 : FVec Ideal S1024 .f32 := m ((c : Thread nD τ).loc main_arg10)
/-- The gate rows before the prompt. -/
abbrev a11 : FVec Ideal S8x2816 .f32 := m ((c : Thread nD τ).loc main_arg11)

/-- The residual stream after the output projection, as the reference has it. -/
def X1 : FVec Ideal S4x4096x1024 .f32 :=
  Cert.Reference2Ideal.Read.val_main_v18 (F := Ideal) (a0 m c) (a1 m c) (a2 m c) (a3 m c) (a4 m c)

/-- Gate and value before the convolution, side by side, as the reference has them. -/
def UP : FVec Ideal Cert.Reference2Ideal.S4x4096x5632 .f32 :=
  Cert.Reference2Ideal.Read.val_main_v34 (F := Ideal) (a0 m c) (a1 m c) (a2 m c) (a3 m c) (a4 m c) (a5 m c) (a6 m c)

/-- The gate projection with the two rows before the prompt in front, as the reference has it. -/
def GX : FVec Ideal Cert.Reference2Ideal.S4x4098x2816 .f32 :=
  Cert.Reference2Ideal.Read.val_main_v42 (F := Ideal) (a0 m c) (a1 m c) (a2 m c) (a3 m c) (a4 m c) (a5 m c) (a6 m c) (a11 m c)

/-- The gate after the causal convolution, as the reference has it. -/
def CV : FVec Ideal Cert.Reference2Ideal.S4x4096x2816 .f32 :=
  Cert.Reference2Ideal.Read.val_main_v67 (F := Ideal) (a0 m c) (a1 m c) (a2 m c) (a3 m c) (a4 m c) (a5 m c) (a6 m c) (a7 m c)
    (a8 m c) (a11 m c)

/-- The reference's first result: the layer's output. -/
def YY : FVec Ideal S4x4096x1024 .f32 :=
  Cert.Reference2Ideal.Read.val_main_v97 (F := Ideal) (a0 m c) (a1 m c) (a2 m c) (a3 m c) (a4 m c) (a5 m c) (a6 m c) (a7 m c)
    (a8 m c) (a9 m c) (a10 m c) (a11 m c)

/-- The grid has 32 points. -/
theorem lt32 (t : Fin cfg0.N) : t.val < 32 := lt_of_lt_of_eq t.isLt N_0

/-- The batch entry point `t` works on. -/
abbrev bOf (t : Fin cfg0.N) : Fin 4 := ⟨t.val / 8, by have := lt32 t; omega⟩
/-- The time step of row `r` of point `t`'s tile. -/
abbrev tOf (t : Fin cfg0.N) (r : Fin 512) : Fin 4096 := ⟨t.val % 8 * 512 + r.val, by have := r.isLt; omega⟩

/-- Which block of each array a grid point works on. -/
theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] :=
  (by decide +kernel : ∀ t : Fin grid0.N, _)

/-- Row `r` of the tile's residual stream after the output projection is the reference's at that row's time step. -/
theorem x1_at (t : Fin cfg0.N) (r : Fin 512) (d : Fin 1024) :
    k0_pay3 (F := Ideal) (iblk m c 1 t) (iblk m c 3 t) (iblk m c 0 t) (iblk m c 4 t) (iblk m c 2 t) (iblk m c 5 t) (ix2 r d)
      = X1 m c (ix3 (bOf t) (tOf t r) d) := by
  open Cert.Reference2Ideal.Read in
  pointwise [k0_pay3, X1, val_main_v18, val_main_v17, val_main_v16, val_main_v15, val_main_v14, val_main_v13, val_main_v12,
    val_main_v11, val_main_v10, val_main_v9, val_main_v8, val_main_v7, val_main_v6, val_main_v5, val_main_v4, val_main_v3,
    val_main_v2, val_main_v1, val_main_v0, val_main_cst, val_main_cst_0, val_main_cst_1]
  rw [add_assoc]
  blk_point [iblk, V, idx t]

/-- Column `j` of the tile's gate projection is the reference's gate projection. -/
theorem gp_at (t : Fin cfg0.N) (w : Vec Ideal S1024x2816 .bf16) (hw : ∀ (k : Fin 1024) (j : Fin 2816), w (ix2 k j) = iblk m c 7 t (ix2 k ⟨j.val, by omega⟩))
    (r : Fin 512) (j : Fin 2816) :
    k0_pay6 (F := Ideal) (k0_pay3 (iblk m c 1 t) (iblk m c 3 t) (iblk m c 0 t) (iblk m c 4 t) (iblk m c 2 t) (iblk m c 5 t)) (iblk m c 6 t)
        (k0_pay4 (iblk m c 1 t) (iblk m c 3 t) (iblk m c 0 t) (iblk m c 4 t) (iblk m c 2 t) (iblk m c 5 t)) w (ix2 r j)
      = UP m c (ix3 (bOf t) (tOf t r) ⟨j.val, by omega⟩) := by
  open Cert.Reference2Ideal.Read in
  pointwise [k0_pay6, k0_pay5, k0_pay4, x1_at, hw, UP, val_main_v34, val_main_v33, val_main_v32, val_main_v31, val_main_v30,
    val_main_v29, val_main_v28, val_main_v27, val_main_v26, val_main_v25, val_main_v24, val_main_v23, val_main_v22,
    val_main_v21, val_main_v20, val_main_v19, val_main_cst_2, val_main_cst_3, val_main_cst_4]
  change _ = ∑ k : Fin 1024, X1 m c _ * _ * _ * _
  blk_point [iblk, V, idx t]

/-- Behind its first two rows the extended gate is the gate projection. -/
theorem gx_new (b : Fin 4) (i : Fin 4098) (j : Fin 2816) (h : 2 ≤ i.val) :
    GX m c (ix3 b i j) = UP m c (ix3 b ⟨i.val - 2, by omega⟩ ⟨j.val, by omega⟩) := by
  open Cert.Reference2Ideal.Read in
  pointwise [GX, val_main_v42, val_main_v35]
  rw [dif_neg (by omega)]
  rfl

/-- The extended gate's first two rows are the last two rows before the prompt. -/
theorem gx_old (b : Fin 4) (i : Fin 4098) (j : Fin 2816) (h : i.val < 2) :
    GX m c (ix3 b i j) = a11 m c (ix2 ⟨6 + i.val, by omega⟩ j) := by
  open Cert.Reference2Ideal.Read in
  pointwise [GX, val_main_v42, val_main_v39, val_main_v38, val_main_v37]
  rw [dif_pos h]

/-- The convolved gate of the tile, when the two shifted reads hold the extended gate one and two rows back. -/
theorem cv_at (t : Fin cfg0.N) (w : Vec Ideal S1024x2816 .bf16) (hw : ∀ (k : Fin 1024) (j : Fin 2816), w (ix2 k j) = iblk m c 7 t (ix2 k ⟨j.val, by omega⟩))
    (u2 u1 : Vec Ideal S512x2816 .f32)
    (h2 : ∀ (r : Fin 512) (j : Fin 2816), u2 (ix2 r j) = GX m c (ix3 (bOf t) ⟨t.val % 8 * 512 + r.val, by omega⟩ j))
    (h1 : ∀ (r : Fin 512) (j : Fin 2816), u1 (ix2 r j) = GX m c (ix3 (bOf t) ⟨t.val % 8 * 512 + r.val + 1, by omega⟩ j))
    (r : Fin 512) (j : Fin 2816) :
    k0_pay9 (F := Ideal) (k0_pay3 (iblk m c 1 t) (iblk m c 3 t) (iblk m c 0 t) (iblk m c 4 t) (iblk m c 2 t) (iblk m c 5 t)) (iblk m c 6 t)
        (k0_pay4 (iblk m c 1 t) (iblk m c 3 t) (iblk m c 0 t) (iblk m c 4 t) (iblk m c 2 t) (iblk m c 5 t)) w (iblk m c 8 t) (iblk m c 9 t)
        u2 u1 (ix2 r j)
      = CV m c (ix3 (bOf t) (tOf t r) j) := by
  have hfold : Cert.Reference2Ideal.Read.val_main_v42 (F := Ideal) (a0 m c) (a1 m c) (a2 m c) (a3 m c) (a4 m c) (a5 m c) (a6 m c) (a11 m c) = GX m c := rfl
  open Cert.Reference2Ideal.Read in
  pointwise [k0_pay9, gp_at m c t w hw, h2, h1, CV, val_main_v67, val_main_v66, val_main_v65, val_main_v64, val_main_v63, val_main_v62,
    val_main_v61, val_main_v60, val_main_v59, val_main_v58, val_main_v57, val_main_v56, val_main_v55, val_main_v54, val_main_v53,
    val_main_v52, val_main_v51, val_main_v50, val_main_v49, val_main_v48, val_main_v47, val_main_v46, val_main_v45, val_main_v44,
    val_main_v43, val_main_v41, val_main_v40, val_main_cst_5, hfold]
  rw [gx_new m c _ ⟨2 + (t.val % 8 * 512 + r.val), _⟩ j (Nat.le_add_right 2 _)]
  simp only [add_assoc]
  blk_point [iblk, V, idx t]

/-- The value half of the up projection: columns 2816 and on. -/
theorem val_at (t : Fin cfg0.N) (w : Vec Ideal S1024x2816 .bf16) (hw : ∀ (k : Fin 1024) (j : Fin 2816), w (ix2 k j) = iblk m c 7 t (ix2 k ⟨2816 + j.val, by omega⟩))
    (r : Fin 512) (j : Fin 2816) :
    k0_pay7 (F := Ideal) (k0_pay3 (iblk m c 1 t) (iblk m c 3 t) (iblk m c 0 t) (iblk m c 4 t) (iblk m c 2 t) (iblk m c 5 t)) (iblk m c 6 t)
        (k0_pay4 (iblk m c 1 t) (iblk m c 3 t) (iblk m c 0 t) (iblk m c 4 t) (iblk m c 2 t) (iblk m c 5 t)) w (ix2 r j)
      = UP m c (ix3 (bOf t) (tOf t r) ⟨2816 + j.val, by omega⟩) := by
  open Cert.Reference2Ideal.Read in
  pointwise [k0_pay7, k0_pay5, k0_pay4, x1_at, hw, UP, val_main_v34, val_main_v33, val_main_v32, val_main_v31, val_main_v30,
    val_main_v29, val_main_v28, val_main_v27, val_main_v26, val_main_v25, val_main_v24, val_main_v23, val_main_v22,
    val_main_v21, val_main_v20, val_main_v19, val_main_cst_2, val_main_cst_3, val_main_cst_4]
  change _ = ∑ k : Fin 1024, X1 m c _ * _ * _ * _
  blk_point [iblk, V, idx t]

/-- The tile's result is the reference's, from the residual stream, the value half and the convolved gate. -/
theorem y_at (t : Fin cfg0.N) (X : FVec Ideal S512x1024 .f32) (vv g g2 : FVec Ideal S512x2816 .f32)
    (hX : ∀ (r : Fin 512) (d : Fin 1024), X (ix2 r d) = X1 m c (ix3 (bOf t) (tOf t r) d))
    (hv : ∀ (r : Fin 512) (j : Fin 2816), vv (ix2 r j) = UP m c (ix3 (bOf t) (tOf t r) ⟨2816 + j.val, by omega⟩))
    (hg : ∀ (r : Fin 512) (j : Fin 2816), g (ix2 r j) = CV m c (ix3 (bOf t) (tOf t r) j))
    (hg2 : ∀ (r : Fin 512) (j : Fin 2816), g2 (ix2 r j) = CV m c (ix3 (bOf t) (tOf t r) j) * CV m c (ix3 (bOf t) (tOf t r) j))
    (r : Fin 512) (d : Fin 1024) :
    k0_pay1 (F := Ideal) (k0_pay13 X vv g g2 (iblk m c 10 t) (iblk m c 11 t)) (ix3 0 r d) = YY m c (ix3 (bOf t) (tOf t r) d) := by
  have h67 : Cert.Reference2Ideal.Read.val_main_v67 (F := Ideal) (a0 m c) (a1 m c) (a2 m c) (a3 m c) (a4 m c) (a5 m c) (a6 m c) (a7 m c)
    (a8 m c) (a11 m c) = CV m c := rfl
  have h34 : Cert.Reference2Ideal.Read.val_main_v34 (F := Ideal) (a0 m c) (a1 m c) (a2 m c) (a3 m c) (a4 m c) (a5 m c) (a6 m c) = UP m c := rfl
  have h18 : Cert.Reference2Ideal.Read.val_main_v18 (F := Ideal) (a0 m c) (a1 m c) (a2 m c) (a3 m c) (a4 m c) = X1 m c := rfl
  open Cert.Reference2Ideal.Read in
  pointwise [k0_pay1, k0_pay13, hX, hv, hg, hg2, YY, val_main_v97, val_main_v96, val_main_v95, val_main_v94, val_main_v93, val_main_v92,
    val_main_v91, val_main_v90, val_main_v89, val_main_v88, val_main_v87, val_main_v86, val_main_v85, val_main_v84, val_main_v83,
    val_main_v82, val_main_v81, val_main_v80, val_main_v79, val_main_v78, val_main_v77, val_main_v76, val_main_v75, val_main_v74,
    val_main_v73, val_main_v72, val_main_v71, val_main_v70, val_main_v69, val_main_v68, val_main_v36, val_main_cst_6, val_main_cst_7,
    val_main_cst_8, val_main_cst_9, val_main_cst_10, val_main_cst_11, val_main_cst_12, h67, h34, h18]
  blk_point [iblk, V, idx t]

end Cert.Kernel2Ideal.Ffn

end
-- ==== Proof.FfnFold.lean ====
module

public import proofs.«01_k».proof.Proof.FfnTile
public import Idealize.ShloMosaic.Lib.Pipeline.ValueKit
public import Idealize.ShloMosaic.Lib.Pipeline.ReadBack
public import Idealize.ShloMosaic.Lib.WritesUnit
public import Idealize.ShloMosaic.Lib.Pointwise

@[expose] public section

set_option maxRecDepth 16384

noncomputable section

open Idealize.ShloMosaic Idealize.ShloMosaic.TcCoe Idealize.SL.Sem

namespace Cert.Kernel2Ideal.Ffn

open Cert.Kernel2Ideal Cert.Kernel2Ideal.Gen

variable (m : (ℓ : Loc nD τ sig) → Buf (Elt Ideal) ℓ) (c : Dev nD)

/-- The state a grid point leaves: the result block, the block of gate rows, the carried scratch. -/
abbrev St := Vec Ideal S1x512x1024 .f32 × Vec Ideal S1x8x2816 .f32 × Vec Ideal S520x2816 .f32

/-- A scratch in which the last stored piece is the tile's gate rows (at row 8), read at a row of that piece. -/
theorem rd_new (f) (G : Vec Ideal S512x2816 .f32) (inb) (L) (r : Fin 520) (j : Fin 2816) (h : 8 ≤ r.val) :
    View.read (Elt Ideal) (View.whole cc0_scratch0) ((View.whole cc0_scratch0).writes (Elt Ideal) f
      (⟨Rect.unit (s := S520x2816) ![8, 0] ![512, 2816] inb, G⟩ :: L)) (ix2 r j) = G (ix2 ⟨r.val - 8, by omega⟩ j) :=
  View.read_writes_cons_rows_of_mem _ _ inb G L (ix2 r j) (ix2 ⟨r.val - 8, by omega⟩ j) rfl
    (by show r.val = 8 + (r.val - 8); omega) rfl

/-- Read above that piece, the scratch is as it was before. -/
theorem rd_old (f) (G : Vec Ideal S512x2816 .f32) (inb) (L) (r : Fin 520) (j : Fin 2816) (h : r.val < 8) :
    View.read (Elt Ideal) (View.whole cc0_scratch0) ((View.whole cc0_scratch0).writes (Elt Ideal) f
      (⟨Rect.unit (s := S520x2816) ![8, 0] ![512, 2816] inb, G⟩ :: L)) (ix2 r j)
      = View.read (Elt Ideal) (View.whole cc0_scratch0) ((View.whole cc0_scratch0).writes (Elt Ideal) f L) (ix2 r j) :=
  View.read_writes_cons_rows_of_not_mem _ _ inb G L (ix2 r j) rfl rfl (.inl h)

/-- A scratch in which the last stored piece is the eight rows at the top, read there. -/
theorem rd_top (f) (G : Vec Ideal S8x2816 .f32) (inb) (L) (r : Fin 520) (j : Fin 2816) (h : r.val < 8) :
    View.read (Elt Ideal) (View.whole cc0_scratch0) ((View.whole cc0_scratch0).writes (Elt Ideal) f
      (⟨Rect.unit (s := S520x2816) ![0, 0] ![8, 2816] inb, G⟩ :: L)) (ix2 r j) = G (ix2 ⟨r.val, h⟩ j) :=
  View.read_writes_cons_rows_of_mem _ _ inb G L (ix2 r j) (ix2 ⟨r.val, h⟩ j) rfl
    (by show r.val = 0 + r.val; omega) rfl

/-- The residual stream of the tile, its squares, and the gate rows it stores in the scratch. -/
abbrev xBlk (t : Fin cfg0.N) : FVec Ideal S512x1024 .f32 :=
  k0_pay3 (F := Ideal) (iblk m c 1 t) (iblk m c 3 t) (iblk m c 0 t) (iblk m c 4 t) (iblk m c 2 t) (iblk m c 5 t)
/-- Its squares. -/
abbrev xxBlk (t : Fin cfg0.N) : FVec Ideal S512x1024 .f32 :=
  k0_pay4 (F := Ideal) (iblk m c 1 t) (iblk m c 3 t) (iblk m c 0 t) (iblk m c 4 t) (iblk m c 2 t) (iblk m c 5 t)

/-- The rows the tile stores in the scratch are its gate projection. -/
theorem gs_at (t : Fin cfg0.N) (w : Vec Ideal S1024x2816 .bf16)
    (hw : ∀ (k : Fin 1024) (j : Fin 2816), w (ix2 k j) = iblk m c 7 t (ix2 k ⟨j.val, by omega⟩)) (r : Fin 512) (j : Fin 2816) :
    k0_pay8 (F := Ideal) (xBlk m c t) (iblk m c 6 t) (xxBlk m c t) w (ix2 r j)
      = UP m c (ix3 (bOf t) (tOf t r) ⟨j.val, by omega⟩) := by
  pointwise [k0_pay8]
  exact gp_at m c t w hw r j

/-- The square of the convolved gate. -/
theorem cv2_at (t : Fin cfg0.N) (w : Vec Ideal S1024x2816 .bf16)
    (hw : ∀ (k : Fin 1024) (j : Fin 2816), w (ix2 k j) = iblk m c 7 t (ix2 k ⟨j.val, by omega⟩))
    (u2 u1 : Vec Ideal S512x2816 .f32)
    (h2 : ∀ (r : Fin 512) (j : Fin 2816), u2 (ix2 r j) = GX m c (ix3 (bOf t) ⟨t.val % 8 * 512 + r.val, by omega⟩ j))
    (h1 : ∀ (r : Fin 512) (j : Fin 2816), u1 (ix2 r j) = GX m c (ix3 (bOf t) ⟨t.val % 8 * 512 + r.val + 1, by omega⟩ j))
    (r : Fin 512) (j : Fin 2816) :
    k0_pay10 (F := Ideal) (xBlk m c t) (iblk m c 6 t) (xxBlk m c t) w (iblk m c 8 t) (iblk m c 9 t) u2 u1 (ix2 r j)
      = CV m c (ix3 (bOf t) (tOf t r) j) * CV m c (ix3 (bOf t) (tOf t r) j) := by
  pointwise [k0_pay10]
  rw [cv_at m c t w hw u2 u1 h2 h1 r j]

/-- With the two rows before the tile's gate rows held in rows 6 and 7, row `q ≥ 6` of the scratch is row `q - 6` of the
    extended gate, counted from the tile's start. -/
theorem shift (t : Fin cfg0.N) (f) (w : Vec Ideal S1024x2816 .bf16)
    (hw : ∀ (k : Fin 1024) (j : Fin 2816), w (ix2 k j) = iblk m c 7 t (ix2 k ⟨j.val, by omega⟩)) (inb) (L)
    (hold : ∀ (q : Fin 520) (j : Fin 2816) (i : Fin 4098), 6 ≤ q.val → q.val < 8 → i.val = t.val % 8 * 512 + (q.val - 6) →
      View.read (Elt Ideal) (View.whole cc0_scratch0) ((View.whole cc0_scratch0).writes (Elt Ideal) f L) (ix2 q j) = GX m c (ix3 (bOf t) i j))
    (q : Fin 520) (j : Fin 2816) (i : Fin 4098) (hq : 6 ≤ q.val) (hi : i.val = t.val % 8 * 512 + (q.val - 6)) :
    View.read (Elt Ideal) (View.whole cc0_scratch0) ((View.whole cc0_scratch0).writes (Elt Ideal) f
      (⟨Rect.unit (s := S520x2816) ![8, 0] ![512, 2816] inb,
        k0_pay8 (F := Ideal) (xBlk m c t) (iblk m c 6 t) (xxBlk m c t) w⟩ :: L)) (ix2 q j) = GX m c (ix3 (bOf t) i j) := by
  by_cases h8 : q.val < 8
  · rw [rd_old f _ inb L q j h8]
    exact hold q j i hq h8 hi
  · rw [rd_new f _ inb L q j (by omega), gs_at m c t w hw, gx_new m c _ i j (by omega)]
    congr 2
    exact Fin.ext (by show t.val % 8 * 512 + (q.val - 8) = i.val - 2; omega)

/-- THE RESULT BLOCK at a tile that is not a batch entry's first, when rows 6 and 7 of the scratch hold the two gate
    rows before the tile: the reference's result at the tile's time steps. -/
theorem st_B (t : Fin cfg0.N) (acc : St) (h0 : ¬t.val % 8 = 0)
    (hacc : ∀ (q : Fin 520) (j : Fin 2816) (i : Fin 4098), 6 ≤ q.val → q.val < 8 → i.val = t.val % 8 * 512 + (q.val - 6) →
      acc.2.2 (ix2 q j) = GX m c (ix3 (bOf t) i j)) (r : Fin 512) (d : Fin 1024) :
    (Value.stAt0 m c t.val t.isLt acc).1 (ix3 0 r d) = YY m c (ix3 (bOf t) (tOf t r) d) := by
  rw [Value.stAt0_B m c t acc h0]
  frame_open
  simp (disch := decide) only [↓ View.readCov_skip, ↓ View.readCov_cons_toLoadRect, ↓ View.readCov_fill]
  frame_out
  have hw : ∀ (k : Fin 1024) (j : Fin 2816),
      (View.ld (iblk m c 7 t) (Rect.unit (s := S1024x5632) ![0, 0] ![1024, 2816] inb_S1024x5632_S1024x2816_0_0) : Vec Ideal S1024x2816 .bf16) (ix2 k j)
        = iblk m c 7 t (ix2 k ⟨j.val, by omega⟩) := fun k j => by pointwise
  have hold : ∀ (q : Fin 520) (j : Fin 2816) (i : Fin 4098), 6 ≤ q.val → q.val < 8 → i.val = t.val % 8 * 512 + (q.val - 6) →
      View.read (Elt Ideal) (View.whole cc0_scratch0) ((View.whole cc0_scratch0).writes (Elt Ideal)
        ((Memref.isWhole_whole cc0_scratch0).unread acc.2.2) []) (ix2 q j) = GX m c (ix3 (bOf t) i j) := fun q j i h6 h8 hi => by
    rw [View.writes_nil]
    refine Eq.trans (congrFun ?_ _) (hacc q j i h6 h8 hi)
    exact Memref.IsWhole.read_unread _ _
  have h2 : ∀ (r : Fin 512) (j : Fin 2816), _ = GX m c (ix3 (bOf t) ⟨t.val % 8 * 512 + r.val, by omega⟩ j) := fun r j =>
    shift m c t _ _ hw inb_S520x2816_S512x2816_8_0 [] hold ⟨6 + r.val, by omega⟩ j ⟨t.val % 8 * 512 + r.val, by omega⟩ (Nat.le_add_right 6 _)
      (by show t.val % 8 * 512 + r.val = t.val % 8 * 512 + (6 + r.val - 6); omega)
  have h1 : ∀ (r : Fin 512) (j : Fin 2816), _ = GX m c (ix3 (bOf t) ⟨t.val % 8 * 512 + r.val + 1, by omega⟩ j) := fun r j =>
    shift m c t _ _ hw inb_S520x2816_S512x2816_8_0 [] hold ⟨7 + r.val, by omega⟩ j ⟨t.val % 8 * 512 + r.val + 1, by omega⟩ (by show 6 ≤ 7 + r.val; omega)
      (by show t.val % 8 * 512 + r.val + 1 = t.val % 8 * 512 + (7 + r.val - 6); omega)
  refine y_at m c t _ _ _ _ (x1_at m c t) (val_at m c t _ fun k j => ?_) (cv_at m c t _ hw _ _ (fun r j => ?_) (fun r j => ?_))
    (cv2_at m c t _ hw _ _ (fun r j => ?_) (fun r j => ?_)) r d
  · pointwise
  · refine Eq.trans ?_ (h2 r j); pointwise; rfl
  · refine Eq.trans ?_ (h1 r j); pointwise; rfl
  · refine Eq.trans ?_ (h2 r j); pointwise; rfl
  · refine Eq.trans ?_ (h1 r j); pointwise; rfl

/-- THE RESULT BLOCK at a batch entry's first tile, where rows 6 and 7 of the scratch are the two carried gate rows: the reference's result at the tile's time steps. -/
theorem st_A (t : Fin cfg0.N) (acc : St) (h0 : t.val % 8 = 0)
    (r : Fin 512) (d : Fin 1024) :
    (Value.stAt0 m c t.val t.isLt acc).1 (ix3 0 r d) = YY m c (ix3 (bOf t) (tOf t r) d) := by
  rw [Value.stAt0_A m c t acc h0]
  frame_open
  simp (disch := decide) only [↓ View.readCov_skip, ↓ View.readCov_cons_toLoadRect, ↓ View.readCov_fill]
  frame_out
  simp only [View.readCov, View.readAt_eq_ld]
  have hw : ∀ (k : Fin 1024) (j : Fin 2816),
      (View.ld (iblk m c 7 t) (Rect.unit (s := S1024x5632) ![0, 0] ![1024, 2816] inb_S1024x5632_S1024x2816_0_0) : Vec Ideal S1024x2816 .bf16) (ix2 k j)
        = iblk m c 7 t (ix2 k ⟨j.val, by omega⟩) := fun k j => by pointwise
  have hold : ∀ (q : Fin 520) (j : Fin 2816) (i : Fin 4098), 6 ≤ q.val → q.val < 8 → i.val = t.val % 8 * 512 + (q.val - 6) →
      View.read (Elt Ideal) (View.whole cc0_scratch0) ((View.whole cc0_scratch0).writes (Elt Ideal)
        (View.whole cc0_scratch0).junk [⟨Rect.unit (s := S520x2816) ![0, 0] ![8, 2816] inb_S520x2816_S8x2816_0_0, k0_pay2 (F := Ideal) (iblk m c 12 t)⟩])
        (ix2 q j) = GX m c (ix3 (bOf t) i j) := fun q j i h6 h8 hi => by
    rw [rd_top _ _ _ [] q j h8, gx_old m c _ i j (by omega)]
    pointwise [k0_pay2]
    blk_point [iblk, V, idx t]
  have h2 : ∀ (r : Fin 512) (j : Fin 2816), _ = GX m c (ix3 (bOf t) ⟨t.val % 8 * 512 + r.val, by omega⟩ j) := fun r j =>
    shift m c t _ _ hw inb_S520x2816_S512x2816_8_0 _ hold ⟨6 + r.val, by omega⟩ j ⟨t.val % 8 * 512 + r.val, by omega⟩ (Nat.le_add_right 6 _)
      (by show t.val % 8 * 512 + r.val = t.val % 8 * 512 + (6 + r.val - 6); omega)
  have h1 : ∀ (r : Fin 512) (j : Fin 2816), _ = GX m c (ix3 (bOf t) ⟨t.val % 8 * 512 + r.val + 1, by omega⟩ j) := fun r j =>
    shift m c t _ _ hw inb_S520x2816_S512x2816_8_0 _ hold ⟨7 + r.val, by omega⟩ j ⟨t.val % 8 * 512 + r.val + 1, by omega⟩ (by show 6 ≤ 7 + r.val; omega)
      (by show t.val % 8 * 512 + r.val + 1 = t.val % 8 * 512 + (7 + r.val - 6); omega)
  refine y_at m c t _ _ _ _ (x1_at m c t) (val_at m c t _ fun k j => ?_) (cv_at m c t _ hw _ _ (fun r j => ?_) (fun r j => ?_))
    (cv2_at m c t _ hw _ _ (fun r j => ?_) (fun r j => ?_)) r d
  · pointwise
  · refine Eq.trans ?_ (h2 r j); pointwise; rfl
  · refine Eq.trans ?_ (h1 r j); pointwise; rfl
  · refine Eq.trans ?_ (h2 r j); pointwise; rfl
  · refine Eq.trans ?_ (h1 r j); pointwise; rfl

end Cert.Kernel2Ideal.Ffn

end
-- ==== Proof.FfnOut.lean ====
module

public import proofs.«01_k».proof.Proof.FfnFold
public import proofs.«01_k».proof.Proof.Gen.Reference2Ideal.Run

@[expose] public section

set_option maxRecDepth 16384

noncomputable section

open Idealize.ShloMosaic Idealize.ShloMosaic.TcCoe Idealize.SL.Sem

namespace Cert.Kernel2Ideal.Ffn

open Cert.Kernel2Ideal Cert.Kernel2Ideal.Gen

variable (m : (ℓ : Loc nD τ sig) → Buf (Elt Ideal) ℓ) (c : Dev nD)

/-! ## What a grid point leaves in the carried scratch and in the block of gate rows -/

/-- After a batch entry's first tile the top rows of the scratch hold the tile's last eight gate rows. -/
theorem sc_A (t : Fin cfg0.N) (acc : St) (h0 : t.val % 8 = 0) (q : Fin 520) (j : Fin 2816) (h8 : q.val < 8) :
    (Value.stAt0 m c t.val t.isLt acc).2.2 (ix2 q j)
      = UP m c (ix3 (bOf t) ⟨t.val % 8 * 512 + (504 + q.val), by omega⟩ ⟨j.val, by omega⟩) := by
  rw [Value.stAt0_A m c t acc h0]
  frame_open
  simp (disch := decide) only [↓ View.readCov_skip, ↓ View.readCov_cons_toLoadRect, ↓ View.readCov_fill]
  frame_out
  rw [← View.read_writes_junk_eq_canon (View.whole cc0_scratch0)]
  rw [rd_top _ _ _ _ q j h8]
  pointwise [k0_pay11]
  simp only [View.readCov, View.readAt_eq_ld]
  pointwise
  refine (rd_new _ _ _ _ _ _ (by show 8 ≤ 512 + q.val; omega)).trans ?_
  refine (gs_at m c t _ (fun k j => by pointwise) _ _).trans (congrArg (UP m c) ?_)
  exact congrArg (fun i => ix3 (bOf t) i _) (Fin.ext (by show t.val % 8 * 512 + (512 + q.val - 8) = _; simp only []; omega))

/-- After any other tile they do as well. -/
theorem sc_B (t : Fin cfg0.N) (acc : St) (h0 : ¬t.val % 8 = 0) (q : Fin 520) (j : Fin 2816) (h8 : q.val < 8) :
    (Value.stAt0 m c t.val t.isLt acc).2.2 (ix2 q j)
      = UP m c (ix3 (bOf t) ⟨t.val % 8 * 512 + (504 + q.val), by omega⟩ ⟨j.val, by omega⟩) := by
  rw [Value.stAt0_B m c t acc h0]
  frame_open
  simp (disch := decide) only [↓ View.readCov_skip, ↓ View.readCov_cons_toLoadRect, ↓ View.readCov_fill]
  frame_out
  rw [← View.read_writes_junk_eq_canon (View.whole cc0_scratch0)]
  rw [rd_top _ _ _ _ q j h8]
  pointwise [k0_pay11]
  simp only [View.readCov, View.readAt_eq_ld]
  pointwise
  refine (rd_new _ _ _ _ _ _ (by show 8 ≤ 512 + q.val; omega)).trans ?_
  refine (gs_at m c t _ (fun k j => by pointwise) _ _).trans (congrArg (UP m c) ?_)
  exact congrArg (fun i => ix3 (bOf t) i _) (Fin.ext (by show t.val % 8 * 512 + (512 + q.val - 8) = _; simp only []; omega))

/-- After a batch entry's first tile the block of gate rows holds the tile's last eight gate rows. -/
theorem gr_A (t : Fin cfg0.N) (acc : St) (h0 : t.val % 8 = 0) (q : Fin 8) (j : Fin 2816) :
    (Value.stAt0 m c t.val t.isLt acc).2.1 (ix3 0 q j)
      = UP m c (ix3 (bOf t) ⟨t.val % 8 * 512 + (504 + q.val), by omega⟩ ⟨j.val, by omega⟩) := by
  rw [Value.stAt0_A m c t acc h0]
  frame_open
  simp (disch := decide) only [↓ View.readCov_skip, ↓ View.readCov_cons_toLoadRect, ↓ View.readCov_fill]
  frame_out
  pointwise [k0_pay12]
  simp only [View.readCov, View.readAt_eq_ld]
  pointwise
  refine (rd_new _ _ _ _ _ _ (by show 8 ≤ 512 + q.val; omega)).trans ?_
  refine (gs_at m c t _ (fun k j => by pointwise) _ _).trans (congrArg (UP m c) ?_)
  exact congrArg (fun i => ix3 (bOf t) i _) (Fin.ext (by show t.val % 8 * 512 + (512 + q.val - 8) = _; simp only []; omega))

/-- After any other tile it does as well. -/
theorem gr_B (t : Fin cfg0.N) (acc : St) (h0 : ¬t.val % 8 = 0) (q : Fin 8) (j : Fin 2816) :
    (Value.stAt0 m c t.val t.isLt acc).2.1 (ix3 0 q j)
      = UP m c (ix3 (bOf t) ⟨t.val % 8 * 512 + (504 + q.val), by omega⟩ ⟨j.val, by omega⟩) := by
  rw [Value.stAt0_B m c t acc h0]
  frame_open
  simp (disch := decide) only [↓ View.readCov_skip, ↓ View.readCov_cons_toLoadRect, ↓ View.readCov_fill]
  frame_out
  pointwise [k0_pay12]
  simp only [View.readCov, View.readAt_eq_ld]
  pointwise
  refine (rd_new _ _ _ _ _ _ (by show 8 ≤ 512 + q.val; omega)).trans ?_
  refine (gs_at m c t _ (fun k j => by pointwise) _ _).trans (congrArg (UP m c) ?_)
  exact congrArg (fun i => ix3 (bOf t) i _) (Fin.ext (by show t.val % 8 * 512 + (512 + q.val - 8) = _; simp only []; omega))

/-! ## All the grid points -/

/-- What a grid point leaves is a step from some earlier state. -/
theorem outs_step (n : ℕ) (hn : n < cfg0.N) : ∃ acc : St, outsAt0 m c n hn = Value.stAt0 m c n hn acc := by
  cases n with
  | zero => exact ⟨_, Value.outsAt0_zero m c hn⟩
  | succ n => exact ⟨_, Value.outsAt0_succ m c n hn⟩

/-- After any point the top rows of the scratch hold the tile's last eight gate rows. -/
theorem sc_all (n : ℕ) (hn : n < cfg0.N) (q : Fin 520) (j : Fin 2816) (h8 : q.val < 8) :
    (outsAt0 m c n hn).2.2 (ix2 q j)
      = UP m c (ix3 (bOf ⟨n, hn⟩) ⟨n % 8 * 512 + (504 + q.val), by omega⟩ ⟨j.val, by omega⟩) := by
  obtain ⟨acc, e⟩ := outs_step m c n hn
  rw [e]
  by_cases h0 : n % 8 = 0
  · exact sc_A m c ⟨n, hn⟩ acc h0 q j h8
  · exact sc_B m c ⟨n, hn⟩ acc h0 q j h8

/-- After any point the block of gate rows holds the tile's last eight gate rows. -/
theorem gr_all (n : ℕ) (hn : n < cfg0.N) (q : Fin 8) (j : Fin 2816) :
    (outsAt0 m c n hn).2.1 (ix3 0 q j)
      = UP m c (ix3 (bOf ⟨n, hn⟩) ⟨n % 8 * 512 + (504 + q.val), by omega⟩ ⟨j.val, by omega⟩) := by
  obtain ⟨acc, e⟩ := outs_step m c n hn
  rw [e]
  by_cases h0 : n % 8 = 0
  · exact gr_A m c ⟨n, hn⟩ acc h0 q j
  · exact gr_B m c ⟨n, hn⟩ acc h0 q j

/-- After any point the result block holds the reference's result at the tile's time steps. -/
theorem y_all (n : ℕ) (hn : n < cfg0.N) (r : Fin 512) (d : Fin 1024) :
    (outsAt0 m c n hn).1 (ix3 0 r d) = YY m c (ix3 (bOf ⟨n, hn⟩) (tOf ⟨n, hn⟩ r) d) := by
  by_cases h0 : n % 8 = 0
  · obtain ⟨acc, e⟩ := outs_step m c n hn
    rw [e]
    exact st_A m c ⟨n, hn⟩ acc h0 r d
  · cases n with
    | zero => exact absurd rfl h0
    | succ n =>
      rw [Value.outsAt0_succ]
      refine st_B m c ⟨n + 1, hn⟩ _ h0 (fun q j i h6 h8 hi => ?_) r d
      have hi' : i.val = (n + 1) % 8 * 512 + (q.val - 6) := hi
      rw [sc_all m c n _ q j h8, gx_new m c _ i j (by omega)]
      congr 2
      · exact Fin.ext (by show n / 8 = (n + 1) / 8; omega)
      · exact Fin.ext (by show n % 8 * 512 + (504 + q.val) = i.val - 2; omega)

/-! ## The two result arrays -/

/-- The last eight gate rows of every batch entry, as the reference has them. -/
def GR : FVec Ideal S4x8x2816 .f32 :=
  Cert.Reference2Ideal.Read.val_main_v98 (F := Ideal) (a0 m c) (a1 m c) (a2 m c) (a3 m c) (a4 m c) (a5 m c) (a6 m c)

/-- Read at an index they are rows 4088 … 4095 of the gate projection. -/
theorem gr_at (b : Fin 4) (q : Fin 8) (j : Fin 2816) :
    GR m c (ix3 b q j) = UP m c (ix3 b ⟨4088 + q.val, by omega⟩ ⟨j.val, by omega⟩) := by
  have h34 : Cert.Reference2Ideal.Read.val_main_v34 (F := Ideal) (a0 m c) (a1 m c) (a2 m c) (a3 m c) (a4 m c) (a5 m c) (a6 m c)
      = UP m c := rfl
  unfold GR
  pointwise [Cert.Reference2Ideal.Read.val_main_v98, Cert.Reference2Ideal.Read.val_main_v35, h34]

/-- THE FIRST RESULT of the kernel is the reference's. -/
theorem g13 : Value.G13 m c = YY m c := by
  funext i
  obtain ⟨b, t, d, rfl⟩ : ∃ (b : Fin 4) (t : Fin 4096) (d : Fin 1024), i = ix3 b t d := ⟨i 0, i 1, i 2, eq_ix3 i⟩
  have hp : Value.pt13Of (ix3 b t d) = 8 * b.val + t.val / 512 := by
    show 8 * (b.val / 1 - 0) + 1 * (t.val / 512 - 0) + 1 * (d.val / 1024 - 0) = _
    have := d.isLt
    omega
  have hl : Value.loc13Of (ix3 b t d) = ix3 0 ⟨t.val % 512, by omega⟩ d := by
    funext a
    fin_cases a
    · exact Fin.ext (by show b.val % 1 = 0; omega)
    · rfl
    · exact Fin.ext (by show d.val % 1024 = d.val; have := d.isLt; omega)
  have hN : Value.pt13Of (ix3 b t d) < cfg0.N := by rw [hp, show cfg0.N = 32 from N_0]; have := b.isLt; have := t.isLt; omega
  show (if h : Value.pt13Of (ix3 b t d) < cfg0.N then _ else _) = _
  rw [dif_pos hN, ← Value.outsAt0_sweep m c _ hN, hl, y_all]
  congr 2
  · exact Fin.ext (by show Value.pt13Of (ix3 b t d) / 8 = b.val; rw [hp]; have := t.isLt; omega)
  · exact Fin.ext (by show Value.pt13Of (ix3 b t d) % 8 * 512 + t.val % 512 = t.val; rw [hp]; have := t.isLt; omega)

/-- THE SECOND RESULT of the kernel is the reference's. -/
theorem g14 : Value.G14 m c = GR m c := by
  funext i
  obtain ⟨b, q, j, rfl⟩ : ∃ (b : Fin 4) (q : Fin 8) (j : Fin 2816), i = ix3 b q j := ⟨i 0, i 1, i 2, eq_ix3 i⟩
  have hp : Value.pt14Of (ix3 b q j) = 8 * b.val + 7 := by
    show 8 * (1 * (b.val / 1 - 0) + 1 * (q.val / 8 - 0) + 1 * (j.val / 2816 - 0)) + 7 = _
    have := q.isLt
    have := j.isLt
    omega
  have hl : Value.loc14Of (ix3 b q j) = ix3 0 q j := by
    funext a
    fin_cases a
    · exact Fin.ext (by show b.val % 1 = 0; omega)
    · exact Fin.ext (by show q.val % 8 = q.val; have := q.isLt; omega)
    · exact Fin.ext (by show j.val % 2816 = j.val; have := j.isLt; omega)
  have hN : Value.pt14Of (ix3 b q j) < cfg0.N := by rw [hp, show cfg0.N = 32 from N_0]; have := b.isLt; omega
  show (if h : Value.pt14Of (ix3 b q j) < cfg0.N then _ else _) = _
  rw [dif_pos hN, ← Value.outsAt0_sweep m c _ hN, hl, gr_all, gr_at]
  congr 2
  · exact Fin.ext (by show Value.pt14Of (ix3 b q j) / 8 = b.val; rw [hp]; omega)
  · exact Fin.ext (by show Value.pt14Of (ix3 b q j) % 8 * 512 + (504 + q.val) = 4088 + q.val; rw [hp]; omega)

end Cert.Kernel2Ideal.Ffn

end
-- ==== Proof.InprojSet.lean ====
module

public import proofs.«01_k».proof.Proof.Gen.Kernel1Ideal.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import proofs.«01_k».proof.Proof.Gen.Kernel1Ideal.Skeleton
public import proofs.«01_k».proof.Proof.Gen.Kernel1Ideal.Points

/-!
# The projection call: its three cases and its buffers

A sequence of the grid has nine points.  The first eight each project a block of the sequence, the
first of them setting the carried buffers; the ninth writes only the last blocks of the keys and values.
-/

@[expose] public section

set_option maxRecDepth 16384

noncomputable section

namespace Cert.Kernel1Ideal.In

open Cert.Kernel1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The cases -/

/-- The point is the first of its sequence. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 9 = 0 :=
  (fun t => by
    have ht : t.val < 36 := Nat.lt_of_lt_of_eq t.isLt N_0
    have e0 : (grid0.coords t 0).val = t.val / 9 % 4 := Pipeline.Grid.coords_val t 0 (by decide) rfl
    have e1 : (grid0.coords t 1).val = t.val / 1 % 9 := Pipeline.Grid.coords_val t 1 (by decide) rfl
    simp only [cond0_0, e0, e1]
    word_cmp
   : ∀ t : Fin grid0.N, cond0_0 (grid0.coords t) ↔ t.val % 9 = 0)

/-- The point is the last of its sequence. -/
abbrev cond0_1 (i : grid0.Coords) : Prop := k0_cond2 i = 1#1
theorem hcond0_1 : ∀ t : Fin cfg0.N, cond0_1 (grid0.coords t) ↔ t.val % 9 = 8 :=
  (fun t => by
    have ht : t.val < 36 := Nat.lt_of_lt_of_eq t.isLt N_0
    have e0 : (grid0.coords t 0).val = t.val / 9 % 4 := Pipeline.Grid.coords_val t 0 (by decide) rfl
    have e1 : (grid0.coords t 1).val = t.val / 1 % 9 := Pipeline.Grid.coords_val t 1 (by decide) rfl
    simp only [cond0_1, k0_cond2, e0, e1]
    word_cmp
   : ∀ t : Fin grid0.N, cond0_1 (grid0.coords t) ↔ t.val % 9 = 8)

/-- The point projects a block. -/
abbrev cond0_2 (i : grid0.Coords) : Prop := k0_cond3 i = 1#1
theorem hcond0_2 : ∀ t : Fin cfg0.N, cond0_2 (grid0.coords t) ↔ t.val % 9 ≤ 7 :=
  (by decide +kernel : ∀ t : Fin grid0.N, cond0_2 (grid0.coords t) ↔ t.val % 9 ≤ 7)

/-! ## The buffers -/

abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2688 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x256x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S8x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S128x512 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S128x512 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x512x512 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x512x512 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x512x512 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x512x512 .bf16 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x512x512 .bf16 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x8x512 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1x32x512 .bf16 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S1x512x512 .bf16 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S1x1x512 .f32 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S1x8x512 .f32 := win0_25.stage (cfg0.slots t 25)
abbrev hs0_25 (t : Fin cfg0.N) : (ms0_25 t).IsWhole := hstage0_25 ((cfg0.slots t 25).cast nbuf0_25)
abbrev scM0_0 : Memref sig .tc .vmem S520x512 .f32 := Memref.whole cc0_scratch0
abbrev scM0_1 : Memref sig .tc .vmem S1x512 .f32 := Memref.whole cc0_scratch1
abbrev scM0_2 : Memref sig .tc .vmem S8x1 .f32 := Memref.whole cc0_scratch2
abbrev scM0_3 : Memref sig .tc .vmem S16x512 .f32 := Memref.whole cc0_scratch3
abbrev scM0_4 : Memref sig .tc .vmem S16x512 .f32 := Memref.whole cc0_scratch4

/-- The region's own buffers one by one: the five carried buffers and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel1Ideal.In

end
-- ==== Proof.InprojRunA.lean ====
module

public import proofs.«01_k».proof.Proof.InprojSet

/-!
# The projection call: a run of its body at the first block of a sequence

The body at the first block of a sequence, where the carried buffers are set before they are read: on whole buffers it runs to the end, the inputs unchanged,
and every buffer it stores into holds the named stores.
-/

@[expose] public section

set_option maxRecDepth 16384

noncomputable section

namespace Cert.Kernel1Ideal.In

open Cert.Kernel1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 20000000 in
/-- The body at the first block of a sequence, where the carried buffers are set before they are read: from whole buffers it reaches the continuation with the inputs as they were
    and each stored buffer holding the stores listed for it, last first. -/
def runA (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2688 .bf16) (harg4 : arg4.IsWhole) (arg5 : Memref sig .tc .vmem S8x1 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S2x256x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S8x512 .f32) (harg13 : arg13.IsWhole) (arg14 : Memref sig .tc .vmem S8x512 .f32) (harg14 : arg14.IsWhole) (arg15 : Memref sig .tc .vmem S8x128 .f32) (harg15 : arg15.IsWhole) (arg16 : Memref sig .tc .vmem S128x512 .f32) (harg16 : arg16.IsWhole) (arg17 : Memref sig .tc .vmem S128x512 .f32) (harg17 : arg17.IsWhole) (arg18 : Memref sig .tc .vmem S1x512x512 .bf16) (harg18 : arg18.IsWhole) (arg19 : Memref sig .tc .vmem S1x512x512 .f32) (harg19 : arg19.IsWhole) (arg20 : Memref sig .tc .vmem S1x512x512 .f32) (harg20 : arg20.IsWhole) (arg21 : Memref sig .tc .vmem S1x512x512 .bf16) (harg21 : arg21.IsWhole) (arg22 : Memref sig .tc .vmem S1x512x512 .bf16) (harg22 : arg22.IsWhole) (arg23 : Memref sig .tc .vmem S1x8x512 .f32) (harg23 : arg23.IsWhole) (arg24 : Memref sig .tc .vmem S1x32x512 .bf16) (harg24 : arg24.IsWhole) (arg25 : Memref sig .tc .vmem S1x512x512 .bf16) (harg25 : arg25.IsWhole) (arg26 : Memref sig .tc .vmem S1x1x512 .f32) (harg26 : arg26.IsWhole) (arg27 : Memref sig .tc .vmem S1x8x512 .f32) (harg27 : arg27.IsWhole) (arg28 : Memref sig .tc .vmem S520x512 .f32) (harg28 : arg28.IsWhole) (arg29 : Memref sig .tc .vmem S1x512 .f32) (harg29 : arg29.IsWhole) (arg30 : Memref sig .tc .vmem S8x1 .f32) (harg30 : arg30.IsWhole) (arg31 : Memref sig .tc .vmem S16x512 .f32) (harg31 : arg31.IsWhole) (arg32 : Memref sig .tc .vmem S16x512 .f32) (harg32 : arg32.IsWhole) (hc0 : cond0_0 i) (hc1 : ¬cond0_1 i) (hc2 : cond0_2 i)
    (x0 : Vec F S1x512x1024 .f32) (x1 : Vec F S1x1024 .f32) (x2 : Vec F S1024x2688 .bf16) (x3 : Vec F S8x1 .f32) (x4 : Vec F S4x512 .f32) (x5 : Vec F S1x512 .f32) (x6 : Vec F S2x256x512 .bf16) (x7 : Vec F S1x512 .f32) (x8 : Vec F S1x512 .f32) (x9 : Vec F S1x512 .f32) (x10 : Vec F S1x512 .f32) (x11 : Vec F S8x512 .f32) (x12 : Vec F S8x512 .f32) (x13 : Vec F S8x128 .f32) (x14 : Vec F S128x512 .f32) (x15 : Vec F S128x512 .f32) :
    Σ' (L16 : List (View.Piece (Elt F) S1x512x512 .bf16)), Σ' (L17 : List (View.Piece (Elt F) S1x512x512 .f32)), Σ' (L18 : List (View.Piece (Elt F) S1x512x512 .f32)), Σ' (L19 : List (View.Piece (Elt F) S1x512x512 .bf16)), Σ' (L20 : List (View.Piece (Elt F) S1x512x512 .bf16)), Σ' (L21 : List (View.Piece (Elt F) S1x8x512 .f32)), Σ' (L22 : List (View.Piece (Elt F) S1x32x512 .bf16)), Σ' (L23 : List (View.Piece (Elt F) S1x512x512 .bf16)), Σ' (L24 : List (View.Piece (Elt F) S1x1x512 .f32)), Σ' (L25 : List (View.Piece (Elt F) S1x8x512 .f32)), Σ' (LS0 : List (View.Piece (Elt F) S520x512 .f32)), Σ' (LS1 : List (View.Piece (Elt F) S1x512 .f32)), Σ' (LS2 : List (View.Piece (Elt F) S8x1 .f32)), Σ' (LS3 : List (View.Piece (Elt F) S16x512 .f32)), { LS4 : List (View.Piece (Elt F) S16x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f LS0) ∗ (∃ f, arg29.view.loc (c : Thread nD τ) ↦[arg29.view.set]{fullShare} arg29.view.writes (Elt F) f LS1) ∗ (∃ f, arg30.view.loc (c : Thread nD τ) ↦[arg30.view.set]{fullShare} arg30.view.writes (Elt F) f LS2) ∗ (∃ f, arg31.view.loc (c : Thread nD τ) ↦[arg31.view.set]{fullShare} arg31.view.writes (Elt F) f LS3) ∗ (∃ f, arg32.view.loc (c : Thread nD τ) ↦[arg32.view.set]{fullShare} arg32.view.writes (Elt F) f LS4)) -∗ K ⟨⟩))
          ⊢ wp frame (wpE (defs₀ (F := F)) Variants.none c none) E (cc0_inproj_rglru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K } := by
  refine ⟨?_, ?_, ?_, ?_, ?_, ?_, ?_, ?_, ?_, ?_, ?_, ?_, ?_, ?_, ?_, fun E K => ?run⟩
  case run =>
    simp only [cc0_inproj_rglru_eq_skeleton]; unfold cc0_inproj_rglru_skel
    simp only [k0_part82_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [HS0]; · iexists _; iexact HS0
    isplitl [HS1]; · iexists _; iexact HS1
    isplitl [HS2]; · iexists _; iexact HS2
    isplitl [HS3]; · iexists _; iexact HS3
    iexists _; iexact HS4

end Cert.Kernel1Ideal.In

end
-- ==== Proof.InprojRunB.lean ====
module

public import proofs.«01_k».proof.Proof.InprojSet

/-!
# The projection call: a run of its body at a later block of a sequence

The body at a later block of a sequence, where the carried buffers hold what the block before left: on whole buffers it runs to the end, the inputs unchanged,
and every buffer it stores into holds the named stores.
-/

@[expose] public section

set_option maxRecDepth 16384

noncomputable section

namespace Cert.Kernel1Ideal.In

open Cert.Kernel1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 20000000 in
/-- The body at a later block of a sequence, where the carried buffers hold what the block before left: from whole buffers it reaches the continuation with the inputs as they were
    and each stored buffer holding the stores listed for it, last first. -/
def runB (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2688 .bf16) (harg4 : arg4.IsWhole) (arg5 : Memref sig .tc .vmem S8x1 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S2x256x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S8x512 .f32) (harg13 : arg13.IsWhole) (arg14 : Memref sig .tc .vmem S8x512 .f32) (harg14 : arg14.IsWhole) (arg15 : Memref sig .tc .vmem S8x128 .f32) (harg15 : arg15.IsWhole) (arg16 : Memref sig .tc .vmem S128x512 .f32) (harg16 : arg16.IsWhole) (arg17 : Memref sig .tc .vmem S128x512 .f32) (harg17 : arg17.IsWhole) (arg18 : Memref sig .tc .vmem S1x512x512 .bf16) (harg18 : arg18.IsWhole) (arg19 : Memref sig .tc .vmem S1x512x512 .f32) (harg19 : arg19.IsWhole) (arg20 : Memref sig .tc .vmem S1x512x512 .f32) (harg20 : arg20.IsWhole) (arg21 : Memref sig .tc .vmem S1x512x512 .bf16) (harg21 : arg21.IsWhole) (arg22 : Memref sig .tc .vmem S1x512x512 .bf16) (harg22 : arg22.IsWhole) (arg23 : Memref sig .tc .vmem S1x8x512 .f32) (harg23 : arg23.IsWhole) (arg24 : Memref sig .tc .vmem S1x32x512 .bf16) (harg24 : arg24.IsWhole) (arg25 : Memref sig .tc .vmem S1x512x512 .bf16) (harg25 : arg25.IsWhole) (arg26 : Memref sig .tc .vmem S1x1x512 .f32) (harg26 : arg26.IsWhole) (arg27 : Memref sig .tc .vmem S1x8x512 .f32) (harg27 : arg27.IsWhole) (arg28 : Memref sig .tc .vmem S520x512 .f32) (harg28 : arg28.IsWhole) (arg29 : Memref sig .tc .vmem S1x512 .f32) (harg29 : arg29.IsWhole) (arg30 : Memref sig .tc .vmem S8x1 .f32) (harg30 : arg30.IsWhole) (arg31 : Memref sig .tc .vmem S16x512 .f32) (harg31 : arg31.IsWhole) (arg32 : Memref sig .tc .vmem S16x512 .f32) (harg32 : arg32.IsWhole) (hc0 : ¬cond0_0 i) (hc1 : ¬cond0_1 i) (hc2 : cond0_2 i)
    (x0 : Vec F S1x512x1024 .f32) (x1 : Vec F S1x1024 .f32) (x2 : Vec F S1024x2688 .bf16) (x3 : Vec F S8x1 .f32) (x4 : Vec F S4x512 .f32) (x5 : Vec F S1x512 .f32) (x6 : Vec F S2x256x512 .bf16) (x7 : Vec F S1x512 .f32) (x8 : Vec F S1x512 .f32) (x9 : Vec F S1x512 .f32) (x10 : Vec F S1x512 .f32) (x11 : Vec F S8x512 .f32) (x12 : Vec F S8x512 .f32) (x13 : Vec F S8x128 .f32) (x14 : Vec F S128x512 .f32) (x15 : Vec F S128x512 .f32) (xs0 : Vec F S520x512 .f32) (xs1 : Vec F S1x512 .f32) (xs2 : Vec F S8x1 .f32) (xs3 : Vec F S16x512 .f32) (xs4 : Vec F S16x512 .f32) :
    Σ' (L16 : List (View.Piece (Elt F) S1x512x512 .bf16)), Σ' (L17 : List (View.Piece (Elt F) S1x512x512 .f32)), Σ' (L18 : List (View.Piece (Elt F) S1x512x512 .f32)), Σ' (L19 : List (View.Piece (Elt F) S1x512x512 .bf16)), Σ' (L20 : List (View.Piece (Elt F) S1x512x512 .bf16)), Σ' (L21 : List (View.Piece (Elt F) S1x8x512 .f32)), Σ' (L22 : List (View.Piece (Elt F) S1x32x512 .bf16)), Σ' (L23 : List (View.Piece (Elt F) S1x512x512 .bf16)), Σ' (L24 : List (View.Piece (Elt F) S1x1x512 .f32)), Σ' (L25 : List (View.Piece (Elt F) S1x8x512 .f32)), Σ' (LS0 : List (View.Piece (Elt F) S520x512 .f32)), Σ' (LS1 : List (View.Piece (Elt F) S1x512 .f32)), Σ' (LS2 : List (View.Piece (Elt F) S8x1 .f32)), Σ' (LS3 : List (View.Piece (Elt F) S16x512 .f32)), { LS4 : List (View.Piece (Elt F) S16x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ owns (c : Thread nD τ) arg28 fullShare xs0 ∗ owns (c : Thread nD τ) arg29 fullShare xs1 ∗ owns (c : Thread nD τ) arg30 fullShare xs2 ∗ owns (c : Thread nD τ) arg31 fullShare xs3 ∗ owns (c : Thread nD τ) arg32 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f LS0) ∗ (∃ f, arg29.view.loc (c : Thread nD τ) ↦[arg29.view.set]{fullShare} arg29.view.writes (Elt F) f LS1) ∗ (∃ f, arg30.view.loc (c : Thread nD τ) ↦[arg30.view.set]{fullShare} arg30.view.writes (Elt F) f LS2) ∗ (∃ f, arg31.view.loc (c : Thread nD τ) ↦[arg31.view.set]{fullShare} arg31.view.writes (Elt F) f LS3) ∗ (∃ f, arg32.view.loc (c : Thread nD τ) ↦[arg32.view.set]{fullShare} arg32.view.writes (Elt F) f LS4)) -∗ K ⟨⟩))
          ⊢ wp frame (wpE (defs₀ (F := F)) Variants.none c none) E (cc0_inproj_rglru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K } := by
  refine ⟨?_, ?_, ?_, ?_, ?_, ?_, ?_, ?_, ?_, ?_, ?_, ?_, ?_, ?_, ?_, fun E K => ?run⟩
  case run =>
    simp only [cc0_inproj_rglru_eq_skeleton]; unfold cc0_inproj_rglru_skel
    simp only [k0_part82_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg28.eq_unread hfs0; obtain rfl := harg29.eq_unread hfs1; obtain rfl := harg30.eq_unread hfs2; obtain rfl := harg31.eq_unread hfs3; obtain rfl := harg32.eq_unread hfs4
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [HS0]; · iexists _; iexact HS0
    isplitl [HS1]; · iexists _; iexact HS1
    isplitl [HS2]; · iexists _; iexact HS2
    isplitl [HS3]; · iexists _; iexact HS3
    iexists _; iexact HS4

end Cert.Kernel1Ideal.In

end
-- ==== Proof.InprojRunC.lean ====
module

public import proofs.«01_k».proof.Proof.InprojSet

/-!
# The projection call: a run of its body at the last point of a sequence

The body at the last point of a sequence, which writes only the last blocks of the keys and values: on whole buffers it runs to the end, the inputs unchanged,
and every buffer it stores into holds the named stores.
-/

@[expose] public section

set_option maxRecDepth 16384

noncomputable section

namespace Cert.Kernel1Ideal.In

open Cert.Kernel1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 20000000 in
/-- The body at the last point of a sequence, which writes only the last blocks of the keys and values: from whole buffers it reaches the continuation with the inputs as they were
    and each stored buffer holding the stores listed for it, last first. -/
def runC (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2688 .bf16) (harg4 : arg4.IsWhole) (arg5 : Memref sig .tc .vmem S8x1 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S2x256x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S8x512 .f32) (harg13 : arg13.IsWhole) (arg14 : Memref sig .tc .vmem S8x512 .f32) (harg14 : arg14.IsWhole) (arg15 : Memref sig .tc .vmem S8x128 .f32) (harg15 : arg15.IsWhole) (arg16 : Memref sig .tc .vmem S128x512 .f32) (harg16 : arg16.IsWhole) (arg17 : Memref sig .tc .vmem S128x512 .f32) (harg17 : arg17.IsWhole) (arg18 : Memref sig .tc .vmem S1x512x512 .bf16) (harg18 : arg18.IsWhole) (arg19 : Memref sig .tc .vmem S1x512x512 .f32) (harg19 : arg19.IsWhole) (arg20 : Memref sig .tc .vmem S1x512x512 .f32) (harg20 : arg20.IsWhole) (arg21 : Memref sig .tc .vmem S1x512x512 .bf16) (harg21 : arg21.IsWhole) (arg22 : Memref sig .tc .vmem S1x512x512 .bf16) (harg22 : arg22.IsWhole) (arg23 : Memref sig .tc .vmem S1x8x512 .f32) (harg23 : arg23.IsWhole) (arg24 : Memref sig .tc .vmem S1x32x512 .bf16) (harg24 : arg24.IsWhole) (arg25 : Memref sig .tc .vmem S1x512x512 .bf16) (harg25 : arg25.IsWhole) (arg26 : Memref sig .tc .vmem S1x1x512 .f32) (harg26 : arg26.IsWhole) (arg27 : Memref sig .tc .vmem S1x8x512 .f32) (harg27 : arg27.IsWhole) (arg28 : Memref sig .tc .vmem S520x512 .f32) (harg28 : arg28.IsWhole) (arg29 : Memref sig .tc .vmem S1x512 .f32) (harg29 : arg29.IsWhole) (arg30 : Memref sig .tc .vmem S8x1 .f32) (harg30 : arg30.IsWhole) (arg31 : Memref sig .tc .vmem S16x512 .f32) (harg31 : arg31.IsWhole) (arg32 : Memref sig .tc .vmem S16x512 .f32) (harg32 : arg32.IsWhole) (hc0 : ¬cond0_0 i) (hc1 : cond0_1 i) (hc2 : ¬cond0_2 i)
    (x0 : Vec F S1x512x1024 .f32) (x1 : Vec F S1x1024 .f32) (x2 : Vec F S1024x2688 .bf16) (x3 : Vec F S8x1 .f32) (x4 : Vec F S4x512 .f32) (x5 : Vec F S1x512 .f32) (x6 : Vec F S2x256x512 .bf16) (x7 : Vec F S1x512 .f32) (x8 : Vec F S1x512 .f32) (x9 : Vec F S1x512 .f32) (x10 : Vec F S1x512 .f32) (x11 : Vec F S8x512 .f32) (x12 : Vec F S8x512 .f32) (x13 : Vec F S8x128 .f32) (x14 : Vec F S128x512 .f32) (x15 : Vec F S128x512 .f32) (xo16 : Vec F S1x512x512 .bf16) (xo19 : Vec F S1x512x512 .bf16) (xo20 : Vec F S1x512x512 .bf16) (xo21 : Vec F S1x8x512 .f32) (xo22 : Vec F S1x32x512 .bf16) (xo23 : Vec F S1x512x512 .bf16) (xo24 : Vec F S1x1x512 .f32) (xo25 : Vec F S1x8x512 .f32) (xs0 : Vec F S520x512 .f32) (xs1 : Vec F S1x512 .f32) (xs2 : Vec F S8x1 .f32) (xs3 : Vec F S16x512 .f32) (xs4 : Vec F S16x512 .f32) :
    Σ' (L16 : List (View.Piece (Elt F) S1x512x512 .bf16)), Σ' (L17 : List (View.Piece (Elt F) S1x512x512 .f32)), Σ' (L18 : List (View.Piece (Elt F) S1x512x512 .f32)), Σ' (L19 : List (View.Piece (Elt F) S1x512x512 .bf16)), Σ' (L20 : List (View.Piece (Elt F) S1x512x512 .bf16)), Σ' (L21 : List (View.Piece (Elt F) S1x8x512 .f32)), Σ' (L22 : List (View.Piece (Elt F) S1x32x512 .bf16)), Σ' (L23 : List (View.Piece (Elt F) S1x512x512 .bf16)), Σ' (L24 : List (View.Piece (Elt F) S1x1x512 .f32)), Σ' (L25 : List (View.Piece (Elt F) S1x8x512 .f32)), Σ' (LS0 : List (View.Piece (Elt F) S520x512 .f32)), Σ' (LS1 : List (View.Piece (Elt F) S1x512 .f32)), Σ' (LS2 : List (View.Piece (Elt F) S8x1 .f32)), Σ' (LS3 : List (View.Piece (Elt F) S16x512 .f32)), { LS4 : List (View.Piece (Elt F) S16x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare xo16 ∗ (∃ d, owns (c : Thread nD τ) arg19 fullShare d) ∗ (∃ d, owns (c : Thread nD τ) arg20 fullShare d) ∗ owns (c : Thread nD τ) arg21 fullShare xo19 ∗ owns (c : Thread nD τ) arg22 fullShare xo20 ∗ owns (c : Thread nD τ) arg23 fullShare xo21 ∗ owns (c : Thread nD τ) arg24 fullShare xo22 ∗ owns (c : Thread nD τ) arg25 fullShare xo23 ∗ owns (c : Thread nD τ) arg26 fullShare xo24 ∗ owns (c : Thread nD τ) arg27 fullShare xo25 ∗ owns (c : Thread nD τ) arg28 fullShare xs0 ∗ owns (c : Thread nD τ) arg29 fullShare xs1 ∗ owns (c : Thread nD τ) arg30 fullShare xs2 ∗ owns (c : Thread nD τ) arg31 fullShare xs3 ∗ owns (c : Thread nD τ) arg32 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare xo16 ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ owns (c : Thread nD τ) arg21 fullShare xo19 ∗ owns (c : Thread nD τ) arg22 fullShare xo20 ∗ owns (c : Thread nD τ) arg23 fullShare xo21 ∗ owns (c : Thread nD τ) arg24 fullShare xo22 ∗ owns (c : Thread nD τ) arg25 fullShare xo23 ∗ owns (c : Thread nD τ) arg26 fullShare xo24 ∗ owns (c : Thread nD τ) arg27 fullShare xo25 ∗ owns (c : Thread nD τ) arg28 fullShare xs0 ∗ owns (c : Thread nD τ) arg29 fullShare xs1 ∗ owns (c : Thread nD τ) arg30 fullShare xs2 ∗ owns (c : Thread nD τ) arg31 fullShare xs3 ∗ owns (c : Thread nD τ) arg32 fullShare xs4) -∗ K ⟨⟩))
          ⊢ wp frame (wpE (defs₀ (F := F)) Variants.none c none) E (cc0_inproj_rglru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K } := by
  refine ⟨[], ?_, ?_, [], [], [], [], [], [], [], [], [], [], [], [], fun E K => ?run⟩
  case run =>
    simp only [cc0_inproj_rglru_eq_skeleton]; unfold cc0_inproj_rglru_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hfs0; obtain rfl := harg29.eq_unread hfs1; obtain rfl := harg30.eq_unread hfs2; obtain rfl := harg31.eq_unread hfs3; obtain rfl := harg32.eq_unread hfs4
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]; · iexists _; iexact H17
    isplitl [H18]; · iexists _; iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [HS0]
    · iexists _; isplitr; · ipureintro; exact harg28.read_unread _
      iexact HS0
    isplitl [HS1]
    · iexists _; isplitr; · ipureintro; exact harg29.read_unread _
      iexact HS1
    isplitl [HS2]
    · iexists _; isplitr; · ipureintro; exact harg30.read_unread _
      iexact HS2
    isplitl [HS3]
    · iexists _; isplitr; · ipureintro; exact harg31.read_unread _
      iexact HS3
    iexists _; isplitr; · ipureintro; exact harg32.read_unread _
    iexact HS4

end Cert.Kernel1Ideal.In

end
-- ==== Proof.InprojFrame.lean ====
/-
The projection of a prompt: the call runs, leaves its arguments as they were, and its key, value, log-gate and last-rows
arrays end at what the body stores in them.  Nothing is named of the other result arrays.
-/
module

public import Idealize.ShloMosaic.Lib.WholeRead
public import Idealize.ShloMosaic.Lib.Claim
public import Idealize.ShloMosaic.Lib.Pipeline.ValueKit
public import proofs.«01_k».proof.Proof.InprojRunA
public import proofs.«01_k».proof.Proof.InprojRunB
public import proofs.«01_k».proof.Proof.InprojRunC

@[expose] public section

set_option maxRecDepth 16384

noncomputable section

namespace Cert.Kernel1Ideal.In

open Cert.Kernel1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body stores -/

/-- The columns of the recurrence's two inputs in the weights. -/
abbrev rx : Rect S1024x2688 := Rect.unit (s := S1024x2688) ![0, 1536] S1024x1024.size inb_S1024x2688_S1024x1024_0_1536
/-- The columns of the forget gates in the weights. -/
abbrev rf : Rect S1024x2688 := Rect.unit (s := S1024x2688) ![0, 2560] S1024x128.size inb_S1024x2688_S1024x128_0_2560

/-- The last eight rows of a block's recurrence input. -/
def lastRows (x : Vec F S1x512x1024 .f32) (g : Vec F S1x1024 .f32) (w : Vec F S1024x2688 .bf16) : FVec F S1x8x512 .f32 :=
  k0_pay19 (k0_pay12 x g (fun y => w (rx.toLoadRect.idx y)))

/-- A block's log gates, head by head. -/
def logGates (x : Vec F S1x512x1024 .f32) (g : Vec F S1x1024 .f32) (w : Vec F S1024x2688 .bf16) (b : Vec F S8x1 .f32) :
    FVec F S1x8x512 .f32 :=
  k0_pay493 (k0_pay30 (k0_pay10 x g) (fun y => w (rf.toLoadRect.idx y))) b

/-- The log gates stored at a point. -/
def A21 (c : Dev nD) (t : Fin cfg0.N) : FVec F S1x8x512 .f32 :=
  logGates (iblk m c 0 t) (iblk m c 1 t) (iblk m c 2 t) (iblk m c 3 t)
/-- The last rows stored at a point. -/
def A25 (c : Dev nD) (t : Fin cfg0.N) : FVec F S1x8x512 .f32 :=
  lastRows (iblk m c 0 t) (iblk m c 1 t) (iblk m c 2 t)

/-- The columns of the queries and the keys in the weights. -/
abbrev rk : Rect S1024x2688 := Rect.unit (s := S1024x2688) ![0, 0] S1024x1024.size inb_S1024x2688_S1024x1024_0_0
/-- The columns of the values in the weights. -/
abbrev rv : Rect S1024x2688 := Rect.unit (s := S1024x2688) ![0, 1024] S1024x512.size inb_S1024x2688_S1024x512_0_1024
/-- The memory rows a sequence starts from. -/
abbrev rm : Rect S128x512 := Rect.unit (s := S128x512) ![0, 0] S16x512.size inb_S128x512_S16x512_0_0

/-- A block's keys, transposed, after the rows `v` carried from the block before. -/
def keysT (x : Vec F S1x512x1024 .f32) (g : Vec F S1x1024 .f32) (w : Vec F S1024x2688 .bf16) (v : Vec F S16x512 .f32) : FVec F S1x512x512 .f32 :=
  k0_pay34 (k0_pay10 x g) (fun y => w (rk.toLoadRect.idx y)) v
/-- A block's values, likewise. -/
def valsT (x : Vec F S1x512x1024 .f32) (g : Vec F S1x1024 .f32) (w : Vec F S1024x2688 .bf16) (v : Vec F S16x512 .f32) : FVec F S1x512x512 .f32 :=
  k0_pay489 (k0_pay488 (k0_pay29 (k0_pay10 x g) (fun y => w (rv.toLoadRect.idx y))) v)
/-- The keys of a block's last sixteen rows. -/
def keysC (x : Vec F S1x512x1024 .f32) (g : Vec F S1x1024 .f32) (w : Vec F S1024x2688 .bf16) : FVec F S16x512 .f32 :=
  k0_pay35 (k0_pay10 x g) (fun y => w (rk.toLoadRect.idx y))
/-- The values of a block's last sixteen rows. -/
def valsC (x : Vec F S1x512x1024 .f32) (g : Vec F S1x1024 .f32) (w : Vec F S1024x2688 .bf16) : FVec F S16x512 .f32 :=
  k0_pay490 (k0_pay29 (k0_pay10 x g) (fun y => w (rv.toLoadRect.idx y)))
/-- The first sixteen rows of the memory. -/
def firstK (a : Vec F S128x512 .f32) : FVec F S16x512 .f32 := k0_pay4 (fun y => a (rm.toLoadRect.idx y))
def firstV (a : Vec F S128x512 .f32) : FVec F S16x512 .f32 := k0_pay5 (fun y => a (rm.toLoadRect.idx y))

/-- The point before. -/
abbrev prev (t : Fin cfg0.N) : Fin cfg0.N := ⟨t.val - 1, Nat.lt_of_le_of_lt (Nat.sub_le _ _) t.isLt⟩

/-- The keys carried from a point to the next. -/
def KC (c : Dev nD) (t : Fin cfg0.N) : FVec F S16x512 .f32 := keysC (iblk m c 0 t) (iblk m c 1 t) (iblk m c 2 t)
/-- The values carried from a point to the next. -/
def VC (c : Dev nD) (t : Fin cfg0.N) : FVec F S16x512 .f32 := valsC (iblk m c 0 t) (iblk m c 1 t) (iblk m c 2 t)
/-- The keys stored at a point. -/
def A17 (c : Dev nD) (t : Fin cfg0.N) : FVec F S1x512x512 .f32 :=
  if t.val % 9 = 8 then k0_pay7 (KC m c (prev t))
  else keysT (iblk m c 0 t) (iblk m c 1 t) (iblk m c 2 t) (if t.val % 9 = 0 then firstK (iblk m c 14 t) else KC m c (prev t))
/-- The values stored at a point. -/
def A18 (c : Dev nD) (t : Fin cfg0.N) : FVec F S1x512x512 .f32 :=
  if t.val % 9 = 8 then k0_pay8 (VC m c (prev t))
  else valsT (iblk m c 0 t) (iblk m c 1 t) (iblk m c 2 t) (if t.val % 9 = 0 then firstV (iblk m c 15 t) else VC m c (prev t))

/-- A load of a rectangle of a whole staging buffer that holds `X`. -/
def ldw {s : Shape} {e : EltTy} {M : Memref sig .tc .vmem s e} (h : M.IsWhole) (X : s.Idx → Elt F e) (r : Rect s) :
    r.shape.Idx → Elt F e :=
  View.readAt (Elt F) M.view r.toLoadRect (h.unread X)

/-- It reads the contents at the rectangle's cells. -/
theorem ldw_eq {s : Shape} {e : EltTy} {M : Memref sig .tc .vmem s e} (h : M.IsWhole) (X : s.Idx → Elt F e) (r : Rect s) :
    ldw h X r = fun x => X (r.toLoadRect.idx x) :=
  funext fun x => h.readAt_unread X _ x

/-- A load of the whole buffer reads its contents. -/
theorem ldw_whole {s : Shape} {e : EltTy} {M : Memref sig .tc .vmem s e} (h : M.IsWhole) (X : s.Idx → Elt F e)
    {off : Fin s.rank → Nat} (inb : ∀ a, off a + s.size a ≤ s.size a) (h0 : ∀ a, off a = 0) :
    ldw h X (Rect.unit off s.size inb) = X :=
  funext fun x => (congrFun (ldw_eq h X _) x).trans (congrFun (View.ld_unit_lit inb X h0) x)

theorem zero2 : ∀ a : Fin 2, (![0, 0] : Fin 2 → Nat) a = 0 := by decide
theorem zero3 : ∀ a : Fin 3, (![0, 0, 0] : Fin 3 → Nat) a = 0 := by decide

/-- The last rows over what the body loads. -/
theorem lastRows_ld {M0 : Memref sig .tc .vmem S1x512x1024 .f32} (h0 : M0.IsWhole) {M1 : Memref sig .tc .vmem S1x1024 .f32} (h1 : M1.IsWhole)
    {M2 : Memref sig .tc .vmem S1024x2688 .bf16} (h2 : M2.IsWhole) (x : Vec F S1x512x1024 .f32) (g : Vec F S1x1024 .f32) (w : Vec F S1024x2688 .bf16) :
    k0_pay19 (k0_pay12 (ldw h0 x (Rect.unit (s := S1x512x1024) ![0, 0, 0] S1x512x1024.size inb_S1x512x1024_S1x512x1024_0_0_0))
      (ldw h1 g (Rect.unit (s := S1x1024) ![0, 0] S1x1024.size inb_S1x1024_S1x1024_0_0)) (ldw h2 w rx)) = lastRows x g w := by
  rw [ldw_whole h0 x _ zero3, ldw_whole h1 g _ zero2, ldw_eq h2 w rx]; rfl

/-- The log gates over what the body loads. -/
theorem logGates_ld {M0 : Memref sig .tc .vmem S1x512x1024 .f32} (h0 : M0.IsWhole) {M1 : Memref sig .tc .vmem S1x1024 .f32} (h1 : M1.IsWhole)
    {M2 : Memref sig .tc .vmem S1024x2688 .bf16} (h2 : M2.IsWhole) {M3 : Memref sig .tc .vmem S8x1 .f32} (h3 : M3.IsWhole)
    (x : Vec F S1x512x1024 .f32) (g : Vec F S1x1024 .f32) (w : Vec F S1024x2688 .bf16) (b : Vec F S8x1 .f32) :
    k0_pay493 (k0_pay30 (k0_pay10 (ldw h0 x (Rect.unit (s := S1x512x1024) ![0, 0, 0] S1x512x1024.size inb_S1x512x1024_S1x512x1024_0_0_0))
      (ldw h1 g (Rect.unit (s := S1x1024) ![0, 0] S1x1024.size inb_S1x1024_S1x1024_0_0))) (ldw h2 w rf))
      (ldw h3 b (Rect.unit (s := S8x1) ![0, 0] S8x1.size inb_S8x1_S8x1_0_0)) = logGates x g w b := by
  rw [ldw_whole h0 x _ zero3, ldw_whole h1 g _ zero2, ldw_eq h2 w rf, ldw_whole h3 b _ zero2]; rfl

/-- The keys over what the body loads. -/
theorem keysT_ld {M0 : Memref sig .tc .vmem S1x512x1024 .f32} (h0 : M0.IsWhole) {M1 : Memref sig .tc .vmem S1x1024 .f32} (h1 : M1.IsWhole)
    {M2 : Memref sig .tc .vmem S1024x2688 .bf16} (h2 : M2.IsWhole) (x : Vec F S1x512x1024 .f32) (g : Vec F S1x1024 .f32) (w : Vec F S1024x2688 .bf16) {v v' : Vec F S16x512 .f32} (hv : v = v') :
    k0_pay34 (k0_pay10 (ldw h0 x (Rect.unit (s := S1x512x1024) ![0, 0, 0] S1x512x1024.size inb_S1x512x1024_S1x512x1024_0_0_0))
      (ldw h1 g (Rect.unit (s := S1x1024) ![0, 0] S1x1024.size inb_S1x1024_S1x1024_0_0))) (ldw h2 w rk) v = keysT x g w v' := by
  subst hv; rw [ldw_whole h0 x _ zero3, ldw_whole h1 g _ zero2, ldw_eq h2 w rk]; rfl

/-- The values over what the body loads. -/
theorem valsT_ld {M0 : Memref sig .tc .vmem S1x512x1024 .f32} (h0 : M0.IsWhole) {M1 : Memref sig .tc .vmem S1x1024 .f32} (h1 : M1.IsWhole)
    {M2 : Memref sig .tc .vmem S1024x2688 .bf16} (h2 : M2.IsWhole) (x : Vec F S1x512x1024 .f32) (g : Vec F S1x1024 .f32) (w : Vec F S1024x2688 .bf16) {v v' : Vec F S16x512 .f32} (hv : v = v') :
    k0_pay489 (k0_pay488 (k0_pay29 (k0_pay10 (ldw h0 x (Rect.unit (s := S1x512x1024) ![0, 0, 0] S1x512x1024.size inb_S1x512x1024_S1x512x1024_0_0_0))
      (ldw h1 g (Rect.unit (s := S1x1024) ![0, 0] S1x1024.size inb_S1x1024_S1x1024_0_0))) (ldw h2 w rv)) v) = valsT x g w v' := by
  subst hv; rw [ldw_whole h0 x _ zero3, ldw_whole h1 g _ zero2, ldw_eq h2 w rv]; rfl

/-- The carried keys over what the body loads. -/
theorem keysC_ld {M0 : Memref sig .tc .vmem S1x512x1024 .f32} (h0 : M0.IsWhole) {M1 : Memref sig .tc .vmem S1x1024 .f32} (h1 : M1.IsWhole)
    {M2 : Memref sig .tc .vmem S1024x2688 .bf16} (h2 : M2.IsWhole) (x : Vec F S1x512x1024 .f32) (g : Vec F S1x1024 .f32) (w : Vec F S1024x2688 .bf16) :
    k0_pay35 (k0_pay10 (ldw h0 x (Rect.unit (s := S1x512x1024) ![0, 0, 0] S1x512x1024.size inb_S1x512x1024_S1x512x1024_0_0_0))
      (ldw h1 g (Rect.unit (s := S1x1024) ![0, 0] S1x1024.size inb_S1x1024_S1x1024_0_0))) (ldw h2 w rk) = keysC x g w := by
  rw [ldw_whole h0 x _ zero3, ldw_whole h1 g _ zero2, ldw_eq h2 w rk]; rfl

/-- The carried values over what the body loads. -/
theorem valsC_ld {M0 : Memref sig .tc .vmem S1x512x1024 .f32} (h0 : M0.IsWhole) {M1 : Memref sig .tc .vmem S1x1024 .f32} (h1 : M1.IsWhole)
    {M2 : Memref sig .tc .vmem S1024x2688 .bf16} (h2 : M2.IsWhole) (x : Vec F S1x512x1024 .f32) (g : Vec F S1x1024 .f32) (w : Vec F S1024x2688 .bf16) :
    k0_pay490 (k0_pay29 (k0_pay10 (ldw h0 x (Rect.unit (s := S1x512x1024) ![0, 0, 0] S1x512x1024.size inb_S1x512x1024_S1x512x1024_0_0_0))
      (ldw h1 g (Rect.unit (s := S1x1024) ![0, 0] S1x1024.size inb_S1x1024_S1x1024_0_0))) (ldw h2 w rv)) = valsC x g w := by
  rw [ldw_whole h0 x _ zero3, ldw_whole h1 g _ zero2, ldw_eq h2 w rv]; rfl

/-- A store of a whole buffer is what a load of it then reads. -/
theorem cov_first {M : Memref sig .tc .vmem S128x512 .f32} (h : M.IsWhole) (a : Vec F S128x512 .f32) (v : View sig .tc .vmem S16x512 .f32)
    {p q : Vec F S16x512 .f32 → FVec F S16x512 .f32} (hq : p (fun y => a (rm.toLoadRect.idx y)) = q (fun y => a (rm.toLoadRect.idx y))) :
    v.readCov [(⟨Rect.unit (s := S16x512) ![0, 0] S16x512.size inb_S16x512_S16x512_0_0, p (ldw h a rm)⟩ : View.Piece (Elt F) S16x512 .f32)]
      (Rect.unit (s := S16x512) ![0, 0] S16x512.size inb_S16x512_S16x512_0_0).toLoadRect = q (fun y => a (rm.toLoadRect.idx y)) := by
  rw [View.readCov_cons_toLoadRect, ldw_eq h a rm]; exact hq

/-- A last store over a whole buffer leaves it at what is stored. -/
theorem read_one {s : Shape} {e : EltTy} (v : View sig .tc .vmem s e) (f : v.ty.Contents (Elt F)) {L : List (View.Piece (Elt F) s e)}
    {off : Fin s.rank → Nat} {inb : ∀ a, off a + s.size a ≤ s.size a} {w w' : s.Idx → Elt F e}
    {rest : List (View.Piece (Elt F) s e)}
    (h : L = ⟨Rect.unit off s.size inb, w⟩ :: rest) (h0 : ∀ a, off a = 0) (hw : w = w') (hc : ∀ y, ∃ pc ∈ L, y ∈ pc.1.set) :
    v.read (Elt F) (v.writes (Elt F) f L) = w' := by
  rw [View.read_writes_eq_canon _ _ _ hc, h, View.canon_cons_unit_lit _ _ _ h0, hw]

abbrev ro : Rect S1x8x512 := Rect.unit (s := S1x8x512) ![0, 0, 0] S1x8x512.size inb_S1x8x512_S1x8x512_0_0_0

/-! ## The runs at the call's own buffers -/

/-- The run at the first point of a sequence. -/
def rA (c : Dev nD) (t : Fin cfg0.N) (h0 : cond0_0 (grid0.coords t)) (h1 : ¬cond0_1 (grid0.coords t)) (h2 : cond0_2 (grid0.coords t)) :=
  runA c (grid0.coords t)
  (ms0_0 t) (hs0_0 t) (ms0_1 t) (hs0_1 t) (ms0_2 t) (hs0_2 t) (ms0_3 t) (hs0_3 t) (ms0_4 t) (hs0_4 t) (ms0_5 t) (hs0_5
  t) (ms0_6 t) (hs0_6 t) (ms0_7 t) (hs0_7 t) (ms0_8 t) (hs0_8 t) (ms0_9 t) (hs0_9 t) (ms0_10 t) (hs0_10 t) (ms0_11 t)
  (hs0_11 t) (ms0_12 t) (hs0_12 t) (ms0_13 t) (hs0_13 t) (ms0_14 t) (hs0_14 t) (ms0_15 t) (hs0_15 t) (ms0_16 t)
  (hs0_16 t) (ms0_17 t) (hs0_17 t) (ms0_18 t) (hs0_18 t) (ms0_19 t) (hs0_19 t) (ms0_20 t) (hs0_20 t) (ms0_21 t)
  (hs0_21 t) (ms0_22 t) (hs0_22 t) (ms0_23 t) (hs0_23 t) (ms0_24 t) (hs0_24 t) (ms0_25 t) (hs0_25 t) scM0_0
  (Memref.isWhole_whole _) scM0_1 (Memref.isWhole_whole _) scM0_2 (Memref.isWhole_whole _) scM0_3
  (Memref.isWhole_whole _) scM0_4 (Memref.isWhole_whole _) h0 h1 h2 (iblk m c 0 t) (iblk m c 1 t) (iblk m c 2 t) (iblk
  m c 3 t) (iblk m c 4 t) (iblk m c 5 t) (iblk m c 6 t) (iblk m c 7 t) (iblk m c 8 t) (iblk m c 9 t) (iblk m c 10 t)
  (iblk m c 11 t) (iblk m c 12 t) (iblk m c 13 t) (iblk m c 14 t) (iblk m c 15 t)

/-- The run at a later block of a sequence. -/
def rB (c : Dev nD) (t : Fin cfg0.N) (h0 : ¬cond0_0 (grid0.coords t)) (h1 : ¬cond0_1 (grid0.coords t)) (h2 : cond0_2 (grid0.coords t))
    (xs0 : Vec F S520x512 .f32) (xs1 : Vec F S1x512 .f32) (xs2 : Vec F S8x1 .f32) (xs3 : Vec F S16x512 .f32) (xs4 : Vec F S16x512 .f32) :=
  runB c (grid0.coords t)
  (ms0_0 t) (hs0_0 t) (ms0_1 t) (hs0_1 t) (ms0_2 t) (hs0_2 t) (ms0_3 t) (hs0_3 t) (ms0_4 t) (hs0_4 t) (ms0_5 t) (hs0_5
  t) (ms0_6 t) (hs0_6 t) (ms0_7 t) (hs0_7 t) (ms0_8 t) (hs0_8 t) (ms0_9 t) (hs0_9 t) (ms0_10 t) (hs0_10 t) (ms0_11 t)
  (hs0_11 t) (ms0_12 t) (hs0_12 t) (ms0_13 t) (hs0_13 t) (ms0_14 t) (hs0_14 t) (ms0_15 t) (hs0_15 t) (ms0_16 t)
  (hs0_16 t) (ms0_17 t) (hs0_17 t) (ms0_18 t) (hs0_18 t) (ms0_19 t) (hs0_19 t) (ms0_20 t) (hs0_20 t) (ms0_21 t)
  (hs0_21 t) (ms0_22 t) (hs0_22 t) (ms0_23 t) (hs0_23 t) (ms0_24 t) (hs0_24 t) (ms0_25 t) (hs0_25 t) scM0_0
  (Memref.isWhole_whole _) scM0_1 (Memref.isWhole_whole _) scM0_2 (Memref.isWhole_whole _) scM0_3
  (Memref.isWhole_whole _) scM0_4 (Memref.isWhole_whole _) h0 h1 h2 (iblk m c 0 t) (iblk m c 1 t) (iblk m c 2 t) (iblk
  m c 3 t) (iblk m c 4 t) (iblk m c 5 t) (iblk m c 6 t) (iblk m c 7 t) (iblk m c 8 t) (iblk m c 9 t) (iblk m c 10 t)
  (iblk m c 11 t) (iblk m c 12 t) (iblk m c 13 t) (iblk m c 14 t) (iblk m c 15 t) xs0 xs1 xs2 xs3 xs4

/-- The run at the last point of a sequence. -/
def rC (c : Dev nD) (t : Fin cfg0.N) (h0 : ¬cond0_0 (grid0.coords t)) (h1 : cond0_1 (grid0.coords t)) (h2 : ¬cond0_2 (grid0.coords t))
    (xo16 : Vec F S1x512x512 .bf16) (xo19 : Vec F S1x512x512 .bf16) (xo20 : Vec F S1x512x512 .bf16) (xo21 : Vec F S1x8x512 .f32)
    (xo22 : Vec F S1x32x512 .bf16) (xo23 : Vec F S1x512x512 .bf16) (xo24 : Vec F S1x1x512 .f32) (xo25 : Vec F S1x8x512 .f32)
    (xs0 : Vec F S520x512 .f32) (xs1 : Vec F S1x512 .f32) (xs2 : Vec F S8x1 .f32) (xs3 : Vec F S16x512 .f32) (xs4 : Vec F S16x512 .f32) :=
  runC c (grid0.coords t)
  (ms0_0 t) (hs0_0 t) (ms0_1 t) (hs0_1 t) (ms0_2 t) (hs0_2 t) (ms0_3 t) (hs0_3 t) (ms0_4 t) (hs0_4 t) (ms0_5 t) (hs0_5
  t) (ms0_6 t) (hs0_6 t) (ms0_7 t) (hs0_7 t) (ms0_8 t) (hs0_8 t) (ms0_9 t) (hs0_9 t) (ms0_10 t) (hs0_10 t) (ms0_11 t)
  (hs0_11 t) (ms0_12 t) (hs0_12 t) (ms0_13 t) (hs0_13 t) (ms0_14 t) (hs0_14 t) (ms0_15 t) (hs0_15 t) (ms0_16 t)
  (hs0_16 t) (ms0_17 t) (hs0_17 t) (ms0_18 t) (hs0_18 t) (ms0_19 t) (hs0_19 t) (ms0_20 t) (hs0_20 t) (ms0_21 t)
  (hs0_21 t) (ms0_22 t) (hs0_22 t) (ms0_23 t) (hs0_23 t) (ms0_24 t) (hs0_24 t) (ms0_25 t) (hs0_25 t) scM0_0
  (Memref.isWhole_whole _) scM0_1 (Memref.isWhole_whole _) scM0_2 (Memref.isWhole_whole _) scM0_3
  (Memref.isWhole_whole _) scM0_4 (Memref.isWhole_whole _) h0 h1 h2 (iblk m c 0 t) (iblk m c 1 t) (iblk m c 2 t) (iblk
  m c 3 t) (iblk m c 4 t) (iblk m c 5 t) (iblk m c 6 t) (iblk m c 7 t) (iblk m c 8 t) (iblk m c 9 t) (iblk m c 10 t)
  (iblk m c 11 t) (iblk m c 12 t) (iblk m c 13 t) (iblk m c 14 t) (iblk m c 15 t) xo16 xo19 xo20 xo21 xo22 xo23 xo24
  xo25 xs0 xs1 xs2 xs3 xs4

theorem A17_first (c : Dev nD) (t : Fin cfg0.N) (h : t.val % 9 = 0) :
    A17 m c t = keysT (iblk m c 0 t) (iblk m c 1 t) (iblk m c 2 t) (firstK (iblk m c 14 t)) := by
  unfold A17; rw [if_neg (by omega), if_pos h]
theorem A18_first (c : Dev nD) (t : Fin cfg0.N) (h : t.val % 9 = 0) :
    A18 m c t = valsT (iblk m c 0 t) (iblk m c 1 t) (iblk m c 2 t) (firstV (iblk m c 15 t)) := by
  unfold A18; rw [if_neg (by omega), if_pos h]
theorem A17_later (c : Dev nD) (t : Fin cfg0.N) (h : t.val % 9 ≠ 0) (h8 : t.val % 9 ≠ 8) :
    A17 m c t = keysT (iblk m c 0 t) (iblk m c 1 t) (iblk m c 2 t) (KC m c (prev t)) := by
  unfold A17; rw [if_neg h8, if_neg h]
theorem A18_later (c : Dev nD) (t : Fin cfg0.N) (h : t.val % 9 ≠ 0) (h8 : t.val % 9 ≠ 8) :
    A18 m c t = valsT (iblk m c 0 t) (iblk m c 1 t) (iblk m c 2 t) (VC m c (prev t)) := by
  unfold A18; rw [if_neg h8, if_neg h]
theorem A17_last (c : Dev nD) (t : Fin cfg0.N) (h : t.val % 9 = 8) : A17 m c t = k0_pay7 (KC m c (prev t)) := by
  unfold A17; rw [if_pos h]
theorem A18_last (c : Dev nD) (t : Fin cfg0.N) (h : t.val % 9 = 8) : A18 m c t = k0_pay8 (VC m c (prev t)) := by
  unfold A18; rw [if_pos h]

theorem readA17 (c : Dev nD) (t : Fin cfg0.N) (h0 : cond0_0 (grid0.coords t)) (h1 : ¬cond0_1 (grid0.coords t)) (h2 : cond0_2 (grid0.coords t)) (hz : t.val % 9 = 0) (f) :
    (ms0_17 t).view.read (Elt F) ((ms0_17 t).view.writes (Elt F) f (rA m c t h0 h1 h2).2.1) = A17 m c t :=
  read_one (inb := inb_S1x512x512_S1x512x512_0_0_0) _ _ rfl zero3 ((keysT_ld (hs0_0 t) (hs0_1 t) (hs0_2 t) _ _ _ (cov_first (p := k0_pay4) (hs0_14 t) _ _ rfl)).trans (A17_first m c t hz).symm)
    (fun y => View.cover_of_tiledL (rA m c t h0 h1 h2).2.1 S1x512x512.size (by sl_kernel_rfl) y)

theorem readA18 (c : Dev nD) (t : Fin cfg0.N) (h0 : cond0_0 (grid0.coords t)) (h1 : ¬cond0_1 (grid0.coords t)) (h2 : cond0_2 (grid0.coords t)) (hz : t.val % 9 = 0) (f) :
    (ms0_18 t).view.read (Elt F) ((ms0_18 t).view.writes (Elt F) f (rA m c t h0 h1 h2).2.2.1) = A18 m c t :=
  read_one (inb := inb_S1x512x512_S1x512x512_0_0_0) _ _ rfl zero3 ((valsT_ld (hs0_0 t) (hs0_1 t) (hs0_2 t) _ _ _ (cov_first (p := k0_pay5) (hs0_15 t) _ _ rfl)).trans (A18_first m c t hz).symm)
    (fun y => View.cover_of_tiledL (rA m c t h0 h1 h2).2.2.1 S1x512x512.size (by sl_kernel_rfl) y)

theorem readA21 (c : Dev nD) (t : Fin cfg0.N) (h0 : cond0_0 (grid0.coords t)) (h1 : ¬cond0_1 (grid0.coords t)) (h2 : cond0_2 (grid0.coords t)) (f) :
    (ms0_21 t).view.read (Elt F) ((ms0_21 t).view.writes (Elt F) f (rA m c t h0 h1 h2).2.2.2.2.2.1) = A21 m c t :=
  read_one (inb := inb_S1x8x512_S1x8x512_0_0_0) _ _ rfl zero3 (logGates_ld (hs0_0 t) (hs0_1 t) (hs0_2 t) (hs0_3 t) _ _ _ _)
    (fun y => View.cover_of_tiledL (rA m c t h0 h1 h2).2.2.2.2.2.1 S1x8x512.size (by sl_kernel_rfl) y)

theorem readA25 (c : Dev nD) (t : Fin cfg0.N) (h0 : cond0_0 (grid0.coords t)) (h1 : ¬cond0_1 (grid0.coords t)) (h2 : cond0_2 (grid0.coords t)) (f) :
    (ms0_25 t).view.read (Elt F) ((ms0_25 t).view.writes (Elt F) f (rA m c t h0 h1 h2).2.2.2.2.2.2.2.2.2.1) = A25 m c t :=
  read_one (inb := inb_S1x8x512_S1x8x512_0_0_0) _ _ rfl zero3 (lastRows_ld (hs0_0 t) (hs0_1 t) (hs0_2 t) _ _ _)
    (fun y => View.cover_of_tiledL (rA m c t h0 h1 h2).2.2.2.2.2.2.2.2.2.1 S1x8x512.size (by sl_kernel_rfl) y)

theorem readAK (c : Dev nD) (t : Fin cfg0.N) (h0 : cond0_0 (grid0.coords t)) (h1 : ¬cond0_1 (grid0.coords t)) (h2 : cond0_2 (grid0.coords t)) (f) :
    scM0_3.view.read (Elt F) (scM0_3.view.writes (Elt F) f (rA m c t h0 h1 h2).2.2.2.2.2.2.2.2.2.2.2.2.2.1) = KC m c t :=
  read_one (inb := inb_S16x512_S16x512_0_0) _ _ rfl zero2 (keysC_ld (hs0_0 t) (hs0_1 t) (hs0_2 t) _ _ _)
    (fun y => View.cover_of_tiledL (rA m c t h0 h1 h2).2.2.2.2.2.2.2.2.2.2.2.2.2.1 S16x512.size (by sl_kernel_rfl) y)

theorem readAV (c : Dev nD) (t : Fin cfg0.N) (h0 : cond0_0 (grid0.coords t)) (h1 : ¬cond0_1 (grid0.coords t)) (h2 : cond0_2 (grid0.coords t)) (f) :
    scM0_4.view.read (Elt F) (scM0_4.view.writes (Elt F) f (rA m c t h0 h1 h2).2.2.2.2.2.2.2.2.2.2.2.2.2.2.1) = VC m c t :=
  read_one (inb := inb_S16x512_S16x512_0_0) _ _ rfl zero2 (valsC_ld (hs0_0 t) (hs0_1 t) (hs0_2 t) _ _ _)
    (fun y => View.cover_of_tiledL (rA m c t h0 h1 h2).2.2.2.2.2.2.2.2.2.2.2.2.2.2.1 S16x512.size (by sl_kernel_rfl) y)

theorem readB17 (c : Dev nD) (t : Fin cfg0.N) (h0 : ¬cond0_0 (grid0.coords t)) (h1 : ¬cond0_1 (grid0.coords t)) (h2 : cond0_2 (grid0.coords t))
    (xs0 : Vec F S520x512 .f32) (xs1 : Vec F S1x512 .f32) (xs2 : Vec F S8x1 .f32) (xs3 : Vec F S16x512 .f32) (xs4 : Vec F S16x512 .f32) (hz : t.val % 9 ≠ 0) (h8 : t.val % 9 ≠ 8) (hx : xs3 = KC m c (prev t)) (f) :
    (ms0_17 t).view.read (Elt F) ((ms0_17 t).view.writes (Elt F) f (rB m c t h0 h1 h2 xs0 xs1 xs2 xs3 xs4).2.1) = A17 m c t :=
  read_one (inb := inb_S1x512x512_S1x512x512_0_0_0) _ _ rfl zero3 ((keysT_ld (hs0_0 t) (hs0_1 t) (hs0_2 t) _ _ _ ((ldw_whole (Memref.isWhole_whole _) xs3 inb_S16x512_S16x512_0_0 zero2).trans hx)).trans (A17_later m c t hz h8).symm)
    (fun y => View.cover_of_tiledL (rB m c t h0 h1 h2 xs0 xs1 xs2 xs3 xs4).2.1 S1x512x512.size (by sl_kernel_rfl) y)

theorem readB18 (c : Dev nD) (t : Fin cfg0.N) (h0 : ¬cond0_0 (grid0.coords t)) (h1 : ¬cond0_1 (grid0.coords t)) (h2 : cond0_2 (grid0.coords t))
    (xs0 : Vec F S520x512 .f32) (xs1 : Vec F S1x512 .f32) (xs2 : Vec F S8x1 .f32) (xs3 : Vec F S16x512 .f32) (xs4 : Vec F S16x512 .f32) (hz : t.val % 9 ≠ 0) (h8 : t.val % 9 ≠ 8) (hx : xs4 = VC m c (prev t)) (f) :
    (ms0_18 t).view.read (Elt F) ((ms0_18 t).view.writes (Elt F) f (rB m c t h0 h1 h2 xs0 xs1 xs2 xs3 xs4).2.2.1) = A18 m c t :=
  read_one (inb := inb_S1x512x512_S1x512x512_0_0_0) _ _ rfl zero3 ((valsT_ld (hs0_0 t) (hs0_1 t) (hs0_2 t) _ _ _ ((ldw_whole (Memref.isWhole_whole _) xs4 inb_S16x512_S16x512_0_0 zero2).trans hx)).trans (A18_later m c t hz h8).symm)
    (fun y => View.cover_of_tiledL (rB m c t h0 h1 h2 xs0 xs1 xs2 xs3 xs4).2.2.1 S1x512x512.size (by sl_kernel_rfl) y)

theorem readB21 (c : Dev nD) (t : Fin cfg0.N) (h0 : ¬cond0_0 (grid0.coords t)) (h1 : ¬cond0_1 (grid0.coords t)) (h2 : cond0_2 (grid0.coords t))
    (xs0 : Vec F S520x512 .f32) (xs1 : Vec F S1x512 .f32) (xs2 : Vec F S8x1 .f32) (xs3 : Vec F S16x512 .f32) (xs4 : Vec F S16x512 .f32) (f) :
    (ms0_21 t).view.read (Elt F) ((ms0_21 t).view.writes (Elt F) f (rB m c t h0 h1 h2 xs0 xs1 xs2 xs3 xs4).2.2.2.2.2.1) = A21 m c t :=
  read_one (inb := inb_S1x8x512_S1x8x512_0_0_0) _ _ rfl zero3 (logGates_ld (hs0_0 t) (hs0_1 t) (hs0_2 t) (hs0_3 t) _ _ _ _)
    (fun y => View.cover_of_tiledL (rB m c t h0 h1 h2 xs0 xs1 xs2 xs3 xs4).2.2.2.2.2.1 S1x8x512.size (by sl_kernel_rfl) y)

theorem readB25 (c : Dev nD) (t : Fin cfg0.N) (h0 : ¬cond0_0 (grid0.coords t)) (h1 : ¬cond0_1 (grid0.coords t)) (h2 : cond0_2 (grid0.coords t))
    (xs0 : Vec F S520x512 .f32) (xs1 : Vec F S1x512 .f32) (xs2 : Vec F S8x1 .f32) (xs3 : Vec F S16x512 .f32) (xs4 : Vec F S16x512 .f32) (f) :
    (ms0_25 t).view.read (Elt F) ((ms0_25 t).view.writes (Elt F) f (rB m c t h0 h1 h2 xs0 xs1 xs2 xs3 xs4).2.2.2.2.2.2.2.2.2.1) = A25 m c t :=
  read_one (inb := inb_S1x8x512_S1x8x512_0_0_0) _ _ rfl zero3 (lastRows_ld (hs0_0 t) (hs0_1 t) (hs0_2 t) _ _ _)
    (fun y => View.cover_of_tiledL (rB m c t h0 h1 h2 xs0 xs1 xs2 xs3 xs4).2.2.2.2.2.2.2.2.2.1 S1x8x512.size (by sl_kernel_rfl) y)

theorem readBK (c : Dev nD) (t : Fin cfg0.N) (h0 : ¬cond0_0 (grid0.coords t)) (h1 : ¬cond0_1 (grid0.coords t)) (h2 : cond0_2 (grid0.coords t))
    (xs0 : Vec F S520x512 .f32) (xs1 : Vec F S1x512 .f32) (xs2 : Vec F S8x1 .f32) (xs3 : Vec F S16x512 .f32) (xs4 : Vec F S16x512 .f32) (f) :
    scM0_3.view.read (Elt F) (scM0_3.view.writes (Elt F) f (rB m c t h0 h1 h2 xs0 xs1 xs2 xs3 xs4).2.2.2.2.2.2.2.2.2.2.2.2.2.1) = KC m c t :=
  read_one (inb := inb_S16x512_S16x512_0_0) _ _ rfl zero2 (keysC_ld (hs0_0 t) (hs0_1 t) (hs0_2 t) _ _ _)
    (fun y => View.cover_of_tiledL (rB m c t h0 h1 h2 xs0 xs1 xs2 xs3 xs4).2.2.2.2.2.2.2.2.2.2.2.2.2.1 S16x512.size (by sl_kernel_rfl) y)

theorem readBV (c : Dev nD) (t : Fin cfg0.N) (h0 : ¬cond0_0 (grid0.coords t)) (h1 : ¬cond0_1 (grid0.coords t)) (h2 : cond0_2 (grid0.coords t))
    (xs0 : Vec F S520x512 .f32) (xs1 : Vec F S1x512 .f32) (xs2 : Vec F S8x1 .f32) (xs3 : Vec F S16x512 .f32) (xs4 : Vec F S16x512 .f32) (f) :
    scM0_4.view.read (Elt F) (scM0_4.view.writes (Elt F) f (rB m c t h0 h1 h2 xs0 xs1 xs2 xs3 xs4).2.2.2.2.2.2.2.2.2.2.2.2.2.2.1) = VC m c t :=
  read_one (inb := inb_S16x512_S16x512_0_0) _ _ rfl zero2 (valsC_ld (hs0_0 t) (hs0_1 t) (hs0_2 t) _ _ _)
    (fun y => View.cover_of_tiledL (rB m c t h0 h1 h2 xs0 xs1 xs2 xs3 xs4).2.2.2.2.2.2.2.2.2.2.2.2.2.2.1 S16x512.size (by sl_kernel_rfl) y)

theorem readC17 (c : Dev nD) (t : Fin cfg0.N) (h0 : ¬cond0_0 (grid0.coords t)) (h1 : cond0_1 (grid0.coords t)) (h2 : ¬cond0_2 (grid0.coords t))
    (xo16 : Vec F S1x512x512 .bf16) (xo19 : Vec F S1x512x512 .bf16) (xo20 : Vec F S1x512x512 .bf16) (xo21 : Vec F S1x8x512 .f32)
    (xo22 : Vec F S1x32x512 .bf16) (xo23 : Vec F S1x512x512 .bf16) (xo24 : Vec F S1x1x512 .f32) (xo25 : Vec F S1x8x512 .f32)
    (xs0 : Vec F S520x512 .f32) (xs1 : Vec F S1x512 .f32) (xs2 : Vec F S8x1 .f32) (xs3 : Vec F S16x512 .f32) (xs4 : Vec F S16x512 .f32)
    (h8 : t.val % 9 = 8) (hx : xs3 = KC m c (prev t)) (f) :
    (ms0_17 t).view.read (Elt F) ((ms0_17 t).view.writes (Elt F) f (rC m c t h0 h1 h2 xo16 xo19 xo20 xo21 xo22 xo23 xo24 xo25 xs0 xs1 xs2 xs3 xs4).2.1) = A17 m c t :=
  read_one (inb := inb_S1x512x512_S1x512x512_0_0_0) _ _ rfl zero3
    ((congrArg k0_pay7 ((ldw_whole (Memref.isWhole_whole _) xs3 inb_S16x512_S16x512_0_0 zero2).trans hx)).trans (A17_last m c t h8).symm)
    (fun y => View.cover_of_tiledL (rC m c t h0 h1 h2 xo16 xo19 xo20 xo21 xo22 xo23 xo24 xo25 xs0 xs1 xs2 xs3 xs4).2.1 S1x512x512.size (by sl_kernel_rfl) y)

theorem readC18 (c : Dev nD) (t : Fin cfg0.N) (h0 : ¬cond0_0 (grid0.coords t)) (h1 : cond0_1 (grid0.coords t)) (h2 : ¬cond0_2 (grid0.coords t))
    (xo16 : Vec F S1x512x512 .bf16) (xo19 : Vec F S1x512x512 .bf16) (xo20 : Vec F S1x512x512 .bf16) (xo21 : Vec F S1x8x512 .f32)
    (xo22 : Vec F S1x32x512 .bf16) (xo23 : Vec F S1x512x512 .bf16) (xo24 : Vec F S1x1x512 .f32) (xo25 : Vec F S1x8x512 .f32)
    (xs0 : Vec F S520x512 .f32) (xs1 : Vec F S1x512 .f32) (xs2 : Vec F S8x1 .f32) (xs3 : Vec F S16x512 .f32) (xs4 : Vec F S16x512 .f32)
    (h8 : t.val % 9 = 8) (hx : xs4 = VC m c (prev t)) (f) :
    (ms0_18 t).view.read (Elt F) ((ms0_18 t).view.writes (Elt F) f (rC m c t h0 h1 h2 xo16 xo19 xo20 xo21 xo22 xo23 xo24 xo25 xs0 xs1 xs2 xs3 xs4).2.2.1) = A18 m c t :=
  read_one (inb := inb_S1x512x512_S1x512x512_0_0_0) _ _ rfl zero3
    ((congrArg k0_pay8 ((ldw_whole (Memref.isWhole_whole _) xs4 inb_S16x512_S16x512_0_0 zero2).trans hx)).trans (A18_last m c t h8).symm)
    (fun y => View.cover_of_tiledL (rC m c t h0 h1 h2 xo16 xo19 xo20 xo21 xo22 xo23 xo24 xo25 xs0 xs1 xs2 xs3 xs4).2.2.1 S1x512x512.size (by sl_kernel_rfl) y)

-- from here on the runs are used through their types and the reads above
attribute [local irreducible] rA rB rC A17 A18 A21 A25 KC VC

/-! ## The call's proof data -/

/-- The result arrays of which nothing is named. -/
def forgets0 : Fin 26 → Bool := fun w => w.val == 16 || w.val == 19 || w.val == 20 || w.val == 22 || w.val == 23 || w.val == 24

/-- What the body finds in its scratch: at the first point anything; later the keys and values the point before carried over,
and anything else. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d)
      ∗ (∃ d, owns (c : Thread nD τ) scM0_2 fullShare d) ∗ owns (c : Thread nD τ) scM0_3 fullShare (KC m c ⟨n, hn⟩)
      ∗ owns (c : Thread nD τ) scM0_4 fullShare (VC m c ⟨n, hn⟩)) ∗ (∃ r, prngReg c r))

theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d)
      ∗ (∃ d, owns (c : Thread nD τ) scM0_2 fullShare d) ∗ owns (c : Thread nD τ) scM0_3 fullShare (KC m c ⟨n, hn⟩)
      ∗ owns (c : Thread nD τ) scM0_4 fullShare (VC m c ⟨n, hn⟩)) ∗ (∃ r, prngReg c r)) := rfl

theorem PhiS_pos (c : Dev nD) (t : Fin cfg0.N) (h : t.val ≠ 0) :
    PhiS m c t.val (Nat.le_of_lt t.isLt) = iprop(iprop((∃ d, owns (c : Thread nD τ) scM0_0 fullShare d) ∗ (∃ d, owns (c : Thread nD τ) scM0_1 fullShare d)
      ∗ (∃ d, owns (c : Thread nD τ) scM0_2 fullShare d) ∗ owns (c : Thread nD τ) scM0_3 fullShare (KC m c (prev t))
      ∗ owns (c : Thread nD τ) scM0_4 fullShare (VC m c (prev t))) ∗ (∃ r, prngReg c r)) := by
  obtain ⟨n, hn⟩ := t
  cases n with
  | zero => exact absurd rfl h
  | succ n => rfl

/-- The carried rows forgotten. -/
theorem PhiS_out (c : Dev nD) (n : ℕ) (h : n ≤ cfg0.N) : PhiS m c n h ⊢ Pipeline.ΦA spec0 c := by
  cases n with
  | zero => exact Entails.refl _
  | succ n =>
    rw [PhiS_succ, PhiA0_eq]
    iintro ⟨⟨HS0, HS1, HS2, HS3, HS4⟩, Hg⟩
    isplitl [HS0 HS1 HS2 HS3 HS4]
    · isplitl [HS0]; · iexact HS0
      isplitl [HS1]; · iexact HS1
      isplitl [HS2]; · iexact HS2
      isplitl [HS3]; · iexists _; iexact HS3
      iexists _; iexact HS4
    iexact Hg

/-- The arrays as the call finds them; after the body each input's buffer at its block, the log gates' and the last rows' at
what the body stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, h⟩ => Pipeline.Dat.unnamed (cfg := cfg0) ⟨16, h⟩ t
    | ⟨17, _⟩ => A17 m c t
    | ⟨18, _⟩ => A18 m c t
    | ⟨19, h⟩ => Pipeline.Dat.unnamed (cfg := cfg0) ⟨19, h⟩ t
    | ⟨20, h⟩ => Pipeline.Dat.unnamed (cfg := cfg0) ⟨20, h⟩ t
    | ⟨21, _⟩ => A21 m c t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, _⟩ => A25 m c t
    | ⟨_ + 26, h⟩ => absurd h (Nat.not_lt.2 (Nat.le_add_left _ _))
  Φ t := PhiS m c t.val (Nat.le_of_lt_succ t.isLt)
  q _ := fullShare
  owed _ := 0

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_17 (c : Dev nD) (t : Fin cfg0.N) : (dats m 0 c).after 17 t = A17 m c t := by dsimp only [dats]
theorem after_18 (c : Dev nD) (t : Fin cfg0.N) : (dats m 0 c).after 18 t = A18 m c t := by dsimp only [dats]
theorem after_21 (c : Dev nD) (t : Fin cfg0.N) : (dats m 0 c).after 21 t = A21 m c t := by dsimp only [dats]
theorem after_25 (c : Dev nD) (t : Fin cfg0.N) : (dats m 0 c).after 25 t = A25 m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d

/-! ## The last point of a sequence, where the buffers keep what the point before left -/

/-- The blocks the stored values are computed from. -/
theorem idx : ∀ t : Fin cfg0.N, win0_0.index t = ![t.val / 9, min (t.val % 9) 7, 0] ∧ win0_1.index t = ![0, 0]
    ∧ win0_2.index t = ![0, 0] ∧ win0_3.index t = ![0, 0] :=
  (by decide +kernel : ∀ t : Fin grid0.N, _)

/-- The block of the prompt at a point. -/
theorem ib0 (c : Dev nD) (t : Fin cfg0.N) (y : S1x512x1024.Idx) :
    (iblk m c 0 t : Vec F S1x512x1024 .f32) y = (V m c main_arg0 : Vec F S4x4096x1024 .f32)
      (ix3 ⟨t.val / 9, by have := t.isLt; have : cfg0.N = 36 := N_0; omega⟩ ⟨min (t.val % 9) 7 * 512 + (y 1).val, by have : (y 1).val < 512 := (y 1).isLt; omega⟩ (y 2)) := by
  blk_ext [iblk, idx t]

theorem ib1 (c : Dev nD) (t : Fin cfg0.N) : iblk m c 1 t = V m c main_arg1 := by
  funext (y : S1x1024.Idx)
  blk_ext [iblk, idx t]

theorem ib2 (c : Dev nD) (t : Fin cfg0.N) : iblk m c 2 t = V m c main_v9 := by
  funext (y : S1024x2688.Idx)
  blk_ext [iblk, idx t]

theorem ib3 (c : Dev nD) (t : Fin cfg0.N) : iblk m c 3 t = V m c main_v47 := by
  funext (y : S8x1.Idx)
  blk_ext [iblk, idx t]

/-- At the last point of a sequence the prompt's block is the point before's. -/
theorem ib0_last (c : Dev nD) (t : Fin cfg0.N) (h : t.val % 9 = 8) :
    (iblk m c 0 t : Vec F S1x512x1024 .f32) = iblk m c 0 ⟨t.val - 1, Nat.lt_of_le_of_lt (Nat.sub_le _ _) t.isLt⟩ := by
  funext (y : S1x512x1024.Idx)
  rw [ib0, ib0]
  congr 2
  · exact Fin.ext (by show t.val / 9 = (t.val - 1) / 9; omega)
  · exact Fin.ext (by show min (t.val % 9) 7 * 512 + _ = min ((t.val - 1) % 9) 7 * 512 + _; omega)

unseal KC in
theorem keepK (c : Dev nD) (t : Fin cfg0.N) (h : t.val % 9 = 8) : KC m c t = KC m c (prev t) := by
  unfold KC; rw [ib0_last m c t h, ib1, ib1, ib2, ib2]

unseal VC in
theorem keepV (c : Dev nD) (t : Fin cfg0.N) (h : t.val % 9 = 8) : VC m c t = VC m c (prev t) := by
  unfold VC; rw [ib0_last m c t h, ib1, ib1, ib2, ib2]

unseal A21 in
theorem keep21 (c : Dev nD) (t : Fin cfg0.N) (h : t.val % 9 = 8) :
    A21 m c t = A21 m c ⟨t.val - 1, Nat.lt_of_le_of_lt (Nat.sub_le _ _) t.isLt⟩ := by
  unfold A21; rw [ib0_last m c t h, ib1, ib1, ib2, ib2, ib3, ib3]

unseal A25 in
theorem keep25 (c : Dev nD) (t : Fin cfg0.N) (h : t.val % 9 = 8) :
    A25 m c t = A25 m c ⟨t.val - 1, Nat.lt_of_le_of_lt (Nat.sub_le _ _) t.isLt⟩ := by
  unfold A25; rw [ib0_last m c t h, ib1, ib1, ib2, ib2]

/-- Whether a stored block is still in window 21's buffer, point by point. -/
def stale21 : ℕ → Bool
  | 0 => true
  | n + 1 => (0xbfdfeff7f : ℕ).testBit n
theorem stale21_step : ∀ t : Fin cfg0.N,
    stale21 (t.val + 1) = ((cfg0.win 21).flush t || (cfg0.idle 21 (cfg0.grid.coords t) && stale21 t.val)) := by decide +kernel
theorem fresh21 : ∀ t : Fin cfg0.N, t.val % 9 = 8 → cfg0.fresh 21 t.val = false := by
  intro t; rw [Pipeline.Cfg.fresh_tab cfg0 21 stale21 rfl stale21_step t.val (Nat.le_of_lt t.isLt)]; revert t; decide +kernel
theorem idle21 : ∀ t : Fin cfg0.N, cfg0.idle 21 (grid0.coords t) = true → t.val % 9 = 8 := by decide +kernel
theorem live21 : ∀ t : Fin cfg0.N, cfg0.idle 21 (grid0.coords t) = false ∨ (cfg0.idle 21 (grid0.coords t) = true ∧ (cfg0.win 21).flush t = true) := by
  decide +kernel

theorem carry21 (c : Dev nD) : ∀ (t : Fin cfg0.N) (_ : t.val ≠ 0), cfg0.idle 21 (grid0.coords t) = true → cfg0.fresh 21 t.val = false →
    (dats m 0 c).after 21 t = (dats m 0 c).after 21 ⟨t.val - 1, by omega⟩ := by
  intro t _ hi _
  rw [after_21, after_21]
  exact keep21 m c t (idle21 t hi)

/-- At the last point of a sequence the body finds the block already stored. -/
theorem before_21 (c : Dev nD) (t : Fin cfg0.N) (h : t.val % 9 = 8) (d) : (dats m 0 c).before 21 t d = A21 m c t := by
  rw [Dat.before_out_traj _ 21 rfl (fun _ _ => rfl) (carry21 m c) t.val t rfl d,
    if_neg (by rw [fresh21 t h]; exact Bool.false_ne_true), after_21]
  exact (keep21 m c t h).symm

theorem leaves_21 (c : Dev nD) (t : Fin cfg0.N) :
    (dats m 0 c).leavesExact 21 t = owns (c : Thread nD τ) (ms0_21 t) fullShare (A21 m c t) := by
  unfold Dat.leavesExact
  rcases live21 t with h | ⟨h, hf⟩
  · rw [h, after_21]
  · rw [h, hf, after_21]

/-- Whether a stored block is still in window 25's buffer, point by point. -/
def stale25 : ℕ → Bool
  | 0 => true
  | n + 1 => (0x804020100 : ℕ).testBit n
theorem stale25_step : ∀ t : Fin cfg0.N,
    stale25 (t.val + 1) = ((cfg0.win 25).flush t || (cfg0.idle 25 (cfg0.grid.coords t) && stale25 t.val)) := by decide +kernel
theorem fresh25 : ∀ t : Fin cfg0.N, t.val % 9 = 8 → cfg0.fresh 25 t.val = false := by
  intro t; rw [Pipeline.Cfg.fresh_tab cfg0 25 stale25 rfl stale25_step t.val (Nat.le_of_lt t.isLt)]; revert t; decide +kernel
theorem idle25 : ∀ t : Fin cfg0.N, cfg0.idle 25 (grid0.coords t) = true → t.val % 9 = 8 := by decide +kernel
theorem live25 : ∀ t : Fin cfg0.N, cfg0.idle 25 (grid0.coords t) = false ∨ (cfg0.idle 25 (grid0.coords t) = true ∧ (cfg0.win 25).flush t = true) := by
  decide +kernel

theorem carry25 (c : Dev nD) : ∀ (t : Fin cfg0.N) (_ : t.val ≠ 0), cfg0.idle 25 (grid0.coords t) = true → cfg0.fresh 25 t.val = false →
    (dats m 0 c).after 25 t = (dats m 0 c).after 25 ⟨t.val - 1, by omega⟩ := by
  intro t _ hi _
  rw [after_25, after_25]
  exact keep25 m c t (idle25 t hi)

/-- At the last point of a sequence the body finds the block already stored. -/
theorem before_25 (c : Dev nD) (t : Fin cfg0.N) (h : t.val % 9 = 8) (d) : (dats m 0 c).before 25 t d = A25 m c t := by
  rw [Dat.before_out_traj _ 25 rfl (fun _ _ => rfl) (carry25 m c) t.val t rfl d,
    if_neg (by rw [fresh25 t h]; exact Bool.false_ne_true), after_25]
  exact (keep25 m c t h).symm

theorem leaves_25 (c : Dev nD) (t : Fin cfg0.N) :
    (dats m 0 c).leavesExact 25 t = owns (c : Thread nD τ) (ms0_25 t) fullShare (A25 m c t) := by
  unfold Dat.leavesExact
  rcases live25 t with h | ⟨h, hf⟩
  · rw [h, after_25]
  · rw [h, hf, after_25]

/-! ## The body at a point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare d)
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare d)
    ∗ (∃ d, owns (c : Thread nD τ) (ms0_20 t) fullShare d)
    ∗ (∃ d, owns (c : Thread nD τ) (ms0_21 t) fullShare ((dats m 0 c).before 21 t d))
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare ((dats m 0 c).before 25 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ owns (c : Thread nD τ) (ms0_11 t) fullShare (iblk m c 11 t)
    ∗ owns (c : Thread nD τ) (ms0_12 t) fullShare (iblk m c 12 t)
    ∗ owns (c : Thread nD τ) (ms0_13 t) fullShare (iblk m c 13 t)
    ∗ owns (c : Thread nD τ) (ms0_14 t) fullShare (iblk m c 14 t)
    ∗ owns (c : Thread nD τ) (ms0_15 t) fullShare (iblk m c 15 t)
    ∗ (∃ d, owns (c : Thread nD τ) (ms0_16 t) fullShare d)
    ∗ owns (c : Thread nD τ) (ms0_17 t) fullShare (A17 m c t)
    ∗ owns (c : Thread nD τ) (ms0_18 t) fullShare (A18 m c t)
    ∗ (∃ d, owns (c : Thread nD τ) (ms0_19 t) fullShare d)
    ∗ (∃ d, owns (c : Thread nD τ) (ms0_20 t) fullShare d)
    ∗ owns (c : Thread nD τ) (ms0_21 t) fullShare (A21 m c t)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ owns (c : Thread nD τ) (ms0_25 t) fullShare (A25 m c t))

set_option maxHeartbeats 12800000 in
/-- The body at the first point of a sequence. -/
theorem sound_A (c : Dev nD) (t : Fin cfg0.N) (h0 : cond0_0 (grid0.coords t)) (h1 : ¬cond0_1 (grid0.coords t)) (h2 : cond0_2 (grid0.coords t)) (hz : t.val % 9 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15]
  rw [show (dats m 0 c).owesAt () t.succ = (dats m 0 c).owesAt () t.castSucc from rfl,
    show (dats m 0 c).Φ t.succ = PhiS m c (t.val + 1) t.isLt from rfl, PhiS_succ, PhiS_castSucc]
  refine (sep_mono_left (PhiS_out m c t.val (Nat.le_of_lt t.isLt))).trans ?_
  rw [PhiA0_eq]
  iintro ⟨⟨⟨⟨%s0, S0⟩, ⟨%s1, S1⟩, ⟨%s2, S2⟩, ⟨%s3, S3⟩, ⟨%s4, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply ((rA m c t h0 h1 h2).2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [S0]; · iexists _; iexact S0
  isplitl [S1]; · iexists _; iexact S1
  isplitl [S2]; · iexists _; iexact S2
  isplitl [S3]; · iexists _; iexact S3
  isplitl [S4]; · iexists _; iexact S4
  iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%u0, S0⟩, ⟨%u1, S1⟩, ⟨%u2, S2⟩, ⟨%u3, S3⟩, ⟨%u4, S4⟩⟩
  isplitl [S0 S1 S2 S3 S4 Hg]
  · isplitl [S0 S1 S2 S3 S4]
    · isplitl [S0]
      · iexists _; unfold owns; iexists _; isplitr; swap; · iexact S0
        ipureintro; exact rfl
      isplitl [S1]
      · iexists _; unfold owns; iexists _; isplitr; swap; · iexact S1
        ipureintro; exact rfl
      isplitl [S2]
      · iexists _; unfold owns; iexists _; isplitr; swap; · iexact S2
        ipureintro; exact rfl
      isplitl [S3]
      · unfold owns; iexists _; isplitr; swap; · iexact S3
        ipureintro; exact readAK m c t h0 h1 h2 _
      unfold owns; iexists _; isplitr; swap; · iexact S4
      ipureintro; exact readAV m c t h0 h1 h2 _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · iexists _; unfold owns; iexists _; isplitr
    swap; · iexact H16
    ipureintro; exact rfl
  isplitl [H17]
  · unfold owns; iexists _; isplitr
    swap; · iexact H17
    ipureintro; exact readA17 m c t h0 h1 h2 hz _
  isplitl [H18]
  · unfold owns; iexists _; isplitr
    swap; · iexact H18
    ipureintro; exact readA18 m c t h0 h1 h2 hz _
  isplitl [H19]
  · iexists _; unfold owns; iexists _; isplitr
    swap; · iexact H19
    ipureintro; exact rfl
  isplitl [H20]
  · iexists _; unfold owns; iexists _; isplitr
    swap; · iexact H20
    ipureintro; exact rfl
  isplitl [H21]
  · unfold owns; iexists _; isplitr
    swap; · iexact H21
    ipureintro; exact readA21 m c t h0 h1 h2 _
  isplitl [H22]
  · iexists _; unfold owns; iexists _; isplitr
    swap; · iexact H22
    ipureintro; exact rfl
  isplitl [H23]
  · iexists _; unfold owns; iexists _; isplitr
    swap; · iexact H23
    ipureintro; exact rfl
  isplitl [H24]
  · iexists _; unfold owns; iexists _; isplitr
    swap; · iexact H24
    ipureintro; exact rfl
  unfold owns; iexists _; isplitr
  swap; · iexact H25
  ipureintro; exact readA25 m c t h0 h1 h2 _

set_option maxHeartbeats 12800000 in
/-- The body at a later block of a sequence. -/
theorem sound_B (c : Dev nD) (t : Fin cfg0.N) (h0 : ¬cond0_0 (grid0.coords t)) (h1 : ¬cond0_1 (grid0.coords t)) (h2 : cond0_2 (grid0.coords t))
    (hz : t.val % 9 ≠ 0) (h8 : t.val % 9 ≠ 8) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15]
  rw [show (dats m 0 c).owesAt () t.succ = (dats m 0 c).owesAt () t.castSucc from rfl,
    show (dats m 0 c).Φ t.succ = PhiS m c (t.val + 1) t.isLt from rfl, PhiS_succ, PhiS_castSucc, PhiS_pos m c t (by omega)]
  iintro ⟨⟨⟨⟨%s0, S0⟩, ⟨%s1, S1⟩, ⟨%s2, S2⟩, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply ((rB m c t h0 h1 h2 s0 s1 s2 (KC m c (prev t)) (VC m c (prev t))).2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%u0, S0⟩, ⟨%u1, S1⟩, ⟨%u2, S2⟩, ⟨%u3, S3⟩, ⟨%u4, S4⟩⟩
  isplitl [S0 S1 S2 S3 S4 Hg]
  · isplitl [S0 S1 S2 S3 S4]
    · isplitl [S0]
      · iexists _; unfold owns; iexists _; isplitr; swap; · iexact S0
        ipureintro; exact rfl
      isplitl [S1]
      · iexists _; unfold owns; iexists _; isplitr; swap; · iexact S1
        ipureintro; exact rfl
      isplitl [S2]
      · iexists _; unfold owns; iexists _; isplitr; swap; · iexact S2
        ipureintro; exact rfl
      isplitl [S3]
      · unfold owns; iexists _; isplitr; swap; · iexact S3
        ipureintro; exact readBK m c t h0 h1 h2 _ _ _ _ _ _
      unfold owns; iexists _; isplitr; swap; · iexact S4
      ipureintro; exact readBV m c t h0 h1 h2 _ _ _ _ _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · iexists _; unfold owns; iexists _; isplitr
    swap; · iexact H16
    ipureintro; exact rfl
  isplitl [H17]
  · unfold owns; iexists _; isplitr
    swap; · iexact H17
    ipureintro; exact readB17 m c t h0 h1 h2 _ _ _ _ _ hz h8 rfl _
  isplitl [H18]
  · unfold owns; iexists _; isplitr
    swap; · iexact H18
    ipureintro; exact readB18 m c t h0 h1 h2 _ _ _ _ _ hz h8 rfl _
  isplitl [H19]
  · iexists _; unfold owns; iexists _; isplitr
    swap; · iexact H19
    ipureintro; exact rfl
  isplitl [H20]
  · iexists _; unfold owns; iexists _; isplitr
    swap; · iexact H20
    ipureintro; exact rfl
  isplitl [H21]
  · unfold owns; iexists _; isplitr
    swap; · iexact H21
    ipureintro; exact readB21 m c t h0 h1 h2 _ _ _ _ _ _
  isplitl [H22]
  · iexists _; unfold owns; iexists _; isplitr
    swap; · iexact H22
    ipureintro; exact rfl
  isplitl [H23]
  · iexists _; unfold owns; iexists _; isplitr
    swap; · iexact H23
    ipureintro; exact rfl
  isplitl [H24]
  · iexists _; unfold owns; iexists _; isplitr
    swap; · iexact H24
    ipureintro; exact rfl
  unfold owns; iexists _; isplitr
  swap; · iexact H25
  ipureintro; exact readB25 m c t h0 h1 h2 _ _ _ _ _ _

set_option maxHeartbeats 12800000 in
/-- The body at the last point of a sequence. -/
theorem sound_C (c : Dev nD) (t : Fin cfg0.N) (h0 : ¬cond0_0 (grid0.coords t)) (h1 : cond0_1 (grid0.coords t)) (h2 : ¬cond0_2 (grid0.coords t)) (hl : t.val % 9 = 8) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15]
  rw [show (dats m 0 c).owesAt () t.succ = (dats m 0 c).owesAt () t.castSucc from rfl,
    show (dats m 0 c).Φ t.succ = PhiS m c (t.val + 1) t.isLt from rfl, PhiS_succ, PhiS_castSucc, PhiS_pos m c t (by omega)]
  simp only [before_21 m c t hl, before_25 m c t hl, keepK m c t hl, keepV m c t hl]
  iintro ⟨⟨⟨⟨%s0, S0⟩, ⟨%s1, S1⟩, ⟨%s2, S2⟩, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply ((rC m c t h0 h1 h2 _ _ _ _ _ _ _ _ s0 s1 s2 (KC m c (prev t)) (VC m c (prev t))).2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, H14, H15, H16, ⟨%e17, H17⟩, ⟨%e18, H18⟩, H19, H20, H21, H22, H23, H24, H25, S0, S1, S2, S3, S4⟩
  isplitl [S0 S1 S2 S3 S4 Hg]
  · isplitl [S0 S1 S2 S3 S4]
    · isplitl [S0]
      · iexists _; iexact S0
      isplitl [S1]
      · iexists _; iexact S1
      isplitl [S2]
      · iexists _; iexact S2
      isplitl [S3]
      · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]
  · unfold owns; iexists _; isplitr
    swap; · iexact H17
    ipureintro; exact readC17 m c t h0 h1 h2 _ _ _ _ _ _ _ _ _ _ _ _ _ hl rfl _
  isplitl [H18]
  · unfold owns; iexists _; isplitr
    swap; · iexact H18
    ipureintro; exact readC18 m c t h0 h1 h2 _ _ _ _ _ _ _ _ _ _ _ _ _ hl rfl _
  isplitl [H19]; · iexists _; iexact H19
  isplitl [H20]; · iexists _; iexact H20
  isplitl [H21]; · iexact H21
  isplitl [H22]; · iexists _; iexact H22
  isplitl [H23]; · iexists _; iexact H23
  isplitl [H24]; · iexists _; iexact H24
  iexact H25

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h1 : t.val % 9 = 8
  · exact sound_C m c t (fun h => by have := (hcond0_0 t).mp h; omega) ((hcond0_1 t).mpr h1) (fun h => by have := (hcond0_2 t).mp h; omega) h1
  · by_cases h0 : t.val % 9 = 0
    · exact sound_A m c t ((hcond0_0 t).mpr h0) (fun h => h1 ((hcond0_1 t).mp h)) ((hcond0_2 t).mpr (by omega)) h0
    · exact sound_B m c t (fun h => h0 ((hcond0_0 t).mp h)) (fun h => h1 ((hcond0_1 t).mp h)) ((hcond0_2 t).mpr (by omega)) h0 h1

/-- What the body returns, window by window. -/
def bodyEnd (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (∃ d, owns (c : Thread nD τ) (ms0_16 t) fullShare d)
    ∗ (dats m 0 c).leavesExact 17 t
    ∗ (dats m 0 c).leavesExact 18 t
    ∗ (∃ d, owns (c : Thread nD τ) (ms0_19 t) fullShare d)
    ∗ (∃ d, owns (c : Thread nD τ) (ms0_20 t) fullShare d)
    ∗ (dats m 0 c).leavesExact 21 t
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (dats m 0 c).leavesExact 25 t)

theorem leaves_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (ms0_5 t) fullShare (iblk m c 5 t) := by
  unfold Dat.leavesExact; rw [show cfg0.idle 5 (grid0.coords t) = false from rfl, after_5]
theorem leaves_6 (c : Dev nD) (t : Fin cfg0.N) : (dats m 0 c).leavesExact 6 t = owns (c : Thread nD τ) (ms0_6 t) fullShare (iblk m c 6 t) := by
  unfold Dat.leavesExact; rw [show cfg0.idle 6 (grid0.coords t) = false from rfl, after_6]
theorem leaves_7 (c : Dev nD) (t : Fin cfg0.N) : (dats m 0 c).leavesExact 7 t = owns (c : Thread nD τ) (ms0_7 t) fullShare (iblk m c 7 t) := by
  unfold Dat.leavesExact; rw [show cfg0.idle 7 (grid0.coords t) = false from rfl, after_7]
theorem leaves_8 (c : Dev nD) (t : Fin cfg0.N) : (dats m 0 c).leavesExact 8 t = owns (c : Thread nD τ) (ms0_8 t) fullShare (iblk m c 8 t) := by
  unfold Dat.leavesExact; rw [show cfg0.idle 8 (grid0.coords t) = false from rfl, after_8]
theorem leaves_9 (c : Dev nD) (t : Fin cfg0.N) : (dats m 0 c).leavesExact 9 t = owns (c : Thread nD τ) (ms0_9 t) fullShare (iblk m c 9 t) := by
  unfold Dat.leavesExact; rw [show cfg0.idle 9 (grid0.coords t) = false from rfl, after_9]
theorem leaves_10 (c : Dev nD) (t : Fin cfg0.N) : (dats m 0 c).leavesExact 10 t = owns (c : Thread nD τ) (ms0_10 t) fullShare (iblk m c 10 t) := by
  unfold Dat.leavesExact; rw [show cfg0.idle 10 (grid0.coords t) = false from rfl, after_10]
theorem leaves_11 (c : Dev nD) (t : Fin cfg0.N) : (dats m 0 c).leavesExact 11 t = owns (c : Thread nD τ) (ms0_11 t) fullShare (iblk m c 11 t) := by
  unfold Dat.leavesExact; rw [show cfg0.idle 11 (grid0.coords t) = false from rfl, after_11]
theorem leaves_12 (c : Dev nD) (t : Fin cfg0.N) : (dats m 0 c).leavesExact 12 t = owns (c : Thread nD τ) (ms0_12 t) fullShare (iblk m c 12 t) := by
  unfold Dat.leavesExact; rw [show cfg0.idle 12 (grid0.coords t) = false from rfl, after_12]
theorem leaves_13 (c : Dev nD) (t : Fin cfg0.N) : (dats m 0 c).leavesExact 13 t = owns (c : Thread nD τ) (ms0_13 t) fullShare (iblk m c 13 t) := by
  unfold Dat.leavesExact; rw [show cfg0.idle 13 (grid0.coords t) = false from rfl, after_13]
theorem leaves_14 (c : Dev nD) (t : Fin cfg0.N) : (dats m 0 c).leavesExact 14 t = owns (c : Thread nD τ) (ms0_14 t) fullShare (iblk m c 14 t) := by
  unfold Dat.leavesExact; rw [show cfg0.idle 14 (grid0.coords t) = false from rfl, after_14]
theorem leaves_15 (c : Dev nD) (t : Fin cfg0.N) : (dats m 0 c).leavesExact 15 t = owns (c : Thread nD τ) (ms0_15 t) fullShare (iblk m c 15 t) := by
  unfold Dat.leavesExact; rw [show cfg0.idle 15 (grid0.coords t) = false from rfl, after_15]
theorem leaves_17 (c : Dev nD) (t : Fin cfg0.N) : (dats m 0 c).leavesExact 17 t = owns (c : Thread nD τ) (ms0_17 t) fullShare (A17 m c t) := by
  unfold Dat.leavesExact; rw [show cfg0.idle 17 (grid0.coords t) = false from (by decide +kernel : ∀ t : Fin cfg0.N, cfg0.idle 17 (grid0.coords t) = false) t, after_17]
theorem leaves_18 (c : Dev nD) (t : Fin cfg0.N) : (dats m 0 c).leavesExact 18 t = owns (c : Thread nD τ) (ms0_18 t) fullShare (A18 m c t) := by
  unfold Dat.leavesExact; rw [show cfg0.idle 18 (grid0.coords t) = false from (by decide +kernel : ∀ t : Fin cfg0.N, cfg0.idle 18 (grid0.coords t) = false) t, after_18]

theorem bodyEnd_eq (c : Dev nD) (t : Fin cfg0.N) : bodyEnd m c t = bodyPost m c t := by
  unfold bodyEnd bodyPost
  rw [leaves_0, leaves_1, leaves_2, leaves_3, leaves_4, leaves_5, leaves_6, leaves_7, leaves_8, leaves_9, leaves_10, leaves_11, leaves_12, leaves_13, leaves_14, leaves_15, leaves_17, leaves_18, leaves_21, leaves_25]

theorem sound_end (c : Dev nD) (t : Fin cfg0.N) :
    bodyPre m c t ⊢ wp frame (wpE (defs₀ (F := F)) Variants.none c none) Set.univ (bodyAt0 t) (fun _ => bodyEnd m c t) := by
  rw [bodyEnd_eq]; exact sound_body m c t

theorem defs₀_row (t : Fin cfg0.N) :
    defs₀ (F := F) .tc cfg0.body (cfg0.bodyArgs t (cfg0.slots t)) = bodyAt0 t := by
  unfold defs₀; rw [Defs.onTc_tc]

set_option maxHeartbeats 6400000 in
theorem body_obligation (c : Dev nD) : BodyObligation (dats (F := F) m 0 c) (defs₀ (F := F)) Variants.none () Set.univ forgets0 := fun t => by
  rw [bigSep_W0, bigSep_W0, defs₀_row]
  exact triple_restated (sound_end m c t) rfl .rfl fun _ => .rfl

/-! ## The run -/

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c cfg0.N (Nat.le_refl _) from rfl]
  exact PhiS_out m c _ _

set_option backward.isDefEq.respectTransparency.types false in
/-- The call runs: every array the data names ends at what it says, and every semaphore counter at zero. -/
theorem run_quiescent : θ_run defs (onTc (τ := τ) (main (F := F))) (s₀ m ρ)
    (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every argument array ends as it was launched. -/
def Kept (c : Dev nD) (r : PUnit × MemSt nD τ sig (Elt F)) : Prop :=
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)

set_option maxHeartbeats 6400000 in
theorem kept_of (r : PUnit × MemSt nD τ sig (Elt F))
    (h : Pipeline.RDat.FramePost (cfgs 0) (fun c => (dats m 0 c).toRForget forgets0) (V m) r) (c : Dev nD) : Kept m c r :=
  ⟨(Pipeline.RDat.FramePost.arr_in h c 0 rfl).trans ((A_eq m c 0).trans (V_main_arg0 m c)),
    (Pipeline.RDat.FramePost.arr_in h c 1 rfl).trans ((A_eq m c 1).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    (Pipeline.RDat.FramePost.arr_in h c 5 rfl).trans ((A_eq m c 5).trans (V_main_arg5 m c)),
    ((h c).2 main_arg6 (Pipeline.mem_restRefs_of main_arg6 (by decide) (by decide))).trans (V_main_arg6 m c),
    (Pipeline.RDat.FramePost.arr_in h c 7 rfl).trans ((A_eq m c 7).trans (V_main_arg7 m c)),
    ((h c).2 main_arg8 (Pipeline.mem_restRefs_of main_arg8 (by decide) (by decide))).trans (V_main_arg8 m c),
    (Pipeline.RDat.FramePost.arr_in h c 8 rfl).trans ((A_eq m c 8).trans (V_main_arg9 m c)),
    (Pipeline.RDat.FramePost.arr_in h c 9 rfl).trans ((A_eq m c 9).trans (V_main_arg10 m c)),
    (Pipeline.RDat.FramePost.arr_in h c 10 rfl).trans ((A_eq m c 10).trans (V_main_arg11 m c)),
    (Pipeline.RDat.FramePost.arr_in h c 11 rfl).trans ((A_eq m c 11).trans (V_main_arg12 m c)),
    (Pipeline.RDat.FramePost.arr_in h c 12 rfl).trans ((A_eq m c 12).trans (V_main_arg13 m c)),
    (Pipeline.RDat.FramePost.arr_in h c 13 rfl).trans ((A_eq m c 13).trans (V_main_arg14 m c)),
    (Pipeline.RDat.FramePost.arr_in h c 14 rfl).trans ((A_eq m c 14).trans (V_main_arg15 m c)),
    (Pipeline.RDat.FramePost.arr_in h c 15 rfl).trans ((A_eq m c 15).trans (V_main_arg16 m c))⟩

/-- The call's frame: every argument array ends as it was launched, every semaphore counter at zero. -/
theorem frame : θ_run defs (onTc (τ := τ) (main (F := F))) ⟨m, fun _ => 0, ρ⟩
    (fun r => (∀ c : Dev nD, Kept m c r) ∧ r.2.sem = fun _ => 0) :=
  (θ_run defs _ _).mono (fun r h => ⟨kept_of m r h.1, h.2⟩) (run_quiescent m ρ)

/-- The call's values: the four named result arrays end at what the proof data says, every argument array as it was launched. -/
theorem run_values : θ_run defs (onTc (τ := τ) (main (F := F))) ⟨m, fun _ => 0, ρ⟩
    (fun r => ∀ c : Dev nD, Kept m c r
      ∧ r.2.mem ((c : Thread nD τ).loc main_v49_5) = (dats m 0 c).arrAt 21 cfg0.N
      ∧ r.2.mem ((c : Thread nD τ).loc main_v49_9) = (dats m 0 c).arrAt 25 cfg0.N
      ∧ r.2.mem ((c : Thread nD τ).loc main_v49_1) = (dats m 0 c).arrAt 17 cfg0.N
      ∧ r.2.mem ((c : Thread nD τ).loc main_v49_2) = (dats m 0 c).arrAt 18 cfg0.N) :=
  (θ_run defs _ _).mono (fun r h c => ⟨kept_of m r h.1 c,
    (Dat.toRForget_arrAt_iff (dats m 0 c) (fgt := forgets0) (w := 21) rfl cfg0.N _).mp ((h.1 c).1 21),
    (Dat.toRForget_arrAt_iff (dats m 0 c) (fgt := forgets0) (w := 25) rfl cfg0.N _).mp ((h.1 c).1 25),
    (Dat.toRForget_arrAt_iff (dats m 0 c) (fgt := forgets0) (w := 17) rfl cfg0.N _).mp ((h.1 c).1 17),
    (Dat.toRForget_arrAt_iff (dats m 0 c) (fgt := forgets0) (w := 18) rfl cfg0.N _).mp ((h.1 c).1 18)⟩) (run_quiescent m ρ)

end Cert.Kernel1Ideal.In

end
-- ==== Proof.InprojBits.lean ====
/-
The projection of a prompt over bit patterns: its text is the text of its idealized copy, so its frame is that
copy's frame read over bit patterns.
-/
module

public import proofs.«01_k».proof.Kernel1
public import proofs.«01_k».proof.Defs
public import proofs.«01_k».proof.Proof.Gen.Kernel1
public import proofs.«01_k».proof.Proof.InprojFrame

@[expose] public section

set_option maxRecDepth 16384

noncomputable section

namespace Cert.Kernel1.In

open Idealize.SL.Sem Idealize
open Idealize.ShloMosaic Idealize.ShloMosaic.TcCoe Idealize.ShloMosaic.Tactic

/-- The frame claimed of the call is, text for text, the frame of its idealized copy over bit patterns. -/
theorem frame_eq : Cert.quiescent_Kernel1
    = ∀ (m : (ℓ : Loc Cert.Kernel1Ideal.nD Cert.Kernel1Ideal.τ Cert.Kernel1Ideal.sig) → Buf (Elt Bits) ℓ)
        (ρ : Dev Cert.Kernel1Ideal.nD → PrngReg), True →
      θ_run (Cert.Kernel1Ideal.defs (F := Bits)) (onTc (τ := Cert.Kernel1Ideal.τ) (Cert.Kernel1Ideal.main (F := Bits))) ⟨m, fun _ => 0, ρ⟩
        (fun r => (∀ c : Dev Cert.Kernel1Ideal.nD, Cert.Kernel1Ideal.In.Kept m c r) ∧ r.2.sem = fun _ => 0) := by
  sl_kernel_rfl

theorem frame : Cert.quiescent_Kernel1 := frame_eq.mpr fun m ρ _ => Cert.Kernel1Ideal.In.frame (F := Bits) m ρ

end Cert.Kernel1.In

end
-- ==== Proof.InprojVal.lean ====
/-
The projection of a prompt: the log gates, the last rows, the keys and the values the body computes are, entry by entry, the
reference's.
-/
module

public import proofs.«01_k».proof.Proof.Gen.Kernel1Ideal.Frame
public import proofs.«01_k».proof.Proof.Gen.Kernel1Ideal.Skeleton
public import proofs.«01_k».proof.Proof.Gen.Reference1Ideal.Read
public import Idealize.ShloMosaic.Lib.Pipeline.ValueKit
public import Idealize.ShloMosaic.Lib.Pointwise
public import Idealize.ShloMosaic.Lib.StableHlo.RunRead

@[expose] public section

set_option maxRecDepth 16384
set_option backward.proofsInPublic true

noncomputable section

open Idealize.ShloMosaic Idealize.ShloMosaic.TcCoe Idealize.SL.Sem

namespace Cert.Kernel1Ideal.In

open Cert.Kernel1Ideal Cert.Kernel1Ideal.Gen

variable (m : (ℓ : Loc nD τ sig) → Buf (Elt Ideal) ℓ) (c : Dev nD)

/-! ## The arguments and the reference's tensors over them -/

/-- The four prompts' rows. -/
abbrev a0 : FVec Ideal S4x4096x1024 .f32 := m ((c : Thread nD τ).loc main_arg0)
/-- The mixer's norm. -/
abbrev a1 : FVec Ideal S1x1024 .f32 := m ((c : Thread nD τ).loc main_arg1)
/-- The input projection: queries, keys, values, forget gates, recurrence input and recurrence gate side by side. -/
abbrev a2 : FVec Ideal S1x1024x2568 .f32 := m ((c : Thread nD τ).loc main_arg2)
/-- The forget gates' bias. -/
abbrev a3 : FVec Ideal S1x8 .f32 := m ((c : Thread nD τ).loc main_arg3)

/-- The prompts' rows after the norm, as the reference has them. -/
def XN : FVec Ideal S4x4096x1024 .f32 := Cert.Reference1Ideal.Read.val_main_v13 (F := Ideal) (a0 m c) (a1 m c)
/-- The prompts' projection, as the reference has it. -/
def ZP : FVec Ideal Cert.Reference1Ideal.S4x4096x2568 .f32 := Cert.Reference1Ideal.Read.val_main_v15 (F := Ideal) (a0 m c) (a1 m c) (a2 m c)
/-- The log gates, as the reference has them. -/
def LF : FVec Ideal S4x8x4096 .f32 := Cert.Reference1Ideal.Read.val_main_v33 (F := Ideal) (a0 m c) (a1 m c) (a2 m c) (a3 m c)
/-- The last rows of the recurrence's input, as the reference has them. -/
def XL : FVec Ideal S4x8x512 .f32 := Cert.Reference1Ideal.Read.val_main_v34 (F := Ideal) (a0 m c) (a1 m c) (a2 m c)

/-- The memory rows' keys. -/
abbrev a15 : FVec Ideal S128x512 .f32 := m ((c : Thread nD τ).loc main_arg15)
/-- The memory rows' values. -/
abbrev a16 : FVec Ideal S128x512 .f32 := m ((c : Thread nD τ).loc main_arg16)
/-- The keys of the first sixteen memory rows and of the prompts, transposed, as the reference has them. -/
def KT : FVec Ideal S4x512x4112 .f32 := Cert.Reference1Ideal.Read.val_main_v35 (F := Ideal) (a0 m c) (a1 m c) (a2 m c) (a15 m c)
/-- The values of the same rows, transposed, as the reference has them. -/
def VT : FVec Ideal S4x512x4112 .f32 := Cert.Reference1Ideal.Read.val_main_v36 (F := Ideal) (a0 m c) (a1 m c) (a2 m c) (a16 m c)

/-! ## The arrays the call finds -/

/-- The keys' and the values' columns of the concatenated weights. -/
theorem v9_kv (d : Fin 1024) (j : Fin 1024) :
    (V m c main_v9 : FVec Ideal S1024x2688 .bf16) (ix2 d ⟨512 + j.val, by omega⟩) = a2 m c (ix3 0 d ⟨512 + j.val, by omega⟩) := by
  simp only [V]
  after_reads_simp
  pointwise
  after_reads_simp
  pointwise

/-- The recurrence's columns of the concatenated weights. -/
theorem v9_x (d : Fin 1024) (j : Fin 1024) :
    (V m c main_v9 : FVec Ideal S1024x2688 .bf16) (ix2 d ⟨1536 + j.val, by omega⟩) = a2 m c (ix3 0 d ⟨1544 + j.val, by omega⟩) := by
  simp only [V]
  after_reads_simp
  pointwise
  after_reads_simp
  pointwise
  rw [dif_neg (by omega), dif_neg (by omega), dif_pos (by omega)]
  refine congrArg (a2 m c) (congrArg (fun k => ix3 0 d k) (Fin.ext ?_))
  show 1544 + (1536 + j.val - 512 - 1024) = 1544 + j.val
  omega

/-- The forget gates' columns of the concatenated weights. -/
theorem v9_f (d : Fin 1024) (j : Fin 8) :
    (V m c main_v9 : FVec Ideal S1024x2688 .bf16) (ix2 d ⟨2560 + j.val, by omega⟩) = a2 m c (ix3 0 d ⟨1536 + j.val, by omega⟩) := by
  simp only [V]
  after_reads_simp
  pointwise
  after_reads_simp
  pointwise
  rw [dif_neg (by omega), dif_neg (by omega), dif_neg (by omega)]
  show (pad S1024x128 ![0, 0] ![0, 120] ![0, 0] (extractStridedSlice S1024x8 ![0, 1536]
      (fun i : S1024x2568.Idx => a2 m c (ix3 0 (i 0) (i 1))) slices_S1024x2568_S1024x8_0_1536)
      (sitofp .f32 (constantI S_ 32 0#32)) pads_S1024x8_S1024x128_000_01200 h_S_ : FVec Ideal S1024x128 .f32)
    (ix2 d ⟨2560 + j.val - 512 - 1024 - 1024, by omega⟩) = _
  pointwise
  rw [dif_pos (by omega)]
  refine congrArg (a2 m c) (congrArg (fun k => ix3 0 d k) (Fin.ext ?_))
  show 1536 + (2560 + j.val - 512 - 1024 - 1024) = 1536 + j.val
  omega

/-- The forget gates' bias as a column. -/
theorem v47 (d : Fin 8) : (V m c main_v47 : FVec Ideal S8x1 .f32) (ix2 d 0) = a3 m c (ix2 0 d) := by
  simp only [V]
  after_reads_simp
  pointwise

/-! ## The rows after the norm -/

/-- The norm over a row: the row times the reciprocal root of its mean square, times the norm's scale. -/
def rms (y : Fin 1024 → EReal) (g : FVec Ideal S1x1024 .f32) (d : Fin 1024) : EReal :=
  y d * Ideal.rsqrt (Ideal.div (∑ k : Fin 1024, y k * y k) (Scalar.ofBits (F := Ideal) .f32 0x44800000#32)
    + Scalar.ofBits (F := Ideal) .f32 0x358637BD#32) * g (ix2 0 d)

/-- The reference's rows after the norm. -/
theorem xn_ref (b : Fin 4) (s : Fin 4096) (d : Fin 1024) : XN m c (ix3 b s d) = rms (fun e => a0 m c (ix3 b s e)) (a1 m c) d := by
  open Cert.Reference1Ideal.Read in
  pointwise [XN, rms, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]

/-- The body's rows after the norm. -/
theorem xn_body (X : FVec Ideal S1x512x1024 .f32) (g : FVec Ideal S1x1024 .f32) (r : Fin 512) (d : Fin 1024) :
    k0_pay10 (F := Ideal) X g (ix2 r d) = rms (fun e => X (ix3 0 r e)) g d := by
  pointwise [k0_pay10, rms]

/-- A column of the reference's projection. -/
theorem zp_at (b : Fin 4) (s : Fin 4096) (k : Fin 2568) :
    ZP m c (ix3 b s k) = ∑ d : Fin 1024, XN m c (ix3 b s d) * a2 m c (ix3 0 d k) := by
  have h13 : Cert.Reference1Ideal.Read.val_main_v13 (F := Ideal) (a0 m c) (a1 m c) = XN m c := rfl
  open Cert.Reference1Ideal.Read in
  pointwise [ZP, val_main_v15, val_main_v14, h13]

/-- The reference's keys at a memory row. -/
theorem kt_mem (b : Fin 4) (d : Fin 512) (s : Fin 4112) (h : s.val < 16) :
    KT m c (ix3 b d s) = a15 m c (ix2 ⟨s.val, by omega⟩ d) := by
  open Cert.Reference1Ideal.Read in
  pointwise [KT, val_main_v35, val_main_v29, val_main_v28, val_main_v27]
  rw [dif_pos h]

/-- The reference's keys at a prompt's row. -/
theorem kt_row (b : Fin 4) (d : Fin 512) (s : Fin 4112) (h : ¬s.val < 16) :
    KT m c (ix3 b d s) = ZP m c (ix3 b ⟨s.val - 16, by omega⟩ ⟨512 + d.val, by omega⟩) := by
  have h15 : Cert.Reference1Ideal.Read.val_main_v15 (F := Ideal) (a0 m c) (a1 m c) (a2 m c) = ZP m c := rfl
  open Cert.Reference1Ideal.Read in
  pointwise [KT, val_main_v35, val_main_v29, val_main_v17, h15]
  rw [dif_neg h]

/-- The reference's values at a memory row. -/
theorem vt_mem (b : Fin 4) (d : Fin 512) (s : Fin 4112) (h : s.val < 16) :
    VT m c (ix3 b d s) = a16 m c (ix2 ⟨s.val, by omega⟩ d) := by
  open Cert.Reference1Ideal.Read in
  pointwise [VT, val_main_v36, val_main_v32, val_main_v31, val_main_v30]
  rw [dif_pos h]

/-- The reference's values at a prompt's row. -/
theorem vt_row (b : Fin 4) (d : Fin 512) (s : Fin 4112) (h : ¬s.val < 16) :
    VT m c (ix3 b d s) = ZP m c (ix3 b ⟨s.val - 16, by omega⟩ ⟨1024 + d.val, by omega⟩) := by
  have h15 : Cert.Reference1Ideal.Read.val_main_v15 (F := Ideal) (a0 m c) (a1 m c) (a2 m c) = ZP m c := rfl
  open Cert.Reference1Ideal.Read in
  pointwise [VT, val_main_v36, val_main_v32, val_main_v18, h15]
  rw [dif_neg h]

/-- The memory rows a sequence starts from. -/
theorem pay4_at (v : FVec Ideal S16x512 .f32) : k0_pay4 (F := Ideal) v = v := by
  funext (y : S16x512.Idx)
  pointwise [k0_pay4]
theorem pay5_at (v : FVec Ideal S16x512 .f32) : k0_pay5 (F := Ideal) v = v := by
  funext (y : S16x512.Idx)
  pointwise [k0_pay5]

/-- The columns stored last: the rows carried from the block before. -/
theorem pay7_at (v : FVec Ideal S16x512 .f32) (d : Fin 512) (r : Fin 16) : k0_pay7 (F := Ideal) v (ix3 0 d ⟨r.val, by omega⟩) = v (ix2 r d) := by
  pointwise [k0_pay7]
theorem pay8_at (v : FVec Ideal S16x512 .f32) (d : Fin 512) (r : Fin 16) : k0_pay8 (F := Ideal) v (ix3 0 d ⟨r.val, by omega⟩) = v (ix2 r d) := by
  pointwise [k0_pay8]

/-- The gate's logarithm: the body's form of it and the reference's. -/
theorem log_sig (x : EReal) :
    0 - (max (0 - x) 0 + Ideal.log1p (Ideal.exp (0 - FloatOps.absf (F := Ideal) (φ := .f32) (0 - x))))
      = -if -x ≠ -x then -x else max (-x) 0 + Ideal.log1p (Ideal.exp (-FloatOps.absf (F := Ideal) (φ := .f32) (-x))) := by
  simp only [zero_sub, ne_eq, not_true_eq_false, if_false]

section Block
variable (X : FVec Ideal S1x512x1024 .f32) (b : Fin 4) (off : Nat) (ho : off + 512 ≤ 4096)
  (hX : ∀ (r : Fin 512) (d : Fin 1024), X (ix3 0 r d) = a0 m c (ix3 b ⟨off + r.val, by omega⟩ d))
include hX

/-- A block's rows after the norm are the reference's. -/
theorem xn_at (r : Fin 512) (d : Fin 1024) :
    k0_pay10 (F := Ideal) X (a1 m c) (ix2 r d) = XN m c (ix3 b ⟨off + r.val, by omega⟩ d) := by
  rw [xn_body, xn_ref]
  simp only [hX]

/-- The recurrence's columns of a block's projection. -/
theorem x_at (w : FVec Ideal S1024x1024 .bf16) (hw : ∀ d j : Fin 1024, w (ix2 d j) = a2 m c (ix3 0 d ⟨1544 + j.val, by omega⟩))
    (r : Fin 512) (j : Fin 1024) :
    k0_pay11 (F := Ideal) X (a1 m c) w (ix2 r j) = ZP m c (ix3 b ⟨off + r.val, by omega⟩ ⟨1544 + j.val, by omega⟩) := by
  rw [zp_at]
  pointwise [k0_pay11]
  exact Finset.sum_congr rfl fun d _ => congrArg₂ (· * ·) (xn_at m c X b off ho hX r d) (hw d j)

/-- The forget gates' columns of a block's projection. -/
theorem f_at (w : FVec Ideal S1024x128 .bf16) (hw : ∀ (d : Fin 1024) (j : Fin 8), w (ix2 d ⟨j.val, by omega⟩) = a2 m c (ix3 0 d ⟨1536 + j.val, by omega⟩))
    (r : Fin 512) (j : Fin 8) :
    k0_pay30 (F := Ideal) (k0_pay10 X (a1 m c)) w (ix2 r ⟨j.val, by omega⟩) = ZP m c (ix3 b ⟨off + r.val, by omega⟩ ⟨1536 + j.val, by omega⟩) := by
  rw [zp_at]
  pointwise [k0_pay30]
  exact Finset.sum_congr rfl fun d _ => congrArg₂ (· * ·) (xn_at m c X b off ho hX r d) (hw d j)

/-- A block's log gates are the reference's. -/
theorem lf_at (w : FVec Ideal S1024x128 .bf16) (hw : ∀ (d : Fin 1024) (j : Fin 8), w (ix2 d ⟨j.val, by omega⟩) = a2 m c (ix3 0 d ⟨1536 + j.val, by omega⟩))
    (bc : FVec Ideal S8x1 .f32) (hb : ∀ d : Fin 8, bc (ix2 d 0) = a3 m c (ix2 0 d)) (d : Fin 8) (r : Fin 512) :
    k0_pay493 (F := Ideal) (k0_pay30 (k0_pay10 X (a1 m c)) w) bc (ix3 0 d r) = LF m c (ix3 b d ⟨off + r.val, by omega⟩) := by
  have h15 : Cert.Reference1Ideal.Read.val_main_v15 (F := Ideal) (a0 m c) (a1 m c) (a2 m c) = ZP m c := rfl
  have hk := f_at m c X b off ho hX w hw r d
  open Cert.Reference1Ideal.Read in
  pointwise [LF, k0_pay493, k0_pay492, val_main_v33, val_main_v26, val_main_call0_v1, val_main_call0_call0_v11, val_main_call0_call0_v10,
    val_main_call0_call0_v9, val_main_call0_call0_v8, val_main_call0_call0_v7, val_main_call0_call0_v6, val_main_call0_call0_v5, val_main_call0_call0_v4,
    val_main_call0_call0_v3, val_main_call0_call0_v2, val_main_call0_call0_v1, val_main_call0_call0_v0, val_main_call0_call0_cst, val_main_call0_v0,
    val_main_v25, val_main_v24, val_main_v23, val_main_v22, val_main_v19, h15]
  rw [log_sig, hk, hb]

/-- The last rows of the last block are the reference's. -/
theorem xl_at (h7 : off = 3584) (w : FVec Ideal S1024x1024 .bf16) (hw : ∀ d j : Fin 1024, w (ix2 d j) = a2 m c (ix3 0 d ⟨1544 + j.val, by omega⟩))
    (q : Fin 8) (d : Fin 512) :
    k0_pay19 (F := Ideal) (k0_pay12 X (a1 m c) w) (ix3 0 q d) = XL m c (ix3 b q d) := by
  have h15 : Cert.Reference1Ideal.Read.val_main_v15 (F := Ideal) (a0 m c) (a1 m c) (a2 m c) = ZP m c := rfl
  subst h7
  have hk := x_at m c X b 3584 ho hX w hw ⟨504 + q.val, by omega⟩ ⟨d.val, by omega⟩
  open Cert.Reference1Ideal.Read in
  pointwise [XL, k0_pay19, k0_pay12, val_main_v34, val_main_v20, h15]
  refine hk.trans (congrArg (ZP m c) (congrArg (fun s => ix3 b s _) (Fin.ext ?_)))
  show 3584 + (504 + q.val) = 4088 + q.val
  omega

/-- The keys of a block's rows. -/
theorem k_at (w : FVec Ideal S1024x1024 .bf16) (hw : ∀ (d : Fin 1024) (j : Fin 512), w (ix2 d ⟨512 + j.val, by omega⟩) = a2 m c (ix3 0 d ⟨512 + j.val, by omega⟩))
    (r : Fin 512) (j : Fin 512) :
    k0_pay32 (F := Ideal) (k0_pay10 X (a1 m c)) w (ix2 r j) = ZP m c (ix3 b ⟨off + r.val, by omega⟩ ⟨512 + j.val, by omega⟩) := by
  rw [zp_at]
  pointwise [k0_pay32, k0_pay28]
  exact Finset.sum_congr rfl fun d _ => congrArg₂ (· * ·) (xn_at m c X b off ho hX r d) (hw d j)

/-- The values of a block's rows. -/
theorem v_at (w : FVec Ideal S1024x512 .bf16) (hw : ∀ (d : Fin 1024) (j : Fin 512), w (ix2 d j) = a2 m c (ix3 0 d ⟨1024 + j.val, by omega⟩))
    (r : Fin 512) (j : Fin 512) :
    k0_pay29 (F := Ideal) (k0_pay10 X (a1 m c)) w (ix2 r j) = ZP m c (ix3 b ⟨off + r.val, by omega⟩ ⟨1024 + j.val, by omega⟩) := by
  rw [zp_at]
  pointwise [k0_pay29]
  exact Finset.sum_congr rfl fun d _ => congrArg₂ (· * ·) (xn_at m c X b off ho hX r d) (hw d j)

/-- The stored keys: the rows carried from the block before and all but the last sixteen of the block's own. -/
theorem kt_at (w : FVec Ideal S1024x1024 .bf16) (hw : ∀ (d : Fin 1024) (j : Fin 512), w (ix2 d ⟨512 + j.val, by omega⟩) = a2 m c (ix3 0 d ⟨512 + j.val, by omega⟩))
    (v : FVec Ideal S16x512 .f32) (hv : ∀ (r : Fin 16) (d : Fin 512), v (ix2 r d) = KT m c (ix3 b d ⟨off + r.val, by omega⟩)) (d r : Fin 512) :
    k0_pay34 (F := Ideal) (k0_pay10 X (a1 m c)) w v (ix3 0 d r) = KT m c (ix3 b d ⟨off + r.val, by omega⟩) := by
  pointwise [k0_pay34]
  by_cases h : r.val < 16
  · rw [dif_pos h]; exact hv ⟨r.val, h⟩ d
  · rw [dif_neg h, kt_row m c b d _ (by show ¬off + r.val < 16; omega)]
    refine (k_at m c X b off ho hX w hw ⟨r.val - 16, by omega⟩ d).trans (congrArg (ZP m c) (congrArg (fun s => ix3 b s _) (Fin.ext ?_)))
    show off + (r.val - 16) = off + r.val - 16
    omega

/-- The stored values, likewise. -/
theorem vt_at (w : FVec Ideal S1024x512 .bf16) (hw : ∀ (d : Fin 1024) (j : Fin 512), w (ix2 d j) = a2 m c (ix3 0 d ⟨1024 + j.val, by omega⟩))
    (v : FVec Ideal S16x512 .f32) (hv : ∀ (r : Fin 16) (d : Fin 512), v (ix2 r d) = VT m c (ix3 b d ⟨off + r.val, by omega⟩)) (d r : Fin 512) :
    k0_pay489 (F := Ideal) (k0_pay488 (k0_pay29 (k0_pay10 X (a1 m c)) w) v) (ix3 0 d r) = VT m c (ix3 b d ⟨off + r.val, by omega⟩) := by
  pointwise [k0_pay489, k0_pay488]
  by_cases h : r.val < 16
  · rw [dif_pos h]; exact hv ⟨r.val, h⟩ d
  · rw [dif_neg h, vt_row m c b d _ (by show ¬off + r.val < 16; omega)]
    refine (v_at m c X b off ho hX w hw ⟨r.val - 16, by omega⟩ d).trans (congrArg (ZP m c) (congrArg (fun s => ix3 b s _) (Fin.ext ?_)))
    show off + (r.val - 16) = off + r.val - 16
    omega

/-- The keys of a block's last sixteen rows, carried to the next block. -/
theorem kc_at (w : FVec Ideal S1024x1024 .bf16) (hw : ∀ (d : Fin 1024) (j : Fin 512), w (ix2 d ⟨512 + j.val, by omega⟩) = a2 m c (ix3 0 d ⟨512 + j.val, by omega⟩))
    (r : Fin 16) (d : Fin 512) :
    k0_pay35 (F := Ideal) (k0_pay10 X (a1 m c)) w (ix2 r d) = KT m c (ix3 b d ⟨off + 512 + r.val, by omega⟩) := by
  rw [kt_row m c b d _ (by show ¬off + 512 + r.val < 16; omega)]
  pointwise [k0_pay35]
  refine (k_at m c X b off ho hX w hw ⟨496 + r.val, by omega⟩ d).trans (congrArg (ZP m c) (congrArg (fun s => ix3 b s _) (Fin.ext ?_)))
  show off + (496 + r.val) = off + 512 + r.val - 16
  omega

/-- The values of a block's last sixteen rows, carried to the next block. -/
theorem vc_at (w : FVec Ideal S1024x512 .bf16) (hw : ∀ (d : Fin 1024) (j : Fin 512), w (ix2 d j) = a2 m c (ix3 0 d ⟨1024 + j.val, by omega⟩))
    (r : Fin 16) (d : Fin 512) :
    k0_pay490 (F := Ideal) (k0_pay29 (k0_pay10 X (a1 m c)) w) (ix2 r d) = VT m c (ix3 b d ⟨off + 512 + r.val, by omega⟩) := by
  rw [vt_row m c b d _ (by show ¬off + 512 + r.val < 16; omega)]
  pointwise [k0_pay490]
  refine (v_at m c X b off ho hX w hw ⟨496 + r.val, by omega⟩ d).trans (congrArg (ZP m c) (congrArg (fun s => ix3 b s _) (Fin.ext ?_)))
  show off + (496 + r.val) = off + 512 + r.val - 16
  omega

end Block

end Cert.Kernel1Ideal.In

end
-- ==== Proof.InprojEnd.lean ====
/-
The projection of a prompt: its key, value, log-gate and last-rows arrays after the run are the reference's values, and
its arguments are as they were.
-/
module

public import proofs.«01_k».proof.Proof.InprojFrame
public import proofs.«01_k».proof.Proof.InprojVal

@[expose] public section

set_option maxRecDepth 16384

noncomputable section

namespace Cert.Kernel1Ideal.In

open Cert.Kernel1Ideal.Gen
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg) (c : Dev nD)

attribute [local irreducible] LF XL KT VT iblk

theorem lt36 (t : Fin cfg0.N) : t.val < 36 := lt_of_lt_of_eq t.isLt N_0

/-- The prompt of a point. -/
abbrev seqOf (t : Fin cfg0.N) : Fin 4 := ⟨t.val / 9, by have := lt36 t; omega⟩
/-- The first row of a point's block. -/
abbrev rowOf (t : Fin cfg0.N) : Nat := min (t.val % 9) 7 * 512

theorem row_le (t : Fin cfg0.N) : rowOf t + 512 ≤ 4096 := by
  show min (t.val % 9) 7 * 512 + 512 ≤ 4096
  omega
theorem row_lt (t : Fin cfg0.N) (r : Fin 512) : rowOf t + r.val < 4096 := by have := row_le t; omega

/-- The prompt's block at a point. -/
theorem block_at (t : Fin cfg0.N) (r : Fin 512) (d : Fin 1024) :
    (iblk m c 0 t : FVec Ideal S1x512x1024 .f32) (ix3 0 r d) = a0 m c (ix3 (seqOf t) ⟨rowOf t + r.val, row_lt t r⟩ d) := by
  rw [ib0, V_main_arg0]
  rfl

/-- The recurrence's columns of the weights' block. -/
theorem cols_x (t : Fin cfg0.N) (d j : Fin 1024) :
    (iblk m c 2 t : FVec Ideal S1024x2688 .bf16) (rx.toLoadRect.idx (ix2 d j)) = a2 m c (ix3 0 d ⟨1544 + j.val, by omega⟩) := by
  rw [ib2, ← v9_x]
  congr 1
  funext a
  match a with
  | ⟨0, _⟩ => exact Fin.ext (by show 0 + 1 * d.val = d.val; omega)
  | ⟨1, _⟩ => exact Fin.ext (by show 1536 + 1 * j.val = 1536 + j.val; omega)

/-- The forget gates' columns of the weights' block. -/
theorem cols_f (t : Fin cfg0.N) (d : Fin 1024) (j : Fin 8) :
    (iblk m c 2 t : FVec Ideal S1024x2688 .bf16) (rf.toLoadRect.idx (ix2 d ⟨j.val, by omega⟩)) = a2 m c (ix3 0 d ⟨1536 + j.val, by omega⟩) := by
  rw [ib2, ← v9_f]
  congr 1
  funext a
  match a with
  | ⟨0, _⟩ => exact Fin.ext (by show 0 + 1 * d.val = d.val; omega)
  | ⟨1, _⟩ => exact Fin.ext (by show 2560 + 1 * j.val = 2560 + j.val; omega)

/-- The log gates stored at a point. -/
theorem A21_at (t : Fin cfg0.N) (d : Fin 8) (r : Fin 512) :
    A21 m c t (ix3 0 d r) = LF m c (ix3 (seqOf t) d ⟨rowOf t + r.val, row_lt t r⟩) := by
  unfold A21 logGates
  rw [ib1, ib3, V_main_arg1]
  exact lf_at m c (iblk m c 0 t) (seqOf t) (rowOf t) (row_le t) (block_at m c t) _ (cols_f m c t) _ (v47 m c) d r

/-- The last rows stored at a sequence's last block. -/
theorem A25_at (t : Fin cfg0.N) (h : t.val % 9 = 8) (q : Fin 8) (d : Fin 512) :
    A25 m c t (ix3 0 q d) = XL m c (ix3 (seqOf t) q d) := by
  unfold A25 lastRows
  rw [ib1, V_main_arg1]
  exact xl_at m c (iblk m c 0 t) (seqOf t) (rowOf t) (row_le t) (block_at m c t) (by show min (t.val % 9) 7 * 512 = 3584; omega) _ (cols_x m c t) q d

/-- The keys' columns of the weights' block. -/
theorem cols_k (t : Fin cfg0.N) (d : Fin 1024) (j : Fin 512) :
    (iblk m c 2 t : FVec Ideal S1024x2688 .bf16) (rk.toLoadRect.idx (ix2 d ⟨512 + j.val, by omega⟩)) = a2 m c (ix3 0 d ⟨512 + j.val, by omega⟩) := by
  rw [ib2]
  refine Eq.trans ?_ (v9_kv m c d ⟨j.val, by omega⟩)
  congr 1
  funext a
  match a with
  | ⟨0, _⟩ => exact Fin.ext (by show 0 + 1 * d.val = d.val; omega)
  | ⟨1, _⟩ => exact Fin.ext (by show 0 + 1 * (512 + j.val) = 512 + j.val; omega)

/-- The values' columns of the weights' block. -/
theorem cols_v (t : Fin cfg0.N) (d : Fin 1024) (j : Fin 512) :
    (iblk m c 2 t : FVec Ideal S1024x2688 .bf16) (rv.toLoadRect.idx (ix2 d j)) = a2 m c (ix3 0 d ⟨1024 + j.val, by omega⟩) := by
  rw [ib2]
  refine Eq.trans ?_ ((v9_kv m c d ⟨512 + j.val, by omega⟩).trans ?_)
  · congr 1
    funext a
    match a with
    | ⟨0, _⟩ => exact Fin.ext (by show 0 + 1 * d.val = d.val; omega)
    | ⟨1, _⟩ => exact Fin.ext (by show 1024 + 1 * j.val = 512 + (512 + j.val); omega)
  · refine congrArg (a2 m c) (congrArg (fun k => ix3 0 d k) (Fin.ext ?_))
    show 512 + (512 + j.val) = 1024 + j.val
    omega

/-- The memory's blocks are the whole arrays. -/
theorem idx_mem : ∀ t : Fin cfg0.N, win0_14.index t = ![0, 0] ∧ win0_15.index t = ![0, 0] := (by decide +kernel : ∀ t : Fin grid0.N, _)
theorem ib14 (t : Fin cfg0.N) : iblk m c 14 t = V m c main_arg15 := by
  funext (y : S128x512.Idx)
  blk_ext [iblk, idx_mem t]
theorem ib15 (t : Fin cfg0.N) : iblk m c 15 t = V m c main_arg16 := by
  funext (y : S128x512.Idx)
  blk_ext [iblk, idx_mem t]

/-- The first memory rows' keys. -/
theorem firstK_at (t : Fin cfg0.N) (r : Fin 16) (d : Fin 512) (b : Fin 4) (s : Fin 4112) (hs : s.val = r.val) :
    firstK (iblk m c 14 t) (ix2 r d) = KT m c (ix3 b d s) := by
  rw [kt_mem m c b d s (by omega), ib14, V_main_arg15]
  unfold firstK
  rw [pay4_at]
  show m ((c : Thread nD τ).loc main_arg15) (rm.toLoadRect.idx (ix2 r d)) = _
  congr 1
  funext a
  match a with
  | ⟨0, _⟩ => exact Fin.ext (by show 0 + 1 * r.val = s.val; omega)
  | ⟨1, _⟩ => exact Fin.ext (by show 0 + 1 * d.val = d.val; omega)

/-- The keys carried from a block to the next. -/
theorem KC_at (t : Fin cfg0.N) (r : Fin 16) (d : Fin 512) (b : Fin 4) (s : Fin 4112) (hb : b.val = t.val / 9) (hs : s.val = rowOf t + 512 + r.val) :
    KC m c t (ix2 r d) = KT m c (ix3 b d s) := by
  obtain rfl : b = seqOf t := Fin.ext hb
  rw [show s = ⟨rowOf t + 512 + r.val, by have := row_le t; omega⟩ from Fin.ext hs]
  unfold KC keysC
  rw [ib1, V_main_arg1]
  exact kc_at m c (iblk m c 0 t) (seqOf t) (rowOf t) (row_le t) (block_at m c t) _ (cols_k m c t) r d

/-- The keys stored at a point, as far as they are copied out. -/
theorem A17_at (t : Fin cfg0.N) (d r : Fin 512) (s : Fin 4112) (hs : s.val = t.val % 9 * 512 + r.val) :
    A17 m c t (ix3 0 d r) = KT m c (ix3 (seqOf t) d s) := by
  have hN := lt36 t
  by_cases h8 : t.val % 9 = 8
  · have hr : r.val < 16 := by have := s.isLt; omega
    rw [A17_last m c t h8]
    refine (pay7_at (KC m c (prev t)) d ⟨r.val, hr⟩).trans (KC_at m c (prev t) ⟨r.val, hr⟩ d _ _ ?_ ?_)
    · show t.val / 9 = (t.val - 1) / 9
      omega
    · show s.val = min ((t.val - 1) % 9) 7 * 512 + 512 + r.val
      omega
  · rw [show s = ⟨rowOf t + r.val, by have := row_lt t r; omega⟩ from Fin.ext (by show s.val = min (t.val % 9) 7 * 512 + r.val; omega)]
    by_cases h0 : t.val % 9 = 0
    · rw [A17_first m c t h0]
      unfold keysT
      rw [ib1, V_main_arg1]
      exact kt_at m c (iblk m c 0 t) (seqOf t) (rowOf t) (row_le t) (block_at m c t) _ (cols_k m c t) _
        (fun r d => firstK_at m c t r d _ _ (by show min (t.val % 9) 7 * 512 + r.val = r.val; omega)) d r
    · rw [A17_later m c t h0 h8]
      unfold keysT
      rw [ib1, V_main_arg1]
      exact kt_at m c (iblk m c 0 t) (seqOf t) (rowOf t) (row_le t) (block_at m c t) _ (cols_k m c t) _
        (fun r d => KC_at m c (prev t) r d _ _ (by show t.val / 9 = (t.val - 1) / 9; omega)
          (by show min (t.val % 9) 7 * 512 + r.val = min ((t.val - 1) % 9) 7 * 512 + 512 + r.val; omega)) d r

/-- The first memory rows' values. -/
theorem firstV_at (t : Fin cfg0.N) (r : Fin 16) (d : Fin 512) (b : Fin 4) (s : Fin 4112) (hs : s.val = r.val) :
    firstV (iblk m c 15 t) (ix2 r d) = VT m c (ix3 b d s) := by
  rw [vt_mem m c b d s (by omega), ib15, V_main_arg16]
  unfold firstV
  rw [pay5_at]
  show m ((c : Thread nD τ).loc main_arg16) (rm.toLoadRect.idx (ix2 r d)) = _
  congr 1
  funext a
  match a with
  | ⟨0, _⟩ => exact Fin.ext (by show 0 + 1 * r.val = s.val; omega)
  | ⟨1, _⟩ => exact Fin.ext (by show 0 + 1 * d.val = d.val; omega)

/-- The values carried from a block to the next. -/
theorem VC_at (t : Fin cfg0.N) (r : Fin 16) (d : Fin 512) (b : Fin 4) (s : Fin 4112) (hb : b.val = t.val / 9) (hs : s.val = rowOf t + 512 + r.val) :
    VC m c t (ix2 r d) = VT m c (ix3 b d s) := by
  obtain rfl : b = seqOf t := Fin.ext hb
  rw [show s = ⟨rowOf t + 512 + r.val, by have := row_le t; omega⟩ from Fin.ext hs]
  unfold VC valsC
  rw [ib1, V_main_arg1]
  exact vc_at m c (iblk m c 0 t) (seqOf t) (rowOf t) (row_le t) (block_at m c t) _ (cols_v m c t) r d

/-- The values stored at a point, as far as they are copied out. -/
theorem A18_at (t : Fin cfg0.N) (d r : Fin 512) (s : Fin 4112) (hs : s.val = t.val % 9 * 512 + r.val) :
    A18 m c t (ix3 0 d r) = VT m c (ix3 (seqOf t) d s) := by
  have hN := lt36 t
  by_cases h8 : t.val % 9 = 8
  · have hr : r.val < 16 := by have := s.isLt; omega
    rw [A18_last m c t h8]
    refine (pay8_at (VC m c (prev t)) d ⟨r.val, hr⟩).trans (VC_at m c (prev t) ⟨r.val, hr⟩ d _ _ ?_ ?_)
    · show t.val / 9 = (t.val - 1) / 9
      omega
    · show s.val = min ((t.val - 1) % 9) 7 * 512 + 512 + r.val
      omega
  · rw [show s = ⟨rowOf t + r.val, by have := row_lt t r; omega⟩ from Fin.ext (by show s.val = min (t.val % 9) 7 * 512 + r.val; omega)]
    by_cases h0 : t.val % 9 = 0
    · rw [A18_first m c t h0]
      unfold valsT
      rw [ib1, V_main_arg1]
      exact vt_at m c (iblk m c 0 t) (seqOf t) (rowOf t) (row_le t) (block_at m c t) _ (cols_v m c t) _
        (fun r d => firstV_at m c t r d _ _ (by show min (t.val % 9) 7 * 512 + r.val = r.val; omega)) d r
    · rw [A18_later m c t h0 h8]
      unfold valsT
      rw [ib1, V_main_arg1]
      exact vt_at m c (iblk m c 0 t) (seqOf t) (rowOf t) (row_le t) (block_at m c t) _ (cols_v m c t) _
        (fun r d => VC_at m c (prev t) r d _ _ (by show t.val / 9 = (t.val - 1) / 9; omega)
          (by show min (t.val % 9) 7 * 512 + r.val = min ((t.val - 1) % 9) 7 * 512 + 512 + r.val; omega)) d r

attribute [local irreducible] A17 A18 A21 A25

/-! ## The arrays -/

theorem index21 : ∀ t : Fin cfg0.N, win0_21.index t (0 : Fin 3) = t.val / 9 ∧ win0_21.index t (1 : Fin 3) = 0 ∧ win0_21.index t (2 : Fin 3) = min (t.val % 9) 7 :=
  (by decide +kernel : ∀ t : Fin grid0.N, _)
theorem index25 : ∀ t : Fin cfg0.N, win0_25.index t (0 : Fin 3) = t.val / 9 ∧ win0_25.index t (1 : Fin 3) = 0 ∧ win0_25.index t (2 : Fin 3) = 0 :=
  (by decide +kernel : ∀ t : Fin grid0.N, _)
theorem flush21 : ∀ t : Fin cfg0.N, (cfg0.win 21).flush t = true ↔ t.val % 9 ≠ 7 := by decide +kernel
theorem flush25 : ∀ t : Fin cfg0.N, (cfg0.win 25).flush t = true ↔ t.val % 9 = 8 := by decide +kernel

theorem mem21 (t : Fin cfg0.N) (i : S4x8x4096.Idx) :
    i ∈ ((cfg0.win 21).blk t).view.set ↔ ∀ a : Fin 3, win0_21.index t a * S1x8x512.size a ≤ (i a).val ∧ (i a).val < win0_21.index t a * S1x8x512.size a + S1x8x512.size a := by
  show i ∈ ((View.whole main_v49_5).slice (win0_21.rect t)).set ↔ _
  rw [View.set_slice_whole, Rect.mem_set_unit]
  exact Iff.rfl

theorem mem25 (t : Fin cfg0.N) (i : S4x8x512.Idx) :
    i ∈ ((cfg0.win 25).blk t).view.set ↔ ∀ a : Fin 3, win0_25.index t a * S1x8x512.size a ≤ (i a).val ∧ (i a).val < win0_25.index t a * S1x8x512.size a + S1x8x512.size a := by
  show i ∈ ((View.whole main_v49_9).slice (win0_25.rect t)).set ↔ _
  rw [View.set_slice_whole, Rect.mem_set_unit]
  exact Iff.rfl

/-- The log gates' array after the run. -/
theorem final21 : (dats m 0 c).arrAt 21 cfg0.N = LF m c := by
  refine (dats m 0 c).arrAt_eq_of_cover 21 (LF m c) (fun t hf => ?_) (fun (i : S4x8x4096.Idx) => ?_)
  · show (cfg0.win 21).cut (grid0.coords t) ((dats m 0 c).after 21 t) = _
    rw [after_21]
    funext (y : S1x8x512.Idx)
    obtain ⟨e0, e1, e2⟩ := index21 t
    have hy0 : (y 0).val < 1 := (y 0).isLt
    have hy : y = ix3 0 (y 1) (y 2) := by
      funext a
      match a with
      | ⟨0, _⟩ => exact Fin.ext (by show (y 0).val = 0; omega)
      | ⟨1, _⟩ => rfl
      | ⟨2, _⟩ => rfl
    show A21 m c t y = LF m c (((cfg0.win 21).blk t).view.emb y)
    refine (congrArg (A21 m c t) hy).trans ((A21_at m c t (y 1) (y 2)).trans (congrArg (LF m c) (funext fun a => ?_)))
    match a with
    | ⟨0, _⟩ => exact Fin.ext (by show t.val / 9 = win0_21.index t (0 : Fin 3) * 1 + 1 * (y 0).val; omega)
    | ⟨1, _⟩ => exact Fin.ext (by show (y 1).val = win0_21.index t (1 : Fin 3) * 8 + 1 * (y 1).val; omega)
    | ⟨2, _⟩ => exact Fin.ext (by show min (t.val % 9) 7 * 512 + (y 2).val = win0_21.index t (2 : Fin 3) * 512 + 1 * (y 2).val; omega)
  · have hi0 : (i 0).val < 4 := (i 0).isLt
    have hi1 : (i 1).val < 8 := (i 1).isLt
    have hi2 : (i 2).val < 4096 := (i 2).isLt
    have hk : ∃ k, k < 9 ∧ k ≠ 7 ∧ min k 7 = (i 2).val / 512 := by
      by_cases h : (i 2).val / 512 < 7
      · exact ⟨(i 2).val / 512, by omega, by omega, by omega⟩
      · exact ⟨8, by omega, by omega, by omega⟩
    obtain ⟨k, hk9, hk7, hke⟩ := hk
    let t : Fin cfg0.N := ⟨9 * (i 0).val + k, lt_of_lt_of_eq (by omega) N_0.symm⟩
    have ht : t.val = 9 * (i 0).val + k := rfl
    obtain ⟨e0, e1, e2⟩ := index21 t
    refine ⟨t, (flush21 t).2 (by omega), (mem21 t i).2 fun a => ?_⟩
    match a with
    | ⟨0, _⟩ => show win0_21.index t (0 : Fin 3) * 1 ≤ (i 0).val ∧ (i 0).val < win0_21.index t (0 : Fin 3) * 1 + 1; omega
    | ⟨1, _⟩ => show win0_21.index t (1 : Fin 3) * 8 ≤ (i 1).val ∧ (i 1).val < win0_21.index t (1 : Fin 3) * 8 + 8; omega
    | ⟨2, _⟩ =>
      show win0_21.index t (2 : Fin 3) * 512 ≤ (i 2).val ∧ (i 2).val < win0_21.index t (2 : Fin 3) * 512 + 512
      have hm : t.val % 9 = k := by omega
      rw [e2, hm, hke]; omega

/-- The last rows' array after the run. -/
theorem final25 : (dats m 0 c).arrAt 25 cfg0.N = XL m c := by
  refine (dats m 0 c).arrAt_eq_of_cover 25 (XL m c) (fun t hf => ?_) (fun (i : S4x8x512.Idx) => ?_)
  · have h8 := (flush25 t).1 hf
    show (cfg0.win 25).cut (grid0.coords t) ((dats m 0 c).after 25 t) = _
    rw [after_25]
    funext (y : S1x8x512.Idx)
    obtain ⟨e0, e1, e2⟩ := index25 t
    have hy0 : (y 0).val < 1 := (y 0).isLt
    have hy : y = ix3 0 (y 1) (y 2) := by
      funext a
      match a with
      | ⟨0, _⟩ => exact Fin.ext (by show (y 0).val = 0; omega)
      | ⟨1, _⟩ => rfl
      | ⟨2, _⟩ => rfl
    show A25 m c t y = XL m c (((cfg0.win 25).blk t).view.emb y)
    refine (congrArg (A25 m c t) hy).trans ((A25_at m c t h8 (y 1) (y 2)).trans (congrArg (XL m c) (funext fun a => ?_)))
    match a with
    | ⟨0, _⟩ => exact Fin.ext (by show t.val / 9 = win0_25.index t (0 : Fin 3) * 1 + 1 * (y 0).val; omega)
    | ⟨1, _⟩ => exact Fin.ext (by show (y 1).val = win0_25.index t (1 : Fin 3) * 8 + 1 * (y 1).val; omega)
    | ⟨2, _⟩ => exact Fin.ext (by show (y 2).val = win0_25.index t (2 : Fin 3) * 512 + 1 * (y 2).val; omega)
  · have hi0 : (i 0).val < 4 := (i 0).isLt
    have hi1 : (i 1).val < 8 := (i 1).isLt
    have hi2 : (i 2).val < 512 := (i 2).isLt
    let t : Fin cfg0.N := ⟨9 * (i 0).val + 8, lt_of_lt_of_eq (by omega) N_0.symm⟩
    have ht : t.val = 9 * (i 0).val + 8 := rfl
    obtain ⟨e0, e1, e2⟩ := index25 t
    refine ⟨t, (flush25 t).2 (by omega), (mem25 t i).2 fun a => ?_⟩
    match a with
    | ⟨0, _⟩ => show win0_25.index t (0 : Fin 3) * 1 ≤ (i 0).val ∧ (i 0).val < win0_25.index t (0 : Fin 3) * 1 + 1; omega
    | ⟨1, _⟩ => show win0_25.index t (1 : Fin 3) * 8 ≤ (i 1).val ∧ (i 1).val < win0_25.index t (1 : Fin 3) * 8 + 8; omega
    | ⟨2, _⟩ => show win0_25.index t (2 : Fin 3) * 512 ≤ (i 2).val ∧ (i 2).val < win0_25.index t (2 : Fin 3) * 512 + 512; omega

theorem flush17 : ∀ t : Fin cfg0.N, (cfg0.win 17).flush t = true := by decide +kernel
theorem flush18 : ∀ t : Fin cfg0.N, (cfg0.win 18).flush t = true := by decide +kernel

theorem index17 : ∀ t : Fin cfg0.N, win0_17.index t (0 : Fin 3) = t.val / 9 ∧ win0_17.index t (1 : Fin 3) = 0 ∧ win0_17.index t (2 : Fin 3) = t.val % 9 :=
  (by decide +kernel : ∀ t : Fin grid0.N, _)
theorem extent17 : ∀ t : Fin cfg0.N, ((cfg0.win 17).xblock (grid0.coords t)).size (0 : Fin 3) = 1 ∧ ((cfg0.win 17).xblock (grid0.coords t)).size (1 : Fin 3) = 512
    ∧ ((cfg0.win 17).xblock (grid0.coords t)).size (2 : Fin 3) = (if t.val % 9 = 8 then 16 else 512) :=
  (by decide +kernel : ∀ t : Fin grid0.N, _)

theorem mem17 (t : Fin cfg0.N) (i : S4x512x4112.Idx) :
    i ∈ ((cfg0.win 17).blk t).view.set ↔ ∀ a : Fin 3, win0_17.index t a * S1x512x512.size a ≤ (i a).val
      ∧ (i a).val < win0_17.index t a * S1x512x512.size a + ((cfg0.win 17).xblock (grid0.coords t)).size a := by
  show i ∈ ((View.whole main_v49_1).slice (win0_17.rect t)).set ↔ _
  rw [View.set_slice_whole, Rect.mem_set_unit]
  exact Iff.rfl

/-- The keys' array after the run. -/
theorem final17 : (dats m 0 c).arrAt 17 cfg0.N = KT m c := by
  refine (dats m 0 c).arrAt_eq_of_cover 17 (KT m c) (fun t hf => ?_) (fun (i : S4x512x4112.Idx) => ?_)
  · show (cfg0.win 17).cut (grid0.coords t) ((dats m 0 c).after 17 t) = _
    rw [after_17]
    funext y
    obtain ⟨e0, e1, e2⟩ := index17 t
    obtain ⟨x0, x1, x2⟩ := extent17 t
    have hN := lt36 t
    have hy0 : (y (0 : Fin 3)).val < 1 := lt_of_lt_of_eq (y (0 : Fin 3)).isLt x0
    have hy1 : (y (1 : Fin 3)).val < 512 := lt_of_lt_of_eq (y (1 : Fin 3)).isLt x1
    have hy2 : (y (2 : Fin 3)).val < if t.val % 9 = 8 then 16 else 512 := lt_of_lt_of_eq (y (2 : Fin 3)).isLt x2
    have hy5 : (y (2 : Fin 3)).val < 512 := by split at hy2 <;> omega
    have hy6 : t.val % 9 * 512 + (y (2 : Fin 3)).val < 4112 := by split at hy2 <;> omega
    have hy : (cfg0.win 17).xinj (grid0.coords t) y = (ix3 0 ⟨(y (1 : Fin 3)).val, hy1⟩ ⟨(y (2 : Fin 3)).val, hy5⟩ : S1x512x512.Idx) := by
      funext (a : Fin 3)
      match a with
      | ⟨0, _⟩ => exact Fin.ext (by show (y (0 : Fin 3)).val = 0; omega)
      | ⟨1, _⟩ => rfl
      | ⟨2, _⟩ => rfl
    show A17 m c t ((cfg0.win 17).xinj (grid0.coords t) y) = KT m c (((cfg0.win 17).blk t).view.emb y)
    refine (congrArg (A17 m c t) hy).trans ((A17_at m c t _ _ ⟨t.val % 9 * 512 + (y (2 : Fin 3)).val, hy6⟩ rfl).trans (congrArg (KT m c) (funext fun (a : Fin 3) => ?_)))
    match a with
    | ⟨0, _⟩ => exact Fin.ext (by show t.val / 9 = win0_17.index t (0 : Fin 3) * 1 + 1 * (y (0 : Fin 3)).val; omega)
    | ⟨1, _⟩ => exact Fin.ext (by show (y (1 : Fin 3)).val = win0_17.index t (1 : Fin 3) * 512 + 1 * (y (1 : Fin 3)).val; omega)
    | ⟨2, _⟩ => exact Fin.ext (by show t.val % 9 * 512 + (y (2 : Fin 3)).val = win0_17.index t (2 : Fin 3) * 512 + 1 * (y (2 : Fin 3)).val; omega)
  · have hi0 : (i 0).val < 4 := (i 0).isLt
    have hi1 : (i 1).val < 512 := (i 1).isLt
    have hi2 : (i 2).val < 4112 := (i 2).isLt
    let t : Fin cfg0.N := ⟨9 * (i 0).val + (i 2).val / 512, lt_of_lt_of_eq (by omega) N_0.symm⟩
    have ht : t.val = 9 * (i 0).val + (i 2).val / 512 := rfl
    obtain ⟨e0, e1, e2⟩ := index17 t
    obtain ⟨x0, x1, x2⟩ := extent17 t
    refine ⟨t, flush17 t, (mem17 t i).2 fun a => ?_⟩
    match a with
    | ⟨0, _⟩ =>
      show win0_17.index t (0 : Fin 3) * 1 ≤ (i 0).val ∧ (i 0).val < win0_17.index t (0 : Fin 3) * 1 + ((cfg0.win 17).xblock (grid0.coords t)).size (0 : Fin 3)
      rw [x0]; omega
    | ⟨1, _⟩ =>
      show win0_17.index t (1 : Fin 3) * 512 ≤ (i 1).val ∧ (i 1).val < win0_17.index t (1 : Fin 3) * 512 + ((cfg0.win 17).xblock (grid0.coords t)).size (1 : Fin 3)
      rw [x1]; omega
    | ⟨2, _⟩ =>
      show win0_17.index t (2 : Fin 3) * 512 ≤ (i 2).val ∧ (i 2).val < win0_17.index t (2 : Fin 3) * 512 + ((cfg0.win 17).xblock (grid0.coords t)).size (2 : Fin 3)
      rw [x2, e2]; split <;> omega

theorem index18 : ∀ t : Fin cfg0.N, win0_18.index t (0 : Fin 3) = t.val / 9 ∧ win0_18.index t (1 : Fin 3) = 0 ∧ win0_18.index t (2 : Fin 3) = t.val % 9 :=
  (by decide +kernel : ∀ t : Fin grid0.N, _)
theorem extent18 : ∀ t : Fin cfg0.N, ((cfg0.win 18).xblock (grid0.coords t)).size (0 : Fin 3) = 1 ∧ ((cfg0.win 18).xblock (grid0.coords t)).size (1 : Fin 3) = 512
    ∧ ((cfg0.win 18).xblock (grid0.coords t)).size (2 : Fin 3) = (if t.val % 9 = 8 then 16 else 512) :=
  (by decide +kernel : ∀ t : Fin grid0.N, _)

theorem mem18 (t : Fin cfg0.N) (i : S4x512x4112.Idx) :
    i ∈ ((cfg0.win 18).blk t).view.set ↔ ∀ a : Fin 3, win0_18.index t a * S1x512x512.size a ≤ (i a).val
      ∧ (i a).val < win0_18.index t a * S1x512x512.size a + ((cfg0.win 18).xblock (grid0.coords t)).size a := by
  show i ∈ ((View.whole main_v49_2).slice (win0_18.rect t)).set ↔ _
  rw [View.set_slice_whole, Rect.mem_set_unit]
  exact Iff.rfl

/-- The values' array after the run. -/
theorem final18 : (dats m 0 c).arrAt 18 cfg0.N = VT m c := by
  refine (dats m 0 c).arrAt_eq_of_cover 18 (VT m c) (fun t hf => ?_) (fun (i : S4x512x4112.Idx) => ?_)
  · show (cfg0.win 18).cut (grid0.coords t) ((dats m 0 c).after 18 t) = _
    rw [after_18]
    funext y
    obtain ⟨e0, e1, e2⟩ := index18 t
    obtain ⟨x0, x1, x2⟩ := extent18 t
    have hN := lt36 t
    have hy0 : (y (0 : Fin 3)).val < 1 := lt_of_lt_of_eq (y (0 : Fin 3)).isLt x0
    have hy1 : (y (1 : Fin 3)).val < 512 := lt_of_lt_of_eq (y (1 : Fin 3)).isLt x1
    have hy2 : (y (2 : Fin 3)).val < if t.val % 9 = 8 then 16 else 512 := lt_of_lt_of_eq (y (2 : Fin 3)).isLt x2
    have hy5 : (y (2 : Fin 3)).val < 512 := by split at hy2 <;> omega
    have hy6 : t.val % 9 * 512 + (y (2 : Fin 3)).val < 4112 := by split at hy2 <;> omega
    have hy : (cfg0.win 18).xinj (grid0.coords t) y = (ix3 0 ⟨(y (1 : Fin 3)).val, hy1⟩ ⟨(y (2 : Fin 3)).val, hy5⟩ : S1x512x512.Idx) := by
      funext (a : Fin 3)
      match a with
      | ⟨0, _⟩ => exact Fin.ext (by show (y (0 : Fin 3)).val = 0; omega)
      | ⟨1, _⟩ => rfl
      | ⟨2, _⟩ => rfl
    show A18 m c t ((cfg0.win 18).xinj (grid0.coords t) y) = VT m c (((cfg0.win 18).blk t).view.emb y)
    refine (congrArg (A18 m c t) hy).trans ((A18_at m c t _ _ ⟨t.val % 9 * 512 + (y (2 : Fin 3)).val, hy6⟩ rfl).trans (congrArg (VT m c) (funext fun (a : Fin 3) => ?_)))
    match a with
    | ⟨0, _⟩ => exact Fin.ext (by show t.val / 9 = win0_18.index t (0 : Fin 3) * 1 + 1 * (y (0 : Fin 3)).val; omega)
    | ⟨1, _⟩ => exact Fin.ext (by show (y (1 : Fin 3)).val = win0_18.index t (1 : Fin 3) * 512 + 1 * (y (1 : Fin 3)).val; omega)
    | ⟨2, _⟩ => exact Fin.ext (by show t.val % 9 * 512 + (y (2 : Fin 3)).val = win0_18.index t (2 : Fin 3) * 512 + 1 * (y (2 : Fin 3)).val; omega)
  · have hi0 : (i 0).val < 4 := (i 0).isLt
    have hi1 : (i 1).val < 512 := (i 1).isLt
    have hi2 : (i 2).val < 4112 := (i 2).isLt
    let t : Fin cfg0.N := ⟨9 * (i 0).val + (i 2).val / 512, lt_of_lt_of_eq (by omega) N_0.symm⟩
    have ht : t.val = 9 * (i 0).val + (i 2).val / 512 := rfl
    obtain ⟨e0, e1, e2⟩ := index18 t
    obtain ⟨x0, x1, x2⟩ := extent18 t
    refine ⟨t, flush18 t, (mem18 t i).2 fun a => ?_⟩
    match a with
    | ⟨0, _⟩ =>
      show win0_18.index t (0 : Fin 3) * 1 ≤ (i 0).val ∧ (i 0).val < win0_18.index t (0 : Fin 3) * 1 + ((cfg0.win 18).xblock (grid0.coords t)).size (0 : Fin 3)
      rw [x0]; omega
    | ⟨1, _⟩ =>
      show win0_18.index t (1 : Fin 3) * 512 ≤ (i 1).val ∧ (i 1).val < win0_18.index t (1 : Fin 3) * 512 + ((cfg0.win 18).xblock (grid0.coords t)).size (1 : Fin 3)
      rw [x1]; omega
    | ⟨2, _⟩ =>
      show win0_18.index t (2 : Fin 3) * 512 ≤ (i 2).val ∧ (i 2).val < win0_18.index t (2 : Fin 3) * 512 + ((cfg0.win 18).xblock (grid0.coords t)).size (2 : Fin 3)
      rw [x2, e2]; split <;> omega

/-- After the call the four named result arrays are the reference's values and every argument array is as it was launched. -/
theorem results : θ_run defs (onTc (τ := τ) (main (F := Ideal))) ⟨m, fun _ => 0, ρ⟩ (fun r => ∀ c : Dev nD,
    r.2.mem ((c.tc : Thread nD τ).loc main_v49_5) = LF m c
    ∧ r.2.mem ((c.tc : Thread nD τ).loc main_v49_9) = XL m c
    ∧ r.2.mem ((c.tc : Thread nD τ).loc main_v49_1) = KT m c
    ∧ r.2.mem ((c.tc : Thread nD τ).loc main_v49_2) = VT m c
    ∧ Kept m c r) :=
  (θ_run defs _ _).mono (fun r h c => ⟨(h c).2.1.trans (final21 m c), (h c).2.2.1.trans (final25 m c),
    (h c).2.2.2.1.trans (final17 m c), (h c).2.2.2.2.trans (final18 m c), (h c).1⟩) (run_values m ρ)

end Cert.Kernel1Ideal.In

end
-- ==== Proof.SmallPreRun.lean ====
/-
The small call before the attention: its body run once, from the staging buffers it is handed to the stores it leaves.
-/
module

public import proofs.«01_k».proof.Proof.Gen.Kernel3Ideal.Frame.Runs

@[expose] public section

set_option maxRecDepth 16384

noncomputable section

namespace Cert.Kernel3Ideal.Pre

open Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 20000000 in
/-- One run of the body on whole staging buffers: with the inputs' buffers at `x0` to `x15` and the outputs' at anything, the
body ends with the inputs' buffers as they were and each output's buffer at the stores listed for it, the last first. The
lists are found by stepping the body. -/
noncomputable def bodyRun (c : Dev nD) (arg0 : Memref sig .tc .vmem S160x1024 .f32) (harg0 : arg0.IsWhole) (arg1 : Memref sig .tc .vmem S1x1024 .f32) (harg1 : arg1.IsWhole) (arg2 : Memref sig .tc .vmem S1024x2688 .bf16) (harg2 : arg2.IsWhole) (arg3 : Memref sig .tc .vmem S8x1 .f32) (harg3 : arg3.IsWhole) (arg4 : Memref sig .tc .vmem S1x8 .f32) (harg4 : arg4.IsWhole) (arg5 : Memref sig .tc .vmem S4x512 .f32) (harg5 : arg5.IsWhole) (arg6 : Memref sig .tc .vmem S1x512 .f32) (harg6 : arg6.IsWhole) (arg7 : Memref sig .tc .vmem S2x256x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S32x512 .f32) (harg12 : arg12.IsWhole) (arg13 : Memref sig .tc .vmem S32x512 .f32) (harg13 : arg13.IsWhole) (arg14 : Memref sig .tc .vmem S32x512 .f32) (harg14 : arg14.IsWhole) (arg15 : Memref sig .tc .vmem S32x512 .f32) (harg15 : arg15.IsWhole) (arg16 : Memref sig .tc .vmem S32x512 .f32) (harg16 : arg16.IsWhole) (arg17 : Memref sig .tc .vmem S32x512 .f32) (harg17 : arg17.IsWhole) (arg18 : Memref sig .tc .vmem S32x512 .f32) (harg18 : arg18.IsWhole) (arg19 : Memref sig .tc .vmem S32x8 .f32) (harg19 : arg19.IsWhole) (arg20 : Memref sig .tc .vmem S32x512 .f32) (harg20 : arg20.IsWhole) (arg21 : Memref sig .tc .vmem S32x512 .f32) (harg21 : arg21.IsWhole) (arg22 : Memref sig .tc .vmem S512x128 .f32) (harg22 : arg22.IsWhole) (arg23 : Memref sig .tc .vmem S128x512 .f32) (harg23 : arg23.IsWhole) (arg24 : Memref sig .tc .vmem S128x512 .f32) (harg24 : arg24.IsWhole) (arg25 : Memref sig .tc .vmem S8x128 .f32) (harg25 : arg25.IsWhole) (arg26 : Memref sig .tc .vmem S8x128 .f32) (harg26 : arg26.IsWhole) (arg27 : Memref sig .tc .vmem S32x128 .bf16) (harg27 : arg27.IsWhole) (arg28 : Memref sig .tc .vmem S128x512 .f32) (harg28 : arg28.IsWhole) (arg29 : Memref sig .tc .vmem S8x512 .f32) (harg29 : arg29.IsWhole) (arg30 : Memref sig .tc .vmem S8x512 .f32) (harg30 : arg30.IsWhole) (arg31 : Memref sig .tc .vmem S160x512 .f32) (harg31 : arg31.IsWhole)
    (x0 : Vec F S160x1024 .f32) (x1 : Vec F S1x1024 .f32) (x2 : Vec F S1024x2688 .bf16) (x3 : Vec F S8x1 .f32) (x4 : Vec F S1x8 .f32) (x5 : Vec F S4x512 .f32) (x6 : Vec F S1x512 .f32) (x7 : Vec F S2x256x512 .bf16) (x8 : Vec F S1x512 .f32) (x9 : Vec F S1x512 .f32) (x10 : Vec F S1x512 .f32) (x11 : Vec F S1x512 .f32) (x12 : Vec F S32x512 .f32) (x13 : Vec F S32x512 .f32) (x14 : Vec F S32x512 .f32) (x15 : Vec F S32x512 .f32) :
    Σ' (L16 : List (View.Piece (Elt F) S32x512 .f32)), Σ' (L17 : List (View.Piece (Elt F) S32x512 .f32)), Σ' (L18 : List (View.Piece (Elt F) S32x512 .f32)), Σ' (L19 : List (View.Piece (Elt F) S32x8 .f32)), Σ' (L20 : List (View.Piece (Elt F) S32x512 .f32)), Σ' (L21 : List (View.Piece (Elt F) S32x512 .f32)), Σ' (L22 : List (View.Piece (Elt F) S512x128 .f32)), Σ' (L23 : List (View.Piece (Elt F) S128x512 .f32)), Σ' (L24 : List (View.Piece (Elt F) S128x512 .f32)), Σ' (L25 : List (View.Piece (Elt F) S8x128 .f32)), Σ' (L26 : List (View.Piece (Elt F) S8x128 .f32)), Σ' (L27 : List (View.Piece (Elt F) S32x128 .bf16)), Σ' (L28 : List (View.Piece (Elt F) S128x512 .f32)), Σ' (L29 : List (View.Piece (Elt F) S8x512 .f32)), Σ' (L30 : List (View.Piece (Elt F) S8x512 .f32)), { L31 : List (View.Piece (Elt F) S160x512 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20) ∗ (∃ f, arg21.view.loc (c : Thread nD τ) ↦[arg21.view.set]{fullShare} arg21.view.writes (Elt F) f L21) ∗ (∃ f, arg22.view.loc (c : Thread nD τ) ↦[arg22.view.set]{fullShare} arg22.view.writes (Elt F) f L22) ∗ (∃ f, arg23.view.loc (c : Thread nD τ) ↦[arg23.view.set]{fullShare} arg23.view.writes (Elt F) f L23) ∗ (∃ f, arg24.view.loc (c : Thread nD τ) ↦[arg24.view.set]{fullShare} arg24.view.writes (Elt F) f L24) ∗ (∃ f, arg25.view.loc (c : Thread nD τ) ↦[arg25.view.set]{fullShare} arg25.view.writes (Elt F) f L25) ∗ (∃ f, arg26.view.loc (c : Thread nD τ) ↦[arg26.view.set]{fullShare} arg26.view.writes (Elt F) f L26) ∗ (∃ f, arg27.view.loc (c : Thread nD τ) ↦[arg27.view.set]{fullShare} arg27.view.writes (Elt F) f L27) ∗ (∃ f, arg28.view.loc (c : Thread nD τ) ↦[arg28.view.set]{fullShare} arg28.view.writes (Elt F) f L28) ∗ (∃ f, arg29.view.loc (c : Thread nD τ) ↦[arg29.view.set]{fullShare} arg29.view.writes (Elt F) f L29) ∗ (∃ f, arg30.view.loc (c : Thread nD τ) ↦[arg30.view.set]{fullShare} arg30.view.writes (Elt F) f L30) ∗ (∃ f, arg31.view.loc (c : Thread nD τ) ↦[arg31.view.set]{fullShare} arg31.view.writes (Elt F) f L31)) -∗ K ⟨⟩))
          ⊢ wp frame (wpE (defs₀ (F := F)) Variants.none c none) E (cc0_small_pre arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K } := by
  refine ⟨?_, ?_, ?_, ?_, ?_, ?_, ?_, ?_, ?_, ?_, ?_, ?_, ?_, ?_, ?_, ?_, fun E K => ?run⟩
  case run =>
    simp only [cc0_small_pre_eq_skeleton]; unfold cc0_small_pre_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    iexists _; iexact H31

end Cert.Kernel3Ideal.Pre

end
-- ==== Proof.SmallPreFrame.lean ====
/-
The small call before the attention: it runs, leaves its arguments as they were, and each of its result arrays ends at what
the body's one run stores.
-/
module

public import proofs.«01_k».proof.Proof.SmallPreRun
public import Idealize.ShloMosaic.Lib.Claim

@[expose] public section

set_option maxRecDepth 16384

noncomputable section

namespace Cert.Kernel3Ideal.Pre

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at the call's own staging buffers and input blocks. -/
def run (c : Dev nD) (t : Fin cfg0.N) := bodyRun c
  (ms0_0 t) (hs0_0 t) (ms0_1 t) (hs0_1 t) (ms0_2 t) (hs0_2 t) (ms0_3 t) (hs0_3 t) (ms0_4 t) (hs0_4 t) (ms0_5 t)
  (hs0_5 t) (ms0_6 t) (hs0_6 t) (ms0_7 t) (hs0_7 t) (ms0_8 t) (hs0_8 t) (ms0_9 t) (hs0_9 t) (ms0_10 t) (hs0_10 t)
  (ms0_11 t) (hs0_11 t) (ms0_12 t) (hs0_12 t) (ms0_13 t) (hs0_13 t) (ms0_14 t) (hs0_14 t) (ms0_15 t) (hs0_15 t)
  (ms0_16 t) (hs0_16 t) (ms0_17 t) (hs0_17 t) (ms0_18 t) (hs0_18 t) (ms0_19 t) (hs0_19 t) (ms0_20 t) (hs0_20 t)
  (ms0_21 t) (hs0_21 t) (ms0_22 t) (hs0_22 t) (ms0_23 t) (hs0_23 t) (ms0_24 t) (hs0_24 t) (ms0_25 t) (hs0_25 t)
  (ms0_26 t) (hs0_26 t) (ms0_27 t) (hs0_27 t) (ms0_28 t) (hs0_28 t) (ms0_29 t) (hs0_29 t) (ms0_30 t) (hs0_30 t)
  (ms0_31 t) (hs0_31 t) (iblk m c 0 t) (iblk m c 1 t) (iblk m c 2 t) (iblk m c 3 t) (iblk m c 4 t) (iblk m c 5 t)
  (iblk m c 6 t) (iblk m c 7 t) (iblk m c 8 t) (iblk m c 9 t) (iblk m c 10 t) (iblk m c 11 t) (iblk m c 12 t)
  (iblk m c 13 t) (iblk m c 14 t) (iblk m c 15 t)

/-! Each output's stores cover its block. -/

theorem cover16 (c : Dev nD) (t : Fin cfg0.N) (y : S32x512.Idx) : ∃ pc ∈ (run m c t).1, y ∈ pc.1.set :=
  View.cover_of_tiledL (run m c t).1 S32x512.size (by sl_kernel_rfl) y

theorem cover17 (c : Dev nD) (t : Fin cfg0.N) (y : S32x512.Idx) : ∃ pc ∈ (run m c t).2.1, y ∈ pc.1.set :=
  View.cover_of_tiledL (run m c t).2.1 S32x512.size (by sl_kernel_rfl) y

theorem cover18 (c : Dev nD) (t : Fin cfg0.N) (y : S32x512.Idx) : ∃ pc ∈ (run m c t).2.2.1, y ∈ pc.1.set :=
  View.cover_of_tiledL (run m c t).2.2.1 S32x512.size (by sl_kernel_rfl) y

theorem cover19 (c : Dev nD) (t : Fin cfg0.N) (y : S32x8.Idx) : ∃ pc ∈ (run m c t).2.2.2.1, y ∈ pc.1.set :=
  View.cover_of_tiledL (run m c t).2.2.2.1 S32x8.size (by sl_kernel_rfl) y

theorem cover20 (c : Dev nD) (t : Fin cfg0.N) (y : S32x512.Idx) : ∃ pc ∈ (run m c t).2.2.2.2.1, y ∈ pc.1.set :=
  View.cover_of_tiledL (run m c t).2.2.2.2.1 S32x512.size (by sl_kernel_rfl) y

theorem cover21 (c : Dev nD) (t : Fin cfg0.N) (y : S32x512.Idx) : ∃ pc ∈ (run m c t).2.2.2.2.2.1, y ∈ pc.1.set :=
  View.cover_of_tiledL (run m c t).2.2.2.2.2.1 S32x512.size (by sl_kernel_rfl) y

theorem cover22 (c : Dev nD) (t : Fin cfg0.N) (y : S512x128.Idx) : ∃ pc ∈ (run m c t).2.2.2.2.2.2.1, y ∈ pc.1.set :=
  View.cover_of_tiledL (run m c t).2.2.2.2.2.2.1 S512x128.size (by sl_kernel_rfl) y

theorem cover23 (c : Dev nD) (t : Fin cfg0.N) (y : S128x512.Idx) : ∃ pc ∈ (run m c t).2.2.2.2.2.2.2.1, y ∈ pc.1.set :=
  View.cover_of_tiledL (run m c t).2.2.2.2.2.2.2.1 S128x512.size (by sl_kernel_rfl) y

theorem cover24 (c : Dev nD) (t : Fin cfg0.N) (y : S128x512.Idx) : ∃ pc ∈ (run m c t).2.2.2.2.2.2.2.2.1, y ∈ pc.1.set :=
  View.cover_of_tiledL (run m c t).2.2.2.2.2.2.2.2.1 S128x512.size (by sl_kernel_rfl) y

theorem cover25 (c : Dev nD) (t : Fin cfg0.N) (y : S8x128.Idx) : ∃ pc ∈ (run m c t).2.2.2.2.2.2.2.2.2.1, y ∈ pc.1.set :=
  View.cover_of_tiledL (run m c t).2.2.2.2.2.2.2.2.2.1 S8x128.size (by sl_kernel_rfl) y

theorem cover26 (c : Dev nD) (t : Fin cfg0.N) (y : S8x128.Idx) : ∃ pc ∈ (run m c t).2.2.2.2.2.2.2.2.2.2.1, y ∈ pc.1.set :=
  View.cover_of_tiledL (run m c t).2.2.2.2.2.2.2.2.2.2.1 S8x128.size (by sl_kernel_rfl) y

theorem cover27 (c : Dev nD) (t : Fin cfg0.N) (y : S32x128.Idx) : ∃ pc ∈ (run m c t).2.2.2.2.2.2.2.2.2.2.2.1, y ∈ pc.1.set :=
  View.cover_of_tiledL (run m c t).2.2.2.2.2.2.2.2.2.2.2.1 S32x128.size (by sl_kernel_rfl) y

theorem cover28 (c : Dev nD) (t : Fin cfg0.N) (y : S128x512.Idx) : ∃ pc ∈ (run m c t).2.2.2.2.2.2.2.2.2.2.2.2.1, y ∈ pc.1.set :=
  View.cover_of_tiledL (run m c t).2.2.2.2.2.2.2.2.2.2.2.2.1 S128x128.size (by sl_kernel_rfl) y

theorem cover29 (c : Dev nD) (t : Fin cfg0.N) (y : S8x512.Idx) : ∃ pc ∈ (run m c t).2.2.2.2.2.2.2.2.2.2.2.2.2.1, y ∈ pc.1.set :=
  View.cover_of_tiledL (run m c t).2.2.2.2.2.2.2.2.2.2.2.2.2.1 S8x512.size (by sl_kernel_rfl) y

theorem cover30 (c : Dev nD) (t : Fin cfg0.N) (y : S8x512.Idx) : ∃ pc ∈ (run m c t).2.2.2.2.2.2.2.2.2.2.2.2.2.2.1, y ∈ pc.1.set :=
  View.cover_of_tiledL (run m c t).2.2.2.2.2.2.2.2.2.2.2.2.2.2.1 S8x512.size (by sl_kernel_rfl) y

theorem cover31 (c : Dev nD) (t : Fin cfg0.N) (y : S160x512.Idx) : ∃ pc ∈ (run m c t).2.2.2.2.2.2.2.2.2.2.2.2.2.2.2.1, y ∈ pc.1.set :=
  View.cover_of_tiledBy (run m c t).2.2.2.2.2.2.2.2.2.2.2.2.2.2.2.1 ![16, 512] (by sl_kernel_rfl) y

-- from here on the run is used through its type and the covers above
attribute [local irreducible] run

/-- The call's proof data: the arrays as the call finds them; after the body each input's buffer at its block and each output's
at its stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => View.canon (run m c t).1
    | ⟨17, _⟩ => View.canon (run m c t).2.1
    | ⟨18, _⟩ => View.canon (run m c t).2.2.1
    | ⟨19, _⟩ => View.canon (run m c t).2.2.2.1
    | ⟨20, _⟩ => View.canon (run m c t).2.2.2.2.1
    | ⟨21, _⟩ => View.canon (run m c t).2.2.2.2.2.1
    | ⟨22, _⟩ => View.canon (run m c t).2.2.2.2.2.2.1
    | ⟨23, _⟩ => View.canon (run m c t).2.2.2.2.2.2.2.1
    | ⟨24, _⟩ => View.canon (run m c t).2.2.2.2.2.2.2.2.1
    | ⟨25, _⟩ => View.canon (run m c t).2.2.2.2.2.2.2.2.2.1
    | ⟨26, _⟩ => View.canon (run m c t).2.2.2.2.2.2.2.2.2.2.1
    | ⟨27, _⟩ => View.canon (run m c t).2.2.2.2.2.2.2.2.2.2.2.1
    | ⟨28, _⟩ => View.canon (run m c t).2.2.2.2.2.2.2.2.2.2.2.2.1
    | ⟨29, _⟩ => View.canon (run m c t).2.2.2.2.2.2.2.2.2.2.2.2.2.1
    | ⟨30, _⟩ => View.canon (run m c t).2.2.2.2.2.2.2.2.2.2.2.2.2.2.1
    | ⟨31, _⟩ => View.canon (run m c t).2.2.2.2.2.2.2.2.2.2.2.2.2.2.2.1
    | ⟨_ + 32, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = View.canon (run m c t).1 := by dsimp only [dats]
theorem after_17 (c : Dev nD) (t : Fin cfg0.N) : (dats m 0 c).after 17 t = View.canon (run m c t).2.1 := by dsimp only [dats]
theorem after_18 (c : Dev nD) (t : Fin cfg0.N) : (dats m 0 c).after 18 t = View.canon (run m c t).2.2.1 := by dsimp only [dats]
theorem after_19 (c : Dev nD) (t : Fin cfg0.N) : (dats m 0 c).after 19 t = View.canon (run m c t).2.2.2.1 := by dsimp only [dats]
theorem after_20 (c : Dev nD) (t : Fin cfg0.N) : (dats m 0 c).after 20 t = View.canon (run m c t).2.2.2.2.1 := by dsimp only [dats]
theorem after_21 (c : Dev nD) (t : Fin cfg0.N) : (dats m 0 c).after 21 t = View.canon (run m c t).2.2.2.2.2.1 := by dsimp only [dats]
theorem after_22 (c : Dev nD) (t : Fin cfg0.N) : (dats m 0 c).after 22 t = View.canon (run m c t).2.2.2.2.2.2.1 := by dsimp only [dats]
theorem after_23 (c : Dev nD) (t : Fin cfg0.N) : (dats m 0 c).after 23 t = View.canon (run m c t).2.2.2.2.2.2.2.1 := by dsimp only [dats]
theorem after_24 (c : Dev nD) (t : Fin cfg0.N) : (dats m 0 c).after 24 t = View.canon (run m c t).2.2.2.2.2.2.2.2.1 := by dsimp only [dats]
theorem after_25 (c : Dev nD) (t : Fin cfg0.N) : (dats m 0 c).after 25 t = View.canon (run m c t).2.2.2.2.2.2.2.2.2.1 := by dsimp only [dats]
theorem after_26 (c : Dev nD) (t : Fin cfg0.N) : (dats m 0 c).after 26 t = View.canon (run m c t).2.2.2.2.2.2.2.2.2.2.1 := by dsimp only [dats]
theorem after_27 (c : Dev nD) (t : Fin cfg0.N) : (dats m 0 c).after 27 t = View.canon (run m c t).2.2.2.2.2.2.2.2.2.2.2.1 := by dsimp only [dats]
theorem after_28 (c : Dev nD) (t : Fin cfg0.N) : (dats m 0 c).after 28 t = View.canon (run m c t).2.2.2.2.2.2.2.2.2.2.2.2.1 := by dsimp only [dats]
theorem after_29 (c : Dev nD) (t : Fin cfg0.N) : (dats m 0 c).after 29 t = View.canon (run m c t).2.2.2.2.2.2.2.2.2.2.2.2.2.1 := by dsimp only [dats]
theorem after_30 (c : Dev nD) (t : Fin cfg0.N) : (dats m 0 c).after 30 t = View.canon (run m c t).2.2.2.2.2.2.2.2.2.2.2.2.2.2.1 := by dsimp only [dats]
theorem after_31 (c : Dev nD) (t : Fin cfg0.N) : (dats m 0 c).after 31 t = View.canon (run m c t).2.2.2.2.2.2.2.2.2.2.2.2.2.2.2.1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d

/-- What the body is called with: every window's staging buffer, the inputs' at their blocks. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t))

set_option maxHeartbeats 6400000 in
/-- The body takes what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15]
  rw [show (dats m 0 c).Φ t.succ = (dats m 0 c).Φ t.castSucc from rfl,
    show (dats m 0 c).owesAt () t.succ = (dats m 0 c).owesAt () t.castSucc from rfl]
  simp only [
    after_0, after_1, after_2, after_3, after_4, after_5, after_6, after_7, after_8, after_9, after_10, after_11,
    after_12, after_13, after_14, after_15, after_16, after_17, after_18, after_19, after_20, after_21, after_22,
    after_23, after_24, after_25, after_26, after_27, after_28, after_29, after_30, after_31]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  iapply ((run m c t).2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩, ⟨%e31, H31⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_eq_canon _ _ _ (cover16 m c t)
  isplitl [H17]
  · unfold owns; iexists _; isplitr
    swap; · iexact H17
    ipureintro; exact View.read_writes_eq_canon _ _ _ (cover17 m c t)
  isplitl [H18]
  · unfold owns; iexists _; isplitr
    swap; · iexact H18
    ipureintro; exact View.read_writes_eq_canon _ _ _ (cover18 m c t)
  isplitl [H19]
  · unfold owns; iexists _; isplitr
    swap; · iexact H19
    ipureintro; exact View.read_writes_eq_canon _ _ _ (cover19 m c t)
  isplitl [H20]
  · unfold owns; iexists _; isplitr
    swap; · iexact H20
    ipureintro; exact View.read_writes_eq_canon _ _ _ (cover20 m c t)
  isplitl [H21]
  · unfold owns; iexists _; isplitr
    swap; · iexact H21
    ipureintro; exact View.read_writes_eq_canon _ _ _ (cover21 m c t)
  isplitl [H22]
  · unfold owns; iexists _; isplitr
    swap; · iexact H22
    ipureintro; exact View.read_writes_eq_canon _ _ _ (cover22 m c t)
  isplitl [H23]
  · unfold owns; iexists _; isplitr
    swap; · iexact H23
    ipureintro; exact View.read_writes_eq_canon _ _ _ (cover23 m c t)
  isplitl [H24]
  · unfold owns; iexists _; isplitr
    swap; · iexact H24
    ipureintro; exact View.read_writes_eq_canon _ _ _ (cover24 m c t)
  isplitl [H25]
  · unfold owns; iexists _; isplitr
    swap; · iexact H25
    ipureintro; exact View.read_writes_eq_canon _ _ _ (cover25 m c t)
  isplitl [H26]
  · unfold owns; iexists _; isplitr
    swap; · iexact H26
    ipureintro; exact View.read_writes_eq_canon _ _ _ (cover26 m c t)
  isplitl [H27]
  · unfold owns; iexists _; isplitr
    swap; · iexact H27
    ipureintro; exact View.read_writes_eq_canon _ _ _ (cover27 m c t)
  isplitl [H28]
  · unfold owns; iexists _; isplitr
    swap; · iexact H28
    ipureintro; exact View.read_writes_eq_canon _ _ _ (cover28 m c t)
  isplitl [H29]
  · unfold owns; iexists _; isplitr
    swap; · iexact H29
    ipureintro; exact View.read_writes_eq_canon _ _ _ (cover29 m c t)
  isplitl [H30]
  · unfold owns; iexists _; isplitr
    swap; · iexact H30
    ipureintro; exact View.read_writes_eq_canon _ _ _ (cover30 m c t)
  unfold owns; iexists _; isplitr
  swap; · iexact H31
  ipureintro; exact View.read_writes_eq_canon _ _ _ (cover31 m c t)

theorem defs₀_row (t : Fin cfg0.N) :
    defs₀ (F := F) .tc cfg0.body (cfg0.bodyArgs t (cfg0.slots t)) = bodyAt0 t := by
  unfold defs₀; rw [Defs.onTc_tc]

set_option maxHeartbeats 6400000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The call runs: every array ends at what the proof data says, and every semaphore counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every argument array ends as it was launched. -/
def Kept (c : Dev nD) (r : PUnit × MemSt nD τ sig (Elt F)) : Prop :=
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)

theorem kept_of : θ_run defs (onTc (τ := τ) (main (F := F))) ⟨m, fun _ => 0, ρ⟩ (fun r => ∀ c : Dev nD, Kept m c r) :=
  frame_of m ρ (dats m) (A_eq m) ((θ_run defs _ _).mono (fun _ h => h.1) (run_quiescent m ρ))

/-- The call's frame: every argument array ends as it was launched, every semaphore counter at zero. -/
theorem frame : θ_run defs (onTc (τ := τ) (main (F := F))) ⟨m, fun _ => 0, ρ⟩
    (fun r => (∀ c : Dev nD, Kept m c r) ∧ r.2.sem = fun _ => 0) :=
  θ_run_and (kept_of m ρ) ((θ_run defs _ _).mono (fun _ h => h.2) (run_quiescent m ρ))

/-- The call's values: every result array ends at what the proof data says, every argument array as it was launched. -/
theorem run_values : θ_run defs (onTc (τ := τ) (main (F := F))) ⟨m, fun _ => 0, ρ⟩
    (fun r => (∀ c : Dev nD, Kept m c r) ∧ ∀ c : Dev nD, ∀ w, r.2.mem ((c : Thread nD τ).loc (Pipeline.arrRef spec0 w)) = (dats m 0 c).arrAt w cfg0.N) :=
  θ_run_and (kept_of m ρ) ((θ_run defs _ _).mono (fun _ h c w => (h.1 c).1 w) (run_quiescent m ρ))

end Cert.Kernel3Ideal.Pre

end
-- ==== Proof.SmallPreBits.lean ====
/-
The small call before the attention over bit patterns: its text is the text of its idealized copy, so its frame is that
copy's frame read over bit patterns.
-/
module

public import proofs.«01_k».proof.Kernel3
public import proofs.«01_k».proof.Defs
public import proofs.«01_k».proof.Proof.Gen.Kernel3
public import proofs.«01_k».proof.Proof.SmallPreFrame

@[expose] public section

set_option maxRecDepth 16384

noncomputable section

namespace Cert.Kernel3.Pre

open Idealize.SL.Sem Idealize
open Idealize.ShloMosaic Idealize.ShloMosaic.TcCoe Idealize.ShloMosaic.Tactic

/-- The frame claimed of the call is, text for text, the frame of its idealized copy over bit patterns. -/
theorem frame_eq : Cert.quiescent_Kernel3
    = ∀ (m : (ℓ : Loc Cert.Kernel3Ideal.nD Cert.Kernel3Ideal.τ Cert.Kernel3Ideal.sig) → Buf (Elt Bits) ℓ)
        (ρ : Dev Cert.Kernel3Ideal.nD → PrngReg), True →
      θ_run (Cert.Kernel3Ideal.defs (F := Bits)) (onTc (τ := Cert.Kernel3Ideal.τ) (Cert.Kernel3Ideal.main (F := Bits))) ⟨m, fun _ => 0, ρ⟩
        (fun r => (∀ c : Dev Cert.Kernel3Ideal.nD, Cert.Kernel3Ideal.Pre.Kept m c r) ∧ r.2.sem = fun _ => 0) := by
  sl_kernel_rfl

theorem frame : Cert.quiescent_Kernel3 := frame_eq.mpr fun m ρ _ => Cert.Kernel3Ideal.Pre.frame (F := Bits) m ρ

end Cert.Kernel3.Pre

end
-- ==== Proof.SmallPreVal.lean ====
/-
The small call before the attention: what its body computes apart from the recurrent gate is, entry by entry, the reference's.
-/
module

public import proofs.«01_k».proof.Proof.Gen.Kernel3Ideal.Frame.Runs
public import proofs.«01_k».proof.Proof.Gen.Reference3Ideal.Read
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem

namespace Cert.Kernel3Ideal.Pre

open Cert.Kernel3Ideal Cert.Kernel3Ideal.Gen

variable (m : (ℓ : Loc nD τ sig) → Buf (Elt Ideal) ℓ) (c : Dev nD)

/-! ## The arguments and the reference's tensors over them -/

/-- The sixteen meta tokens. -/
abbrev a0 : FVec Ideal S16x1024 .f32 := m ((c : Thread nD τ).loc main_arg0)
/-- The samples' tokens. -/
abbrev a1 : FVec Ideal S32x1x1024 .f32 := m ((c : Thread nD τ).loc main_arg1)
/-- The mixer's norm. -/
abbrev a2 : FVec Ideal S1x1024 .f32 := m ((c : Thread nD τ).loc main_arg2)
/-- The input projection: queries, keys, values, forget gates, recurrence input and recurrence gate side by side. -/
abbrev a3 : FVec Ideal S1x1024x2568 .f32 := m ((c : Thread nD τ).loc main_arg3)
/-- The forget gates' bias. -/
abbrev a4 : FVec Ideal S1x8 .f32 := m ((c : Thread nD τ).loc main_arg4)
/-- The recurrence convolution's four taps. -/
abbrev a5 : FVec Ideal S1x4x512 .f32 := m ((c : Thread nD τ).loc main_arg5)
/-- The recurrence convolution's bias. -/
abbrev a6 : FVec Ideal S1x512 .f32 := m ((c : Thread nD τ).loc main_arg6)
/-- The recurrence gate's weights, one block per group of channels. -/
abbrev a7 : FVec Ideal S1x8x64x64 .f32 := m ((c : Thread nD τ).loc main_arg7)
/-- The recurrence gate's bias. -/
abbrev a8 : FVec Ideal S1x512 .f32 := m ((c : Thread nD τ).loc main_arg8)
/-- The input gate's weights, one block per group of channels. -/
abbrev a9 : FVec Ideal S1x8x64x64 .f32 := m ((c : Thread nD τ).loc main_arg9)
/-- The input gate's bias. -/
abbrev a10 : FVec Ideal S1x512 .f32 := m ((c : Thread nD τ).loc main_arg10)
/-- The recurrence's decay parameter. -/
abbrev a11 : FVec Ideal S1x512 .f32 := m ((c : Thread nD τ).loc main_arg11)
/-- The recurrence's state before the samples. -/
abbrev a13 : FVec Ideal S1x32x512 .f32 := m ((c : Thread nD τ).loc main_arg13)
/-- The three recurrence inputs before each sample. -/
abbrev a14 : FVec Ideal S1x32x3x512 .f32 := m ((c : Thread nD τ).loc main_arg14)

/-- The samples' rows after the norm, as the reference has them. -/
def XN : FVec Ideal S32x1x1024 .f32 := Cert.Reference3Ideal.Read.val_main_v13 (F := Ideal) (a1 m c) (a2 m c)
/-- The meta rows, zero rows below them, after the norm, as the reference has them. -/
def XM : FVec Ideal Cert.Reference3Ideal.S128x1024 .f32 := Cert.Reference3Ideal.Read.val_main_v128 (F := Ideal) (a0 m c) (a2 m c)
/-- The samples' projection, as the reference has it. -/
def ZS : FVec Ideal Cert.Reference3Ideal.S32x1x2568 .f32 := Cert.Reference3Ideal.Read.val_main_v15 (F := Ideal) (a1 m c) (a2 m c) (a3 m c)
/-- The meta rows' projection, as the reference has it. -/
def ZM : FVec Ideal Cert.Reference3Ideal.S128x2568 .f32 := Cert.Reference3Ideal.Read.val_main_v130 (F := Ideal) (a0 m c) (a2 m c) (a3 m c)

/-- The grid's one point. -/
abbrev t0 : Fin cfg0.N := ⟨0, by rw [show cfg0.N = 1 from N_0]; exact Nat.one_pos⟩

theorem zero2 : ∀ a : Fin 2, (![0, 0] : Fin 2 → Nat) a = 0 := by decide

/-- Every input window is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] :=
  (by decide +kernel : ∀ t : Fin grid0.N, _)

/-! ## The blocks the body reads -/

theorem ib0 (t : Fin cfg0.N) : iblk m c 0 t = V m c main_v50 := by
  funext (y : S160x1024.Idx)
  blk_ext [iblk, idx t]

theorem ib1 (t : Fin cfg0.N) : iblk m c 1 t = a2 m c := by
  funext (y : S1x1024.Idx)
  blk_ext [iblk, V, idx t]

/-- A sample's row of the stacked rows. -/
theorem v50_s (r : Fin 32) (d : Fin 1024) :
    (V m c main_v50 : FVec Ideal S160x1024 .f32) (ix2 ⟨128 + r.val, by omega⟩ d) = a1 m c (ix3 r 0 d) := by
  simp only [V]
  after_reads_simp
  pointwise
  after_reads_simp
  pointwise
  rw [dif_neg (by omega), dif_neg (by omega)]
  refine congrArg (a1 m c) (congrArg (fun k => ix3 k 0 d) (Fin.ext ?_))
  show 128 + r.val - 16 - 112 = r.val
  omega

/-- A meta row of the stacked rows. -/
theorem v50_m (r : Fin 128) (d : Fin 1024) :
    (V m c main_v50 : FVec Ideal S160x1024 .f32) (ix2 ⟨r.val, by omega⟩ d)
      = Cert.Reference3Ideal.Read.val_main_v114 (F := Ideal) (a0 m c) (ix2 r d) := by
  simp only [V]
  after_reads_simp
  open Cert.Reference3Ideal.Read in
  pointwise [val_main_v114, val_main_v113, val_main_cst_9]
  after_reads_simp
  pointwise
  by_cases h : r.val < 16
  · rw [dif_pos h, dif_pos h]
  · rw [dif_neg h, dif_neg h, dif_pos (by omega)]

/-- The query columns of the concatenated weights, scaled. -/
theorem v9_q (d : Fin 1024) (j : Fin 512) :
    (V m c main_v9 : FVec Ideal S1024x2688 .bf16) (ix2 d ⟨j.val, by omega⟩)
      = a3 m c (ix3 0 d ⟨j.val, by omega⟩) * Scalar.ofBits (F := Ideal) .f32 0x3E000000#32 := by
  simp only [V]
  after_reads_simp
  pointwise
  after_reads_simp
  pointwise

/-- The key and value columns of the concatenated weights. -/
theorem v9_kv (d : Fin 1024) (j : Fin 1024) :
    (V m c main_v9 : FVec Ideal S1024x2688 .bf16) (ix2 d ⟨512 + j.val, by omega⟩) = a3 m c (ix3 0 d ⟨512 + j.val, by omega⟩) := by
  simp only [V]
  after_reads_simp
  pointwise
  after_reads_simp
  pointwise

/-- The recurrence's columns of the concatenated weights. -/
theorem v9_x (d : Fin 1024) (j : Fin 1024) :
    (V m c main_v9 : FVec Ideal S1024x2688 .bf16) (ix2 d ⟨1536 + j.val, by omega⟩) = a3 m c (ix3 0 d ⟨1544 + j.val, by omega⟩) := by
  simp only [V]
  after_reads_simp
  pointwise
  after_reads_simp
  pointwise
  rw [dif_neg (by omega), dif_neg (by omega), dif_pos (by omega)]
  refine congrArg (a3 m c) (congrArg (fun k => ix3 0 d k) (Fin.ext ?_))
  show 1544 + (1536 + j.val - 512 - 1024) = 1544 + j.val
  omega

/-- The forget gates' columns of the concatenated weights. -/
theorem v9_f (d : Fin 1024) (j : Fin 8) :
    (V m c main_v9 : FVec Ideal S1024x2688 .bf16) (ix2 d ⟨2560 + j.val, by omega⟩) = a3 m c (ix3 0 d ⟨1536 + j.val, by omega⟩) := by
  simp only [V]
  after_reads_simp
  pointwise
  after_reads_simp
  pointwise
  rw [dif_neg (by omega), dif_neg (by omega), dif_neg (by omega)]
  show (pad S1024x128 ![0, 0] ![0, 120] ![0, 0] (extractStridedSlice S1024x8 ![0, 1536]
      (fun i : S1024x2568.Idx => a3 m c (ix3 0 (i 0) (i 1))) slices_S1024x2568_S1024x8_0_1536)
      (sitofp .f32 (constantI S_ 32 0#32)) pads_S1024x8_S1024x128_000_01200 h_S_ : FVec Ideal S1024x128 .f32)
    (ix2 d ⟨2560 + j.val - 512 - 1024 - 1024, by omega⟩) = _
  pointwise
  rw [dif_pos (by omega)]
  refine congrArg (a3 m c) (congrArg (fun k => ix3 0 d k) (Fin.ext ?_))
  show 1536 + (2560 + j.val - 512 - 1024 - 1024) = 1536 + j.val
  omega

/-! ## The rows after the norm -/

/-- The norm over a row: the row times the reciprocal root of its mean square, times the norm's scale. -/
def rms {n : Nat} (X : FVec Ideal ⟨2, ![n, 1024]⟩ .f32) (g : FVec Ideal S1x1024 .f32) (r : Fin n) (d : Fin 1024) : EReal :=
  X (ix2 r d) * Ideal.rsqrt (Ideal.div (∑ k : Fin 1024, X (ix2 r k) * X (ix2 r k)) (Scalar.ofBits (F := Ideal) .f32 0x44800000#32)
    + Scalar.ofBits (F := Ideal) .f32 0x358637BD#32) * g (ix2 0 d)

/-- The projection of the stacked rows at an index. -/
theorem proj_at (X : FVec Ideal S160x1024 .f32) (g : FVec Ideal S1x1024 .f32) (w : FVec Ideal S1024x2688 .bf16) (r : Fin 160) (j : Fin 2688) :
    k0_pay2 (F := Ideal) X g w (ix2 r j) = ∑ d : Fin 1024, rms X g r d * w (ix2 d j) := by
  pointwise [k0_pay2, rms]

/-- The norm of a row that is known entry by entry. -/
theorem rms_row (X : FVec Ideal S160x1024 .f32) (g : FVec Ideal S1x1024 .f32) (r : Fin 160) (y : Fin 1024 → EReal)
    (h : ∀ d, X (ix2 r d) = y d) (d : Fin 1024) :
    rms X g r d = y d * Ideal.rsqrt (Ideal.div (∑ k : Fin 1024, y k * y k) (Scalar.ofBits (F := Ideal) .f32 0x44800000#32)
      + Scalar.ofBits (F := Ideal) .f32 0x358637BD#32) * g (ix2 0 d) := by
  simp only [rms, h]

theorem xn_at (r : Fin 32) (d : Fin 1024) : rms (V m c main_v50) (a2 m c) ⟨128 + r.val, by omega⟩ d = XN m c (ix3 r 0 d) := by
  rw [rms_row (V m c main_v50) (a2 m c) ⟨128 + r.val, by omega⟩ (fun e => a1 m c (ix3 r 0 e)) (fun e => v50_s m c r e) d]
  open Cert.Reference3Ideal.Read in
  pointwise [XN, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]

theorem xm_at (r : Fin 128) (d : Fin 1024) : rms (V m c main_v50) (a2 m c) ⟨r.val, by omega⟩ d = XM m c (ix2 r d) := by
  rw [rms_row (V m c main_v50) (a2 m c) ⟨r.val, by omega⟩
    (fun e => Cert.Reference3Ideal.Read.val_main_v114 (F := Ideal) (a0 m c) (ix2 r e)) (fun e => v50_m m c r e) d]
  open Cert.Reference3Ideal.Read in
  pointwise [XM, val_main_v128, val_main_v127, val_main_v126, val_main_v125, val_main_v124, val_main_v123, val_main_v122,
    val_main_v121, val_main_v120, val_main_v119, val_main_v118, val_main_v117, val_main_v116, val_main_v115, val_main_cst_10, val_main_cst_11, val_main_cst_12]

/-- The projection of the stacked rows, as the body holds it. -/
abbrev PR : FVec Ideal S160x2688 .f32 := k0_pay2 (F := Ideal) (V m c main_v50) (a2 m c) (V m c main_v9)

/-- A column of the samples' projection is the reference's column with the same weights. -/
theorem zs_of (r : Fin 32) (j : Fin 2688) (k : Fin 2568)
    (h : ∀ d : Fin 1024, (V m c main_v9 : FVec Ideal S1024x2688 .bf16) (ix2 d j) = a3 m c (ix3 0 d k)) :
    PR m c (ix2 ⟨128 + r.val, by omega⟩ j) = ZS m c (ix3 r 0 k) := by
  have h13 : Cert.Reference3Ideal.Read.val_main_v13 (F := Ideal) (a1 m c) (a2 m c) = XN m c := rfl
  rw [PR, proj_at]
  open Cert.Reference3Ideal.Read in
  pointwise [ZS, val_main_v15, val_main_v14, h13]
  exact Finset.sum_congr rfl fun d _ => congrArg₂ (· * ·) (xn_at m c r d) (h d)

/-- A column of the meta rows' projection is the reference's column with the same weights. -/
theorem zm_of (r : Fin 128) (j : Fin 2688) (k : Fin 2568)
    (h : ∀ d : Fin 1024, (V m c main_v9 : FVec Ideal S1024x2688 .bf16) (ix2 d j) = a3 m c (ix3 0 d k)) :
    PR m c (ix2 ⟨r.val, by omega⟩ j) = ZM m c (ix2 r k) := by
  have h128 : Cert.Reference3Ideal.Read.val_main_v128 (F := Ideal) (a0 m c) (a2 m c) = XM m c := rfl
  rw [PR, proj_at]
  open Cert.Reference3Ideal.Read in
  pointwise [ZM, val_main_v130, val_main_v129, h128]
  exact Finset.sum_congr rfl fun d _ => congrArg₂ (· * ·) (xm_at m c r d) (h d)

/-! ## The linear results -/

theorem k_at (r : Fin 32) (d : Fin 512) :
    k0_pay6 (F := Ideal) (V m c main_v50) (a2 m c) (V m c main_v9) (ix2 r d)
      = Cert.Reference3Ideal.Read.val_main_v145 (F := Ideal) (a1 m c) (a2 m c) (a3 m c) (ix2 r d) := by
  have h15 : Cert.Reference3Ideal.Read.val_main_v15 (F := Ideal) (a1 m c) (a2 m c) (a3 m c) = ZS m c := rfl
  have hk := zs_of m c r ⟨512 + d.val, by omega⟩ ⟨512 + d.val, by omega⟩ fun e => v9_kv m c e ⟨d.val, by omega⟩
  open Cert.Reference3Ideal.Read in
  pointwise [k0_pay6, k0_pay4, val_main_v145, val_main_v17, h15]
  exact hk

theorem v_at (r : Fin 32) (d : Fin 512) :
    k0_pay7 (F := Ideal) (V m c main_v50) (a2 m c) (V m c main_v9) (ix2 r d)
      = Cert.Reference3Ideal.Read.val_main_v146 (F := Ideal) (a1 m c) (a2 m c) (a3 m c) (ix2 r d) := by
  have h15 : Cert.Reference3Ideal.Read.val_main_v15 (F := Ideal) (a1 m c) (a2 m c) (a3 m c) = ZS m c := rfl
  have hk := zs_of m c r ⟨1024 + d.val, by omega⟩ ⟨1024 + d.val, by omega⟩ fun e => by
    have := v9_kv m c e ⟨512 + d.val, by omega⟩
    simpa only [← Nat.add_assoc] using this
  open Cert.Reference3Ideal.Read in
  pointwise [k0_pay7, k0_pay4, val_main_v146, val_main_v18, h15]
  exact hk

theorem xr_at (r : Fin 32) (d : Fin 512) :
    k0_pay11 (F := Ideal) (k0_pay4 (V m c main_v50) (a2 m c) (V m c main_v9)) (ix2 r d)
      = Cert.Reference3Ideal.Read.val_main_v149 (F := Ideal) (a1 m c) (a2 m c) (a3 m c) (ix2 r d) := by
  have h15 : Cert.Reference3Ideal.Read.val_main_v15 (F := Ideal) (a1 m c) (a2 m c) (a3 m c) = ZS m c := rfl
  have hk := zs_of m c r ⟨1536 + d.val, by omega⟩ ⟨1544 + d.val, by omega⟩ fun e => v9_x m c e ⟨d.val, by omega⟩
  open Cert.Reference3Ideal.Read in
  pointwise [k0_pay11, k0_pay4, val_main_v149, val_main_v20, h15]
  exact hk

theorem km_at (r : Fin 128) (d : Fin 512) :
    k0_pay27 (F := Ideal) (PR m c) (ix2 r d)
      = Cert.Reference3Ideal.Read.val_main_v132 (F := Ideal) (a0 m c) (a2 m c) (a3 m c) (ix2 r d) := by
  have h130 : Cert.Reference3Ideal.Read.val_main_v130 (F := Ideal) (a0 m c) (a2 m c) (a3 m c) = ZM m c := rfl
  have hk := zm_of m c r ⟨512 + d.val, by omega⟩ ⟨512 + d.val, by omega⟩ fun e => v9_kv m c e ⟨d.val, by omega⟩
  open Cert.Reference3Ideal.Read in
  pointwise [k0_pay27, k0_pay26, val_main_v132, h130]
  exact hk

theorem vm_at (r : Fin 128) (d : Fin 512) :
    k0_pay28 (F := Ideal) (PR m c) (ix2 r d)
      = Cert.Reference3Ideal.Read.val_main_v133 (F := Ideal) (a0 m c) (a2 m c) (a3 m c) (ix2 r d) := by
  have h130 : Cert.Reference3Ideal.Read.val_main_v130 (F := Ideal) (a0 m c) (a2 m c) (a3 m c) = ZM m c := rfl
  have hk := zm_of m c r ⟨1024 + d.val, by omega⟩ ⟨1024 + d.val, by omega⟩ fun e => by
    have := v9_kv m c e ⟨512 + d.val, by omega⟩
    simpa only [← Nat.add_assoc] using this
  open Cert.Reference3Ideal.Read in
  pointwise [k0_pay28, k0_pay26, val_main_v133, h130]
  exact hk

theorem kT_at (d : Fin 512) (r : Fin 128) :
    k0_pay29 (F := Ideal) (PR m c) (ix2 d r)
      = Cert.Reference3Ideal.Read.val_main_v150 (F := Ideal) (a0 m c) (a2 m c) (a3 m c) (ix2 d r) := by
  open Cert.Reference3Ideal.Read in
  pointwise [k0_pay29, val_main_v150]
  exact km_at m c r d

theorem xm_r_at (r : Fin 8) (d : Fin 512) :
    k0_pay36 (F := Ideal) (k0_pay26 (PR m c)) (ix2 r d)
      = Cert.Reference3Ideal.Read.val_main_v152 (F := Ideal) (a0 m c) (a2 m c) (a3 m c) (ix2 r d) := by
  have h130 : Cert.Reference3Ideal.Read.val_main_v130 (F := Ideal) (a0 m c) (a2 m c) (a3 m c) = ZM m c := rfl
  have hk := zm_of m c ⟨8 + r.val, by omega⟩ ⟨1536 + d.val, by omega⟩ ⟨1544 + d.val, by omega⟩ fun e => v9_x m c e ⟨d.val, by omega⟩
  open Cert.Reference3Ideal.Read in
  pointwise [k0_pay36, k0_pay35, k0_pay26, val_main_v152, val_main_v135, h130]
  exact hk

/-- A finite sum of scaled terms is the scaled sum, for a scale that is a real and not negative. -/
theorem sum_mul_scale {ι : Type} (s : Finset ι) (f : ι → EReal) {k : EReal} (h0 : 0 ≤ k) (ht : k ≠ ⊤) :
    ∑ i ∈ s, f i * k = (∑ i ∈ s, f i) * k := by
  classical
  induction s using Finset.induction_on with
  | empty => simp
  | insert a s ha ih => rw [Finset.sum_insert ha, Finset.sum_insert ha, ih, EReal.right_distrib_of_nonneg_of_ne_top h0 ht]

/-- The f32 pattern of an eighth. -/
theorem ofBits_eighth : Ideal.ofBits .f32 0x3E000000#32 = ((1 / 8 : ℝ) : EReal) := by
  simp [Ideal.ofBits, Ideal.ieee, -EReal.coe_mul]; norm_num

theorem q_at (r : Fin 32) (d : Fin 512) :
    k0_pay5 (F := Ideal) (V m c main_v50) (a2 m c) (V m c main_v9) (ix2 r d)
      = Cert.Reference3Ideal.Read.val_main_v144 (F := Ideal) (a1 m c) (a2 m c) (a3 m c) (ix2 r d) := by
  have h13 : Cert.Reference3Ideal.Read.val_main_v13 (F := Ideal) (a1 m c) (a2 m c) = XN m c := rfl
  open Cert.Reference3Ideal.Read in
  pointwise [k0_pay5, k0_pay4, proj_at, val_main_v144, val_main_v143, val_main_v142, val_main_v16, val_main_v15, val_main_v14, val_main_cst_13, h13]
  have h8 : Ideal.ofBits .f32 1040187392#32 = ((1 / 8 : ℝ) : EReal) := ofBits_eighth
  rw [h8, ← sum_mul_scale _ _ (by exact_mod_cast (by norm_num : (0 : ℝ) ≤ 1 / 8)) (EReal.coe_ne_top _)]
  refine Finset.sum_congr rfl fun e _ => ?_
  have hq := v9_q m c e d
  rw [xn_at, mul_assoc]
  exact congrArg _ (hq.trans (by rw [← h8]; rfl))

/-- The gate's logarithm: the body's form of it and the reference's. -/
theorem log_sig (x : EReal) :
    0 - (max (0 - x) 0 + Ideal.log1p (Ideal.exp (0 - FloatOps.absf (F := Ideal) (φ := .f32) (0 - x))))
      = -if -x ≠ -x then -x else max (-x) 0 + Ideal.log1p (Ideal.exp (-FloatOps.absf (F := Ideal) (φ := .f32) (-x))) := by
  simp only [zero_sub, ne_eq, not_true_eq_false, if_false]

theorem lf_at (r : Fin 32) (d : Fin 8) :
    k0_pay10 (F := Ideal) (k0_pay8 (V m c main_v50) (a2 m c) (V m c main_v9) (a4 m c)) (k0_pay9) (ix2 r d)
      = Cert.Reference3Ideal.Read.val_main_v147 (F := Ideal) (a1 m c) (a2 m c) (a3 m c) (a4 m c) (ix2 r d) := by
  have h15 : Cert.Reference3Ideal.Read.val_main_v15 (F := Ideal) (a1 m c) (a2 m c) (a3 m c) = ZS m c := rfl
  have hk := zs_of m c r ⟨2560 + d.val, by omega⟩ ⟨1536 + d.val, by omega⟩ fun e => v9_f m c e d
  open Cert.Reference3Ideal.Read in
  pointwise [k0_pay10, k0_pay8, k0_pay9, k0_pay4, val_main_v147, val_main_v26, val_main_call0_v1, val_main_call0_call0_v11, val_main_call0_call0_v10,
    val_main_call0_call0_v9, val_main_call0_call0_v8, val_main_call0_call0_v7, val_main_call0_call0_v6, val_main_call0_call0_v5, val_main_call0_call0_v4,
    val_main_call0_call0_v3, val_main_call0_call0_v2, val_main_call0_call0_v1, val_main_call0_call0_v0, val_main_call0_call0_cst, val_main_call0_v0,
    val_main_v25, val_main_v24, val_main_v23, val_main_v22, val_main_v19, h15]
  rw [log_sig, show k0_pay2 (F := Ideal) (V m c main_v50) (a2 m c) (V m c main_v9) (ix2 ⟨128 + r.val, by omega⟩ ⟨2560 + d.val, by omega⟩)
    = ZS m c (ix3 r 0 ⟨1536 + d.val, by omega⟩) from hk]

theorem v47 (d : Fin 8) : (V m c main_v47 : FVec Ideal S8x1 .f32) (ix2 d 0) = a4 m c (ix2 0 d) := by
  simp only [V]
  after_reads_simp
  pointwise

theorem lfT_at (d : Fin 8) (r : Fin 128) :
    k0_pay30 (F := Ideal) (PR m c) (V m c main_v47) (ix2 d r)
      = Cert.Reference3Ideal.Read.val_main_v151 (F := Ideal) (a0 m c) (a2 m c) (a3 m c) (a4 m c) (ix2 d r) := by
  have h130 : Cert.Reference3Ideal.Read.val_main_v130 (F := Ideal) (a0 m c) (a2 m c) (a3 m c) = ZM m c := rfl
  have hk := zm_of m c r ⟨2560 + d.val, by omega⟩ ⟨1536 + d.val, by omega⟩ fun e => v9_f m c e d
  open Cert.Reference3Ideal.Read in
  pointwise [k0_pay30, k0_pay26, val_main_v151, val_main_v141, val_main_call2_v1, val_main_call2_call0_v11, val_main_call2_call0_v10,
    val_main_call2_call0_v9, val_main_call2_call0_v8, val_main_call2_call0_v7, val_main_call2_call0_v6, val_main_call2_call0_v5, val_main_call2_call0_v4,
    val_main_call2_call0_v3, val_main_call2_call0_v2, val_main_call2_call0_v1, val_main_call2_call0_v0, val_main_call2_call0_cst, val_main_call2_v0,
    val_main_v140, val_main_v139, val_main_v138, val_main_v137, val_main_v134, h130]
  rw [log_sig, hk, v47]

end Cert.Kernel3Ideal.Pre

end
-- ==== Proof.SmallPreGate.lean ====
/-
The recurrent gate of the small call before the attention: the body's form of it and the reference's, entry by entry.
-/
module

public import proofs.«01_k».proof.Proof.SmallPreVal

@[expose] public section

set_option maxRecDepth 16384

noncomputable section

namespace Cert.Kernel3Ideal.Pre

open Cert.Kernel3Ideal.Gen
open Idealize.ShloMosaic Idealize.ShloMosaic.TcCoe Idealize.ShloMosaic.Tactic

/-! ## The scalar laws -/

/-- The f32 pattern of a half. -/
theorem ofBits_half : Ideal.ofBits .f32 0x3F000000#32 = ((1 / 2 : ℝ) : EReal) := by
  simp [Ideal.ofBits, Ideal.ieee, -EReal.coe_mul]; norm_num

/-- The f32 pattern of two. -/
theorem ofBits_two : Ideal.ofBits .f32 0x40000000#32 = ((2 : ℝ) : EReal) := by
  simp [Ideal.ofBits, Ideal.ieee, -EReal.coe_mul]; norm_num

/-- The f32 pattern of minus eight. -/
theorem ofBits_neg_eight : Ideal.ofBits .f32 0xC1000000#32 = ((-8 : ℝ) : EReal) := by
  simp [Ideal.ofBits, Ideal.ieee, -EReal.coe_mul, -EReal.coe_neg]; norm_num

/-- The logistic function by the hyperbolic tangent of half its argument. -/
theorem sigmoid_eq (x : EReal) :
    ((1 / 2 : ℝ) : EReal) * (1 + Ideal.tanh (((1 / 2 : ℝ) : EReal) * x)) = Ideal.logistic x := by
  induction x with
  | bot =>
    rw [EReal.coe_mul_bot_of_pos (by norm_num), Ideal.tanh_bot, Ideal.logistic_bot, ← EReal.coe_one, ← EReal.coe_neg, ← EReal.coe_add]
    norm_num
  | top =>
    rw [EReal.coe_mul_top_of_pos (by norm_num), Ideal.tanh_top, Ideal.logistic_top, ← EReal.coe_one, ← EReal.coe_add, ← EReal.coe_mul]
    norm_num
  | coe r =>
    rw [← EReal.coe_mul, Ideal.tanh_coe, Ideal.logistic_coe, ← EReal.coe_one, ← EReal.coe_add, ← EReal.coe_mul]
    refine congrArg _ ?_
    have h1 : Real.exp (1 / 2 * r) * Real.exp (-(1 / 2 * r)) = 1 := by rw [← Real.exp_add]; simp
    have h2 : Real.exp (-r) = Real.exp (-(1 / 2 * r)) * Real.exp (-(1 / 2 * r)) := by
      rw [← Real.exp_add]; congr 1; ring
    rw [Real.tanh_eq, h2]
    have hu := Real.exp_pos (1 / 2 * r)
    have hw := Real.exp_pos (-(1 / 2 * r))
    generalize Real.exp (1 / 2 * r) = u at *
    generalize Real.exp (-(1 / 2 * r)) = w at *
    have ha : u + w ≠ 0 := by positivity
    have hb : 1 + w * w ≠ 0 := by positivity
    refine eq_inv_of_mul_eq_one_left ?_
    field_simp
    linear_combination 2 * w * h1

/-- The exponential is not negative. -/
theorem exp_nonneg (x : EReal) : 0 ≤ Ideal.exp x := by
  induction x with
  | bot => exact le_refl _
  | top => exact le_top
  | coe r => exact EReal.coe_nonneg.mpr (Real.exp_pos r).le

/-- The logarithm of one plus a number that is not negative is not negative. -/
theorem log1p_nonneg (x : EReal) (h : 0 ≤ x) : 0 ≤ Ideal.log1p x := by
  induction x with
  | bot => exact absurd h (by simp)
  | top =>
    rw [Ideal.log1p, EReal.add_top_of_ne_bot (show (1 : EReal) ≠ ⊥ from EReal.coe_ne_bot 1), Ideal.log_top]
    exact le_top
  | coe r =>
    have hr : 0 ≤ r := EReal.coe_nonneg.mp h
    rw [Ideal.log1p, ← EReal.coe_one, ← EReal.coe_add, Ideal.log_coe, if_neg (by linarith)]
    exact EReal.coe_nonneg.mpr (Real.log_nonneg (by linarith))

/-- The logistic function is not negative. -/
theorem logistic_nonneg (x : EReal) : 0 ≤ Ideal.logistic x := by
  induction x with
  | bot => rw [Ideal.logistic_bot]
  | top => rw [Ideal.logistic_top]; exact zero_le_one
  | coe r =>
    rw [Ideal.logistic_coe]
    have := Real.exp_pos (-r)
    exact EReal.coe_nonneg.mpr (by positivity)

/-- The softplus function is not negative. -/
theorem softplus_nonneg (y z : EReal) : 0 ≤ max y 0 + Ideal.log1p (Ideal.exp z) :=
  add_nonneg (le_max_right _ _) (log1p_nonneg _ (exp_nonneg _))

/-- The decay's exponent is not positive. -/
theorem exponent_nonpos (x y z : EReal) :
    ((-8 : ℝ) : EReal) * Ideal.logistic x * (max y 0 + Ideal.log1p (Ideal.exp z)) ≤ 0 :=
  mul_nonpos_of_nonpos_of_nonneg
    (mul_nonpos_of_nonpos_of_nonneg (EReal.coe_nonpos.mpr (by norm_num)) (logistic_nonneg x)) (softplus_nonneg y z)

/-- The root of the decay's complement: by the tangent and the reciprocal root, and by the root of the exponential's complement. -/
theorem root_eq (L : EReal) (h : L ≤ 0) :
    (if 0 < (0 - Ideal.tanh L) * (1 + Ideal.exp L * Ideal.exp L) then
        (0 - Ideal.tanh L) * (1 + Ideal.exp L * Ideal.exp L) * Ideal.rsqrt ((0 - Ideal.tanh L) * (1 + Ideal.exp L * Ideal.exp L))
      else 0)
      = Ideal.sqrt (-(Ideal.exp (((2 : ℝ) : EReal) * L) - 1)) := by
  induction L with
  | bot =>
    have hw : (0 - Ideal.tanh ⊥) * (1 + Ideal.exp ⊥ * Ideal.exp ⊥) = ((1 : ℝ) : EReal) := by simp
    rw [hw, if_pos (by simp), EReal.coe_mul_bot_of_pos (by norm_num), Ideal.exp_bot, Ideal.rsqrt_coe, zero_sub, neg_neg,
      ← EReal.coe_one, Ideal.sqrt_coe]
    norm_num
  | top => exact absurd h (by simp)
  | coe r =>
    have hr : r ≤ 0 := EReal.coe_nonpos.mp h
    have hw : (0 - Ideal.tanh (r : EReal)) * (1 + Ideal.exp (r : EReal) * Ideal.exp (r : EReal))
        = ((1 - Real.exp (2 * r) : ℝ) : EReal) := by
      rw [Ideal.tanh_coe, Ideal.exp_coe, ← EReal.coe_zero, ← EReal.coe_one, ← EReal.coe_mul, ← EReal.coe_add, ← EReal.coe_sub,
        ← EReal.coe_mul]
      refine congrArg _ ?_
      have h1 : Real.exp r * Real.exp (-r) = 1 := by rw [← Real.exp_add]; simp
      have h2 : Real.exp (2 * r) = Real.exp r * Real.exp r := by rw [← Real.exp_add]; congr 1; ring
      rw [Real.tanh_eq, h2]
      have hu := Real.exp_pos r
      have hv := Real.exp_pos (-r)
      generalize Real.exp r = u at *
      generalize Real.exp (-r) = v at *
      have ha : u + v ≠ 0 := by positivity
      field_simp
      linear_combination 2 * u * h1
    have hx : -(Ideal.exp (((2 : ℝ) : EReal) * (r : EReal)) - 1) = ((1 - Real.exp (2 * r) : ℝ) : EReal) := by
      rw [← EReal.coe_mul, Ideal.exp_coe, ← EReal.coe_one, ← EReal.coe_sub, ← EReal.coe_neg, neg_sub]
    have hn : 0 ≤ 1 - Real.exp (2 * r) := by
      have := Real.exp_le_one_iff.mpr (by linarith : 2 * r ≤ 0)
      linarith
    rw [hw, hx, Ideal.sqrt_coe, if_neg (show ¬ 1 - Real.exp (2 * r) < 0 by linarith)]
    generalize 1 - Real.exp (2 * r) = w at *
    rcases hn.eq_or_lt with h0 | h0
    · subst h0
      simp
    · rw [if_pos (by exact_mod_cast h0), Ideal.rsqrt_coe, if_neg (show ¬ w < 0 by linarith), if_neg (show ¬ w = 0 by linarith), ← EReal.coe_mul]
      refine congrArg _ ?_
      rw [← div_eq_mul_inv, Real.div_sqrt]

/-! ## The block-diagonal weights -/

/-- A sum over a band of four blocks whose terms vanish outside one block. -/
theorem block_sum (f : Fin 256 → EReal) (b : Fin 4) (hz : ∀ k : Fin 256, k.val / 64 ≠ b.val → f k = 0) :
    ∑ k : Fin 256, f k = ∑ i : Fin 64, f ⟨64 * b.val + i.val, by omega⟩ := by
  rw [← Equiv.sum_comp (finProdFinEquiv : Fin 4 × Fin 64 ≃ Fin 256) f, Fintype.sum_prod_type, Finset.sum_eq_single b]
  · exact Finset.sum_congr rfl fun i _ => congrArg f (Fin.ext (by simp [finProdFinEquiv]; omega))
  · intro g _ hg
    refine Finset.sum_eq_zero fun i _ => hz _ ?_
    have : (g.val : Nat) ≠ b.val := fun h => hg (Fin.ext h)
    simp [finProdFinEquiv]
    omega
  · exact fun h => absurd (Finset.mem_univ b) h

variable (m : (ℓ : Loc nD τ sig) → Buf (Elt Ideal) ℓ) (c : Dev nD)

/-- An entry of the identity's table times a number. -/
theorem eye_mul (a b : Fin 8) (x : EReal) :
    FloatOps.uitofp (F := Ideal) .f32 (IntOp.cmpi .eq (IntOp.addi (BitVec.ofNat 32 a.val) 0#32) (BitVec.ofNat 32 b.val)) * x
      = if a.val = b.val then x else 0 := by
  have h : ∀ a b : Fin 8, IntOp.cmpi .eq (IntOp.addi (BitVec.ofNat 32 a.val) 0#32) (BitVec.ofNat 32 b.val)
      = if a.val = b.val then 1#1 else 0#1 := by decide
  rw [h]
  by_cases e : a.val = b.val
  · rw [if_pos e, if_pos e]
    exact (congrArg (· * x) (by simp [FloatOps.uitofp] : FloatOps.uitofp (F := Ideal) .f32 (1#1) = (1 : EReal))).trans (one_mul x)
  · rw [if_neg e, if_neg e]
    exact (congrArg (· * x) (by simp [FloatOps.uitofp] : FloatOps.uitofp (F := Ideal) .f32 (0#1) = (0 : EReal))).trans (zero_mul x)

/-- The first gate's weights, upper band. -/
theorem v45_a0 (k j : Fin 256) : (V m c main_v45 : FVec Ideal S2x256x512 .bf16) (ix3 0 k ⟨j.val, by omega⟩)
    = if k.val / 64 = j.val / 64 then
        a7 m c (ix4 0 ⟨k.val / 64, by omega⟩ ⟨k.val % 64, by omega⟩ ⟨j.val % 64, by omega⟩) else 0 := by
  simp only [V]
  after_reads_simp
  pointwise
  after_reads_simp
  pointwise
  after_reads_simp
  pointwise
  exact eye_mul ⟨k.val / 64, by omega⟩ ⟨j.val / 64, by omega⟩ _

/-- The second gate's weights, upper band. -/
theorem v45_x0 (k j : Fin 256) : (V m c main_v45 : FVec Ideal S2x256x512 .bf16) (ix3 0 k ⟨256 + j.val, by omega⟩)
    = if k.val / 64 = j.val / 64 then
        a9 m c (ix4 0 ⟨k.val / 64, by omega⟩ ⟨k.val % 64, by omega⟩ ⟨j.val % 64, by omega⟩) else 0 := by
  simp only [V]
  after_reads_simp
  pointwise
  after_reads_simp
  pointwise
  after_reads_simp
  pointwise
  exact eye_mul ⟨k.val / 64, by omega⟩ ⟨j.val / 64, by omega⟩ _

/-- The first gate's weights, lower band. -/
theorem v45_a1 (k j : Fin 256) : (V m c main_v45 : FVec Ideal S2x256x512 .bf16) (ix3 1 k ⟨j.val, by omega⟩)
    = if (256 + k.val) / 64 = (256 + j.val) / 64 then
        a7 m c (ix4 0 ⟨(256 + k.val) / 64, by omega⟩ ⟨(256 + k.val) % 64, by omega⟩ ⟨(256 + j.val) % 64, by omega⟩) else 0 := by
  simp only [V]
  after_reads_simp
  pointwise
  after_reads_simp
  pointwise
  after_reads_simp
  pointwise
  exact eye_mul ⟨(256 + k.val) / 64, by omega⟩ ⟨(256 + j.val) / 64, by omega⟩ _

/-- The second gate's weights, lower band. -/
theorem v45_x1 (k j : Fin 256) : (V m c main_v45 : FVec Ideal S2x256x512 .bf16) (ix3 1 k ⟨256 + j.val, by omega⟩)
    = if (256 + k.val) / 64 = (256 + j.val) / 64 then
        a9 m c (ix4 0 ⟨(256 + k.val) / 64, by omega⟩ ⟨(256 + k.val) % 64, by omega⟩ ⟨(256 + j.val) % 64, by omega⟩) else 0 := by
  simp only [V]
  after_reads_simp
  pointwise
  after_reads_simp
  pointwise
  after_reads_simp
  pointwise
  exact eye_mul ⟨(256 + k.val) / 64, by omega⟩ ⟨(256 + j.val) / 64, by omega⟩ _

/-! ## The projections by blocks -/

theorem band_lo (X : FVec Ideal S32x512 .f32) (w : FVec Ideal S1x256x512 .bf16) (r : Fin 32) (j : Fin 512) :
    k0_pay14 (F := Ideal) X w (ix2 r j) = ∑ k : Fin 256, X (ix2 r ⟨k.val, by omega⟩) * w (ix3 0 k j) := by
  pointwise [k0_pay14, k0_pay13]

theorem band_hi (X : FVec Ideal S32x512 .f32) (w : FVec Ideal S1x256x512 .bf16) (r : Fin 32) (j : Fin 512) :
    k0_pay15 (F := Ideal) X w (ix2 r j) = ∑ k : Fin 256, X (ix2 r ⟨256 + k.val, by omega⟩) * w (ix3 0 k j) := by
  pointwise [k0_pay15, k0_pay13]

/-- One band of a block-diagonal product: a sum over one block. -/
theorem band_eq (o : Nat) (e : Fin 256 → Fin 512) (he : ∀ k, (e k).val = 64 * o + k.val) (j : Fin 256) (d : Fin 512) (hd : e j = d)
    (x : Fin 512 → EReal) (A : Fin 8 → Fin 64 → Fin 64 → EReal) (w : Fin 256 → EReal)
    (hw : ∀ k, w k = if (e k).val / 64 = (e j).val / 64 then
      A ⟨(e k).val / 64, by omega⟩ ⟨(e k).val % 64, by omega⟩ ⟨(e j).val % 64, by omega⟩ else 0) :
    ∑ k : Fin 256, x (e k) * w k
      = ∑ i : Fin 64, A ⟨d.val / 64, by omega⟩ i ⟨d.val % 64, by omega⟩ * x ⟨d.val / 64 * 64 + i.val, by omega⟩ := by
  subst hd
  have hj := he j
  rw [block_sum _ ⟨j.val / 64, by omega⟩ fun k hk => by
    have := he k
    rw [hw, if_neg (by simp only at hk; omega), mul_zero]]
  refine Finset.sum_congr rfl fun i _ => ?_
  have hi := he ⟨64 * (j.val / 64) + i.val, by omega⟩
  simp only at hi
  rw [hw, if_pos (by simp only; omega), mul_comm]
  refine congrArg₂ (· * ·) ?_ (congrArg x (Fin.ext (by simp only; omega)))
  rw [show (⟨(e ⟨64 * (j.val / 64) + i.val, by omega⟩).val / 64, by omega⟩ : Fin 8) = ⟨(e j).val / 64, by omega⟩ from
    Fin.ext (by simp only; omega), show (⟨(e ⟨64 * (j.val / 64) + i.val, by omega⟩).val % 64, by omega⟩ : Fin 64) = i from
    Fin.ext (by simp only; omega)]

/-! ## The whole gate -/

/-- The samples' projection, as the body holds it. -/
abbrev XR : FVec Ideal S32x2688 .f32 := k0_pay4 (F := Ideal) (V m c main_v50) (a2 m c) (V m c main_v9)
/-- The convolved row, as the body computes it. -/
def CV : FVec Ideal S32x512 .f32 := k0_pay12 (F := Ideal) (k0_pay3 (V m c main_v51)) (XR m c) (a6 m c) (V m c main_v54) (V m c main_v56) (V m c main_v58)

/-- The convolved row, as the reference computes it. -/
def RC : FVec Ideal Cert.Reference3Ideal.S32x1x512 .f32 := Cert.Reference3Ideal.Read.val_main_v62 (F := Ideal) (a1 m c) (a2 m c) (a3 m c) (a5 m c) (a6 m c) (a14 m c)

theorem v51 (j : Fin 4) (d : Fin 512) : (V m c main_v51 : FVec Ideal S4x512 .f32) (ix2 j d) = a5 m c (ix3 0 j d) := by
  simp only [V]
  after_reads_simp
  pointwise

theorem v54 (r : Fin 32) (d : Fin 512) : (V m c main_v54 : FVec Ideal S32x512 .f32) (ix2 r d) = a14 m c (ix4 0 r 0 d) := by
  simp only [V]
  after_reads_simp
  pointwise

theorem v56 (r : Fin 32) (d : Fin 512) : (V m c main_v56 : FVec Ideal S32x512 .f32) (ix2 r d) = a14 m c (ix4 0 r 1 d) := by
  simp only [V]
  after_reads_simp
  pointwise

theorem v58 (r : Fin 32) (d : Fin 512) : (V m c main_v58 : FVec Ideal S32x512 .f32) (ix2 r d) = a14 m c (ix4 0 r 2 d) := by
  simp only [V]
  after_reads_simp
  pointwise

theorem conv_at (r : Fin 32) (d : Fin 512) : CV m c (ix2 r d) = RC m c (ix3 r 0 d) := by
  have h15 : Cert.Reference3Ideal.Read.val_main_v15 (F := Ideal) (a1 m c) (a2 m c) (a3 m c) = ZS m c := rfl
  have hk := zs_of m c r ⟨1536 + d.val, by omega⟩ ⟨1544 + d.val, by omega⟩ fun e => v9_x m c e ⟨d.val, by omega⟩
  open Cert.Reference3Ideal.Read in
  pointwise [CV, XR, k0_pay12, k0_pay3, k0_pay4, k0_pay11, RC, val_main_v62, val_main_v61, val_main_v60, val_main_v59, val_main_v58, val_main_v57, val_main_v56,
    val_main_v55, val_main_v54, val_main_v53, val_main_v52, val_main_v51, val_main_v50, val_main_v49, val_main_v48, val_main_v47, val_main_v46, val_main_v45,
    val_main_v44, val_main_v43, val_main_v42, val_main_v41, val_main_v40, val_main_v39, val_main_v38, val_main_v37, val_main_v36, val_main_v35, val_main_v34,
    val_main_v33, val_main_v32, val_main_v31, val_main_v30, val_main_v29, val_main_v28, val_main_v27, val_main_v20, val_main_cst_2, h15]
  rw [v51, v51, v51, v51, v54, v56, v58, show k0_pay2 (F := Ideal) (V m c main_v50) (a2 m c) (V m c main_v9)
    (ix2 ⟨128 + r.val, by omega⟩ ⟨1536 + d.val, by omega⟩) = ZS m c (ix3 r 0 ⟨1544 + d.val, by omega⟩) from hk]
  simp only [add_assoc]

/-- The gates' weights, one band of them. -/
abbrev wg (b : Fin 2) : FVec Ideal S1x256x512 .bf16 := fun i => (V m c main_v45 : FVec Ideal S2x256x512 .bf16) (ix3 b (i 1) (i 2))

/-- The blocks' products of the convolved row, as the reference sums them. -/
def blocks (A : FVec Ideal S1x8x64x64 .f32) (r : Fin 32) (d : Fin 512) : EReal :=
  ∑ i : Fin 64, A (ix4 0 ⟨d.val / 64, by omega⟩ i ⟨d.val % 64, by omega⟩) * RC m c (ix3 r 0 ⟨d.val / 64 * 64 + i.val, by omega⟩)

/-- The first gate's logistic function times minus eight. -/
theorem gate_a (r : Fin 32) (d : Fin 512) :
    k0_pay17 (F := Ideal) (CV m c) (a8 m c) (wg m c 0) (wg m c 1) (ix2 r d)
      = ((-8 : ℝ) : EReal) * Ideal.logistic (blocks m c (a7 m c) r d + a8 m c (ix2 0 d)) := by
  have hb : (if h : d.val < 256 then ∑ k : Fin 256, CV m c (ix2 r ⟨k.val, by omega⟩) * wg m c 0 (ix3 0 k d)
      else ∑ k : Fin 256, CV m c (ix2 r ⟨256 + k.val, by omega⟩) * wg m c 1 (ix3 0 k ⟨d.val - 256, by omega⟩))
      = blocks m c (a7 m c) r d := by
    simp only [conv_at]
    by_cases h : d.val < 256
    · rw [dif_pos h]
      exact band_eq 0 (fun k => ⟨k.val, by omega⟩) (fun k => by simp) ⟨d.val, h⟩ d rfl (fun k => RC m c (ix3 r 0 k))
        (fun a b e => a7 m c (ix4 0 a b e)) (fun k => wg m c 0 (ix3 0 k d)) (fun k => v45_a0 m c k ⟨d.val, h⟩)
    · rw [dif_neg h]
      exact band_eq 4 (fun k => ⟨256 + k.val, by omega⟩) (fun k => by simp) ⟨d.val - 256, by omega⟩ d (Fin.ext (by simp only; omega))
        (fun k => RC m c (ix3 r 0 k)) (fun a b e => a7 m c (ix4 0 a b e)) (fun k => wg m c 1 (ix3 0 k ⟨d.val - 256, by omega⟩))
        (fun k => v45_a1 m c k ⟨d.val - 256, by omega⟩)
  have h1 : Ideal.ofBits .f32 1056964608#32 = ((1 / 2 : ℝ) : EReal) := ofBits_half
  have h2 : Ideal.ofBits .f32 3238002688#32 = ((-8 : ℝ) : EReal) := ofBits_neg_eight
  pointwise [k0_pay17, band_lo, band_hi]
  rw [hb, h1, h2, sigmoid_eq]

/-- The second gate's logistic function. -/
theorem gate_x (r : Fin 32) (d : Fin 512) :
    k0_pay16 (F := Ideal) (CV m c) (a10 m c) (wg m c 0) (wg m c 1) (ix2 r d)
      = Ideal.logistic (blocks m c (a9 m c) r d + a10 m c (ix2 0 d)) := by
  have hb : (if h : d.val < 256 then ∑ k : Fin 256, CV m c (ix2 r ⟨k.val, by omega⟩) * wg m c 0 (ix3 0 k ⟨256 + d.val, by omega⟩)
      else ∑ k : Fin 256, CV m c (ix2 r ⟨256 + k.val, by omega⟩) * wg m c 1 (ix3 0 k ⟨256 + (d.val - 256), by omega⟩))
      = blocks m c (a9 m c) r d := by
    simp only [conv_at]
    by_cases h : d.val < 256
    · rw [dif_pos h]
      exact band_eq 0 (fun k => ⟨k.val, by omega⟩) (fun k => by simp) ⟨d.val, h⟩ d rfl (fun k => RC m c (ix3 r 0 k))
        (fun a b e => a9 m c (ix4 0 a b e)) (fun k => wg m c 0 (ix3 0 k ⟨256 + d.val, by omega⟩)) (fun k => v45_x0 m c k ⟨d.val, h⟩)
    · rw [dif_neg h]
      exact band_eq 4 (fun k => ⟨256 + k.val, by omega⟩) (fun k => by simp) ⟨d.val - 256, by omega⟩ d (Fin.ext (by simp only; omega))
        (fun k => RC m c (ix3 r 0 k)) (fun a b e => a9 m c (ix4 0 a b e)) (fun k => wg m c 1 (ix3 0 k ⟨256 + (d.val - 256), by omega⟩))
        (fun k => v45_x1 m c k ⟨d.val - 256, by omega⟩)
  have h1 : Ideal.ofBits .f32 1056964608#32 = ((1 / 2 : ℝ) : EReal) := ofBits_half
  pointwise [k0_pay16, band_lo, band_hi]
  rw [hb, h1, sigmoid_eq]

/-- The new state by the decay's exponent. -/
theorem state_at (X Y Z : FVec Ideal S32x512 .f32) (l : FVec Ideal S1x512 .f32) (h : FVec Ideal S32x512 .f32) (r : Fin 32) (d : Fin 512)
    (L : EReal) (hL : Z (ix2 r d) * (max (-l (ix2 0 d)) 0 + Ideal.log1p (Ideal.exp (-FloatOps.absf (F := Ideal) (φ := .f32) (-l (ix2 0 d))))) = L)
    (h0 : L ≤ 0) :
    k0_pay22 (F := Ideal) X Y Z (k0_pay19 l) (k0_pay20 l) (k0_pay21) h (ix2 r d)
      = Ideal.exp L * h (ix2 r d) + Ideal.sqrt (-(Ideal.exp (((2 : ℝ) : EReal) * L) - 1)) * (Y (ix2 r d) * X (ix2 r d)) := by
  have hL' : Z (ix2 r d) * (max (0 - l (ix2 0 d)) 0 + Ideal.log1p (Ideal.exp (0 - FloatOps.absf (F := Ideal) (φ := .f32) (0 - l (ix2 0 d))))) = L := by
    simp only [zero_sub]; exact hL
  pointwise [k0_pay22, k0_pay18, k0_pay19, k0_pay20, k0_pay21]
  simp only [hL']
  rw [← root_eq L h0]

theorem v52 (r : Fin 32) (d : Fin 512) : (V m c main_v52 : FVec Ideal S32x512 .f32) (ix2 r d) = a13 m c (ix3 0 r d) := by
  simp only [V]
  after_reads_simp
  pointwise

theorem h_at (r : Fin 32) (d : Fin 512) :
    k0_pay22 (F := Ideal) (CV m c) (k0_pay16 (CV m c) (a10 m c) (wg m c 0) (wg m c 1)) (k0_pay17 (CV m c) (a8 m c) (wg m c 0) (wg m c 1))
        (k0_pay19 (a11 m c)) (k0_pay20 (a11 m c)) (k0_pay21) (V m c main_v52) (ix2 r d)
      = Cert.Reference3Ideal.Read.val_main_v148 (F := Ideal) (a1 m c) (a2 m c) (a3 m c) (a5 m c) (a6 m c) (a7 m c) (a8 m c) (a9 m c) (a10 m c)
        (a11 m c) (a13 m c) (a14 m c) (ix2 r d) := by
  have h62 : Cert.Reference3Ideal.Read.val_main_v62 (F := Ideal) (a1 m c) (a2 m c) (a3 m c) (a5 m c) (a6 m c) (a14 m c) = RC m c := rfl
  have hl : ∀ x, Ideal.div 1 (1 + Ideal.exp (-x)) = Ideal.logistic x := fun _ => rfl
  have h2 : Ideal.ofBits .f32 1073741824#32 = ((2 : ℝ) : EReal) := ofBits_two
  have h8 : Ideal.ofBits .f32 3238002688#32 = ((-8 : ℝ) : EReal) := ofBits_neg_eight
  have hba : ∀ A : FVec Ideal S1x8x64x64 .f32, (∑ i : Fin 64, A (ix4 0 ⟨d.val / 64, by omega⟩ i ⟨d.val % 64, by omega⟩)
    * RC m c (ix3 r 0 ⟨d.val / 64 * 64 + i.val, by omega⟩)) = blocks m c A r d := fun _ => rfl
  rw [state_at _ _ _ _ _ r d _ rfl (by rw [gate_a]; exact exponent_nonpos _ _ _), gate_a, gate_x, conv_at, v52]
  open Cert.Reference3Ideal.Read in
  pointwise [val_main_v148, val_main_v112, val_main_v111, val_main_v110, val_main_v109, val_main_v108, val_main_v107, val_main_v106, val_main_v105,
    val_main_v104, val_main_v103, val_main_v102, val_main_v101, val_main_v100, val_main_v99, val_main_v98, val_main_v97, val_main_v96, val_main_v95,
    val_main_v94, val_main_v93, val_main_v92, val_main_v91, val_main_v90, val_main_v89, val_main_v88, val_main_v87, val_main_v86, val_main_v85,
    val_main_v84, val_main_v83, val_main_v82, val_main_v81, val_main_v80, val_main_v79, val_main_v78,
    val_main_v77, val_main_v76, val_main_v75, val_main_v74, val_main_v73, val_main_v72, val_main_v71, val_main_v70, val_main_v69, val_main_v68,
    val_main_v67, val_main_v66, val_main_v65, val_main_v64, val_main_v63, val_main_cst_3, val_main_cst_4, val_main_cst_5, val_main_cst_6, val_main_cst_7,
    val_main_cst_8, val_main_call1_cst, val_main_call1_v0, val_main_call1_v1, val_main_call1_v2, val_main_call1_v3, val_main_call1_v4, val_main_call1_v5,
    val_main_call1_v6, val_main_call1_v7, val_main_call1_v8, val_main_call1_v9, val_main_call1_v10, val_main_call1_v11, h62]
  simp only [hba, hl, h2, h8, ne_eq, not_true_eq_false, if_false]

end Cert.Kernel3Ideal.Pre

end
-- ==== Proof.SmallPreOut.lean ====
/-
The results of the small call before the attention: every result array ends at the reference's value.
-/
module

public import Idealize.ShloMosaic.Lib.WholeRead
public import proofs.«01_k».proof.Proof.SmallPreFrame
public import proofs.«01_k».proof.Proof.SmallPreGate

@[expose] public section

set_option maxRecDepth 16384

noncomputable section

namespace Cert.Kernel3Ideal.Pre

open Cert.Kernel3Ideal.Gen
open Idealize.ShloMosaic Idealize.ShloMosaic.TcCoe Idealize.ShloMosaic.Tactic

variable (m : (ℓ : Loc nD τ sig) → Buf (Elt Ideal) ℓ) (c : Dev nD)

theorem ib2 (t : Fin cfg0.N) : iblk m c 2 t = V m c main_v9 := by
  funext (y : S1024x2688.Idx)
  blk_ext [iblk, idx t]

theorem ib3 (t : Fin cfg0.N) : iblk m c 3 t = V m c main_v47 := by
  funext (y : S8x1.Idx)
  blk_ext [iblk, idx t]

theorem ib4 (t : Fin cfg0.N) : iblk m c 4 t = a4 m c := by
  funext (y : S1x8.Idx)
  blk_ext [iblk, V, idx t]

theorem ib5 (t : Fin cfg0.N) : iblk m c 5 t = V m c main_v51 := by
  funext (y : S4x512.Idx)
  blk_ext [iblk, idx t]

theorem ib6 (t : Fin cfg0.N) : iblk m c 6 t = a6 m c := by
  funext (y : S1x512.Idx)
  blk_ext [iblk, V, idx t]

theorem ib7 (t : Fin cfg0.N) : iblk m c 7 t = V m c main_v45 := by
  funext (y : S2x256x512.Idx)
  blk_ext [iblk, idx t]

theorem ib8 (t : Fin cfg0.N) : iblk m c 8 t = a8 m c := by
  funext (y : S1x512.Idx)
  blk_ext [iblk, V, idx t]

theorem ib9 (t : Fin cfg0.N) : iblk m c 9 t = a10 m c := by
  funext (y : S1x512.Idx)
  blk_ext [iblk, V, idx t]

theorem ib10 (t : Fin cfg0.N) : iblk m c 10 t = a11 m c := by
  funext (y : S1x512.Idx)
  blk_ext [iblk, V, idx t]

theorem ib12 (t : Fin cfg0.N) : iblk m c 12 t = V m c main_v52 := by
  funext (y : S32x512.Idx)
  blk_ext [iblk, idx t]

theorem ib13 (t : Fin cfg0.N) : iblk m c 13 t = V m c main_v54 := by
  funext (y : S32x512.Idx)
  blk_ext [iblk, idx t]

theorem ib14 (t : Fin cfg0.N) : iblk m c 14 t = V m c main_v56 := by
  funext (y : S32x512.Idx)
  blk_ext [iblk, idx t]

theorem ib15 (t : Fin cfg0.N) : iblk m c 15 t = V m c main_v58 := by
  funext (y : S32x512.Idx)
  blk_ext [iblk, idx t]

/-! ## What the body loads -/

/-- A load of a rectangle of a whole staging buffer that holds `X`. -/
def ldw {s : Shape} {e : EltTy} {M : Memref sig .tc .vmem s e} (h : M.IsWhole) (X : s.Idx → Elt Ideal e) (r : Rect s) :
    r.shape.Idx → Elt Ideal e :=
  View.readAt (Elt Ideal) M.view r.toLoadRect (h.unread X)

/-- A load reads the contents at the rectangle's cells. -/
theorem ldw_at {s : Shape} {e : EltTy} {M : Memref sig .tc .vmem s e} (h : M.IsWhole) (X : s.Idx → Elt Ideal e) (r : Rect s)
    (x : r.shape.Idx) : ldw h X r x = X (r.toLoadRect.idx x) :=
  h.readAt_unread X _ x

/-- A load of the whole buffer reads its contents. -/
theorem ldw_whole {s : Shape} {e : EltTy} {M : Memref sig .tc .vmem s e} (h : M.IsWhole) (X : s.Idx → Elt Ideal e)
    {off : Fin s.rank → Nat} (inb : ∀ a, off a + s.size a ≤ s.size a) (h0 : ∀ a, off a = 0) :
    ldw h X (Rect.unit off s.size inb) = X :=
  funext fun x => (ldw_at h X _ x).trans (congrFun (View.ld_unit_lit inb X h0) x)

abbrev r160x1024 : Rect S160x1024 := Rect.unit (s := S160x1024) ![0, 0] S160x1024.size inb_S160x1024_S160x1024_0_0
abbrev r1x1024 : Rect S1x1024 := Rect.unit (s := S1x1024) ![0, 0] S1x1024.size inb_S1x1024_S1x1024_0_0
abbrev r1024x2688 : Rect S1024x2688 := Rect.unit (s := S1024x2688) ![0, 0] S1024x2688.size inb_S1024x2688_S1024x2688_0_0
abbrev r8x1 : Rect S8x1 := Rect.unit (s := S8x1) ![0, 0] S8x1.size inb_S8x1_S8x1_0_0
abbrev r1x8 : Rect S1x8 := Rect.unit (s := S1x8) ![0, 0] S1x8.size inb_S1x8_S1x8_0_0
abbrev r4x512 : Rect S4x512 := Rect.unit (s := S4x512) ![0, 0] S4x512.size inb_S4x512_S4x512_0_0
abbrev r1x512 : Rect S1x512 := Rect.unit (s := S1x512) ![0, 0] S1x512.size inb_S1x512_S1x512_0_0
abbrev r32x512 : Rect S32x512 := Rect.unit (s := S32x512) ![0, 0] S32x512.size inb_S32x512_S32x512_0_0
abbrev rband0 : Rect S2x256x512 := Rect.unit (s := S2x256x512) ![0, 0, 0] S1x256x512.size inb_S2x256x512_S1x256x512_0_0_0
abbrev rband1 : Rect S2x256x512 := Rect.unit (s := S2x256x512) ![1, 0, 0] S1x256x512.size inb_S2x256x512_S1x256x512_1_0_0

/-- The stacked rows, as the body loads them. -/
def l0 : FVec Ideal S160x1024 .f32 := ldw (hs0_0 t0_0) (iblk m c 0 t0_0) r160x1024
/-- The norm's scale, as the body loads it. -/
def l1 : FVec Ideal S1x1024 .f32 := ldw (hs0_1 t0_0) (iblk m c 1 t0_0) r1x1024
/-- The projection's weights, as the body loads them. -/
def l2 : FVec Ideal S1024x2688 .bf16 := ldw (hs0_2 t0_0) (iblk m c 2 t0_0) r1024x2688
/-- The gate's bias as a column, as the body loads it. -/
def l3 : FVec Ideal S8x1 .f32 := ldw (hs0_3 t0_0) (iblk m c 3 t0_0) r8x1
/-- The gate's bias as a row, as the body loads it. -/
def l4 : FVec Ideal S1x8 .f32 := ldw (hs0_4 t0_0) (iblk m c 4 t0_0) r1x8
/-- The convolution's taps, as the body loads them. -/
def l5 : FVec Ideal S4x512 .f32 := ldw (hs0_5 t0_0) (iblk m c 5 t0_0) r4x512
/-- The convolution's bias, as the body loads it. -/
def l6 : FVec Ideal S1x512 .f32 := ldw (hs0_6 t0_0) (iblk m c 6 t0_0) r1x512
/-- The gates' weights' first band, as the body loads it. -/
def l70 : FVec Ideal S1x256x512 .bf16 := ldw (hs0_7 t0_0) (iblk m c 7 t0_0) rband0
/-- The gates' weights' second band, as the body loads it. -/
def l71 : FVec Ideal S1x256x512 .bf16 := ldw (hs0_7 t0_0) (iblk m c 7 t0_0) rband1
/-- The first gate's bias, as the body loads it. -/
def l8 : FVec Ideal S1x512 .f32 := ldw (hs0_8 t0_0) (iblk m c 8 t0_0) r1x512
/-- The second gate's bias, as the body loads it. -/
def l9 : FVec Ideal S1x512 .f32 := ldw (hs0_9 t0_0) (iblk m c 9 t0_0) r1x512
/-- The decay's parameter, as the body loads it. -/
def l10 : FVec Ideal S1x512 .f32 := ldw (hs0_10 t0_0) (iblk m c 10 t0_0) r1x512
/-- The samples' state, as the body loads it. -/
def l12 : FVec Ideal S32x512 .f32 := ldw (hs0_12 t0_0) (iblk m c 12 t0_0) r32x512
/-- The rows of the convolution's cache, as the body loads them. -/
def l13 : FVec Ideal S32x512 .f32 := ldw (hs0_13 t0_0) (iblk m c 13 t0_0) r32x512
def l14 : FVec Ideal S32x512 .f32 := ldw (hs0_14 t0_0) (iblk m c 14 t0_0) r32x512
def l15 : FVec Ideal S32x512 .f32 := ldw (hs0_15 t0_0) (iblk m c 15 t0_0) r32x512

theorem l0_eq : l0 m c = V m c main_v50 := (ldw_whole _ _ _ zero2).trans (ib0 m c t0_0)
theorem l1_eq : l1 m c = a2 m c := (ldw_whole _ _ _ zero2).trans (ib1 m c t0_0)
theorem l2_eq : l2 m c = V m c main_v9 := (ldw_whole _ _ _ zero2).trans (ib2 m c t0_0)
theorem l3_eq : l3 m c = V m c main_v47 := (ldw_whole _ _ _ zero2).trans (ib3 m c t0_0)
theorem l4_eq : l4 m c = a4 m c := (ldw_whole _ _ _ zero2).trans (ib4 m c t0_0)
theorem l5_eq : l5 m c = V m c main_v51 := (ldw_whole _ _ _ zero2).trans (ib5 m c t0_0)
theorem l6_eq : l6 m c = a6 m c := (ldw_whole _ _ _ zero2).trans (ib6 m c t0_0)
theorem l8_eq : l8 m c = a8 m c := (ldw_whole _ _ _ zero2).trans (ib8 m c t0_0)
theorem l9_eq : l9 m c = a10 m c := (ldw_whole _ _ _ zero2).trans (ib9 m c t0_0)
theorem l10_eq : l10 m c = a11 m c := (ldw_whole _ _ _ zero2).trans (ib10 m c t0_0)
theorem l12_eq : l12 m c = V m c main_v52 := (ldw_whole _ _ _ zero2).trans (ib12 m c t0_0)
theorem l13_eq : l13 m c = V m c main_v54 := (ldw_whole _ _ _ zero2).trans (ib13 m c t0_0)
theorem l14_eq : l14 m c = V m c main_v56 := (ldw_whole _ _ _ zero2).trans (ib14 m c t0_0)
theorem l15_eq : l15 m c = V m c main_v58 := (ldw_whole _ _ _ zero2).trans (ib15 m c t0_0)

theorem l70_eq : l70 m c = wg m c 0 := by
  funext (x : S1x256x512.Idx)
  refine (ldw_at (hs0_7 t0_0) (iblk m c 7 t0_0) rband0 x).trans ?_
  rw [ib7]
  refine congrArg (V m c main_v45) (funext fun a => Fin.ext ?_)
  match a with
  | ⟨0, _⟩ => show 0 + 1 * (x 0).val = 0; have : (x 0).val < 1 := (x 0).isLt; omega
  | ⟨1, _⟩ => show 0 + 1 * (x 1).val = (x 1).val; omega
  | ⟨2, _⟩ => show 0 + 1 * (x 2).val = (x 2).val; omega

theorem l71_eq : l71 m c = wg m c 1 := by
  funext (x : S1x256x512.Idx)
  refine (ldw_at (hs0_7 t0_0) (iblk m c 7 t0_0) rband1 x).trans ?_
  rw [ib7]
  refine congrArg (V m c main_v45) (funext fun a => Fin.ext ?_)
  match a with
  | ⟨0, _⟩ => show 1 + 1 * (x 0).val = 1; have : (x 0).val < 1 := (x 0).isLt; omega
  | ⟨1, _⟩ => show 0 + 1 * (x 1).val = (x 1).val; omega
  | ⟨2, _⟩ => show 0 + 1 * (x 2).val = (x 2).val; omega

/-! ## The result arrays -/

/-- The samples' queries. -/
def QS : FVec Ideal S32x512 .f32 := Cert.Reference3Ideal.Read.val_main_v144 (F := Ideal) (a1 m c) (a2 m c) (a3 m c)
/-- The samples' keys. -/
def KS : FVec Ideal S32x512 .f32 := Cert.Reference3Ideal.Read.val_main_v145 (F := Ideal) (a1 m c) (a2 m c) (a3 m c)
/-- The samples' values. -/
def VS : FVec Ideal S32x512 .f32 := Cert.Reference3Ideal.Read.val_main_v146 (F := Ideal) (a1 m c) (a2 m c) (a3 m c)
/-- The samples' gates' logarithms. -/
def LS : FVec Ideal S32x8 .f32 := Cert.Reference3Ideal.Read.val_main_v147 (F := Ideal) (a1 m c) (a2 m c) (a3 m c) (a4 m c)
/-- The samples' new state. -/
def HS : FVec Ideal S32x512 .f32 :=
  Cert.Reference3Ideal.Read.val_main_v148 (F := Ideal) (a1 m c) (a2 m c) (a3 m c) (a5 m c) (a6 m c) (a7 m c) (a8 m c) (a9 m c) (a10 m c)
    (a11 m c) (a13 m c) (a14 m c)
/-- The samples' recurrent rows. -/
def XS : FVec Ideal S32x512 .f32 := Cert.Reference3Ideal.Read.val_main_v149 (F := Ideal) (a1 m c) (a2 m c) (a3 m c)
/-- The meta rows' keys, transposed. -/
def KT : FVec Ideal S512x128 .f32 := Cert.Reference3Ideal.Read.val_main_v150 (F := Ideal) (a0 m c) (a2 m c) (a3 m c)
/-- The meta rows' keys. -/
def KM : FVec Ideal S128x512 .f32 := Cert.Reference3Ideal.Read.val_main_v132 (F := Ideal) (a0 m c) (a2 m c) (a3 m c)
/-- The meta rows' values. -/
def VM : FVec Ideal S128x512 .f32 := Cert.Reference3Ideal.Read.val_main_v133 (F := Ideal) (a0 m c) (a2 m c) (a3 m c)
/-- The meta rows' gates' logarithms, transposed. -/
def LM : FVec Ideal S8x128 .f32 := Cert.Reference3Ideal.Read.val_main_v151 (F := Ideal) (a0 m c) (a2 m c) (a3 m c) (a4 m c)
/-- The meta rows' last recurrent rows. -/
def RM : FVec Ideal S8x512 .f32 := Cert.Reference3Ideal.Read.val_main_v152 (F := Ideal) (a0 m c) (a2 m c) (a3 m c)

/-- The stacked rows' projection, of the loads. -/
def PP : FVec Ideal S160x2688 .f32 := k0_pay2 (l0 m c) (l1 m c) (l2 m c)
/-- The convolved rows, of the loads. -/
def XP : FVec Ideal S32x512 .f32 :=
  k0_pay12 (k0_pay3 (l5 m c)) (k0_pay4 (l0 m c) (l1 m c) (l2 m c)) (l6 m c) (l13 m c) (l14 m c) (l15 m c)
/-- The samples' new state, of the loads. -/
def HP : FVec Ideal S32x512 .f32 :=
  k0_pay22 (XP m c) (k0_pay16 (XP m c) (l9 m c) (l70 m c) (l71 m c)) (k0_pay17 (XP m c) (l8 m c) (l70 m c) (l71 m c))
    (k0_pay19 (l10 m c)) (k0_pay20 (l10 m c)) k0_pay21 (l12 m c)

/-- The projection of the loads is the projection of the arrays. -/
theorem PP_eq : PP m c = PR m c := by rw [PP, l0_eq, l1_eq, l2_eq]

/-! ### What the body's stores leave -/

/-- An array stored whole, once, holds the payload. -/
theorem canon_of {S : Shape} {e : EltTy} {L : List (View.Piece (Elt Ideal) S e)} {off : Fin S.rank → Nat}
    {inb : ∀ a, off a + S.size a ≤ S.size a} {w : S.Idx → Elt Ideal e} (h : L = [⟨Rect.unit off S.size inb, w⟩])
    (h0 : ∀ a, off a = 0) : View.canon L = w := by
  rw [h]
  exact View.canon_cons_unit_lit _ _ _ h0

theorem c16 : View.canon (run m c t0_0).1 = k0_pay5 (F := Ideal) (l0 m c) (l1 m c) (l2 m c) :=
  canon_of (off := ![0, 0]) (inb := inb_S32x512_S32x512_0_0) (by simp only [run, bodyRun]; rfl) zero2

theorem c17 : View.canon (run m c t0_0).2.1 = k0_pay6 (F := Ideal) (l0 m c) (l1 m c) (l2 m c) :=
  canon_of (off := ![0, 0]) (inb := inb_S32x512_S32x512_0_0) (by simp only [run, bodyRun]; rfl) zero2

theorem c18 : View.canon (run m c t0_0).2.2.1 = k0_pay7 (F := Ideal) (l0 m c) (l1 m c) (l2 m c) :=
  canon_of (off := ![0, 0]) (inb := inb_S32x512_S32x512_0_0) (by simp only [run, bodyRun]; rfl) zero2

theorem c19 : View.canon (run m c t0_0).2.2.2.1 = k0_pay10 (F := Ideal) (k0_pay8 (l0 m c) (l1 m c) (l2 m c) (l4 m c)) k0_pay9 :=
  canon_of (off := ![0, 0]) (inb := inb_S32x8_S32x8_0_0) (by simp only [run, bodyRun]; rfl) zero2

theorem c20 : View.canon (run m c t0_0).2.2.2.2.1 = HP m c :=
  canon_of (off := ![0, 0]) (inb := inb_S32x512_S32x512_0_0) (by simp only [run, bodyRun]; rfl) zero2

theorem c21 : View.canon (run m c t0_0).2.2.2.2.2.1 = k0_pay11 (F := Ideal) (k0_pay4 (l0 m c) (l1 m c) (l2 m c)) :=
  canon_of (off := ![0, 0]) (inb := inb_S32x512_S32x512_0_0) (by simp only [run, bodyRun]; rfl) zero2

theorem c22 : View.canon (run m c t0_0).2.2.2.2.2.2.1 = k0_pay29 (F := Ideal) (PP m c) :=
  canon_of (off := ![0, 0]) (inb := inb_S512x128_S512x128_0_0) (by simp only [run, bodyRun]; rfl) zero2

theorem c23 : View.canon (run m c t0_0).2.2.2.2.2.2.2.1 = k0_pay27 (F := Ideal) (PP m c) :=
  canon_of (off := ![0, 0]) (inb := inb_S128x512_S128x512_0_0) (by simp only [run, bodyRun]; rfl) zero2

theorem c24 : View.canon (run m c t0_0).2.2.2.2.2.2.2.2.1 = k0_pay28 (F := Ideal) (PP m c) :=
  canon_of (off := ![0, 0]) (inb := inb_S128x512_S128x512_0_0) (by simp only [run, bodyRun]; rfl) zero2

theorem c25 : View.canon (run m c t0_0).2.2.2.2.2.2.2.2.2.1 = k0_pay30 (F := Ideal) (PP m c) (l3 m c) :=
  canon_of (off := ![0, 0]) (inb := inb_S8x128_S8x128_0_0) (by simp only [run, bodyRun]; rfl) zero2

theorem c30 : View.canon (run m c t0_0).2.2.2.2.2.2.2.2.2.2.2.2.2.2.1 = k0_pay36 (F := Ideal) (k0_pay26 (PP m c)) :=
  canon_of (off := ![0, 0]) (inb := inb_S8x512_S8x512_0_0) (by simp only [run, bodyRun]; rfl) zero2

attribute [local irreducible] run

/-! ### The arrays after the call are the reference's results -/

theorem g16 : (dats m 0 c).arrAt 16 cfg0.N = QS m c := by
  refine (dats m 0 c).arrAt_eq_of_after_last 16 t0_0 (by decide +kernel) _ fun (y : S32x512.Idx) => ?_
  obtain ⟨r, d, rfl⟩ : ∃ (r : Fin 32) (d : Fin 512), y = ix2 r d := ⟨y 0, y 1, eq_ix2 y⟩
  rw [after_16]
  show View.canon (run m c t0_0).1 (ix2 r d) = QS m c (ix2 r d)
  rw [c16, l0_eq, l1_eq, l2_eq]
  exact q_at m c r d

theorem g17 : (dats m 0 c).arrAt 17 cfg0.N = KS m c := by
  refine (dats m 0 c).arrAt_eq_of_after_last 17 t0_0 (by decide +kernel) _ fun (y : S32x512.Idx) => ?_
  obtain ⟨r, d, rfl⟩ : ∃ (r : Fin 32) (d : Fin 512), y = ix2 r d := ⟨y 0, y 1, eq_ix2 y⟩
  rw [after_17]
  show View.canon (run m c t0_0).2.1 (ix2 r d) = KS m c (ix2 r d)
  rw [c17, l0_eq, l1_eq, l2_eq]
  exact k_at m c r d

theorem g18 : (dats m 0 c).arrAt 18 cfg0.N = VS m c := by
  refine (dats m 0 c).arrAt_eq_of_after_last 18 t0_0 (by decide +kernel) _ fun (y : S32x512.Idx) => ?_
  obtain ⟨r, d, rfl⟩ : ∃ (r : Fin 32) (d : Fin 512), y = ix2 r d := ⟨y 0, y 1, eq_ix2 y⟩
  rw [after_18]
  show View.canon (run m c t0_0).2.2.1 (ix2 r d) = VS m c (ix2 r d)
  rw [c18, l0_eq, l1_eq, l2_eq]
  exact v_at m c r d

theorem g19 : (dats m 0 c).arrAt 19 cfg0.N = LS m c := by
  refine (dats m 0 c).arrAt_eq_of_after_last 19 t0_0 (by decide +kernel) _ fun (y : S32x8.Idx) => ?_
  obtain ⟨r, d, rfl⟩ : ∃ (r : Fin 32) (d : Fin 8), y = ix2 r d := ⟨y 0, y 1, eq_ix2 y⟩
  rw [after_19]
  show View.canon (run m c t0_0).2.2.2.1 (ix2 r d) = LS m c (ix2 r d)
  rw [c19, l0_eq, l1_eq, l2_eq, l4_eq]
  exact lf_at m c r d

theorem g20 : (dats m 0 c).arrAt 20 cfg0.N = HS m c := by
  refine (dats m 0 c).arrAt_eq_of_after_last 20 t0_0 (by decide +kernel) _ fun (y : S32x512.Idx) => ?_
  obtain ⟨r, d, rfl⟩ : ∃ (r : Fin 32) (d : Fin 512), y = ix2 r d := ⟨y 0, y 1, eq_ix2 y⟩
  rw [after_20]
  show View.canon (run m c t0_0).2.2.2.2.1 (ix2 r d) = HS m c (ix2 r d)
  rw [c20, HP, XP, l0_eq, l1_eq, l2_eq, l5_eq, l6_eq, l8_eq, l9_eq, l10_eq, l12_eq, l13_eq, l14_eq, l15_eq, l70_eq, l71_eq]
  exact h_at m c r d

theorem g21 : (dats m 0 c).arrAt 21 cfg0.N = XS m c := by
  refine (dats m 0 c).arrAt_eq_of_after_last 21 t0_0 (by decide +kernel) _ fun (y : S32x512.Idx) => ?_
  obtain ⟨r, d, rfl⟩ : ∃ (r : Fin 32) (d : Fin 512), y = ix2 r d := ⟨y 0, y 1, eq_ix2 y⟩
  rw [after_21]
  show View.canon (run m c t0_0).2.2.2.2.2.1 (ix2 r d) = XS m c (ix2 r d)
  rw [c21, l0_eq, l1_eq, l2_eq]
  exact xr_at m c r d

theorem g22 : (dats m 0 c).arrAt 22 cfg0.N = KT m c := by
  refine (dats m 0 c).arrAt_eq_of_after_last 22 t0_0 (by decide +kernel) _ fun (y : S512x128.Idx) => ?_
  obtain ⟨r, d, rfl⟩ : ∃ (r : Fin 512) (d : Fin 128), y = ix2 r d := ⟨y 0, y 1, eq_ix2 y⟩
  rw [after_22]
  show View.canon (run m c t0_0).2.2.2.2.2.2.1 (ix2 r d) = KT m c (ix2 r d)
  rw [c22, PP_eq]
  exact kT_at m c r d

theorem g23 : (dats m 0 c).arrAt 23 cfg0.N = KM m c := by
  refine (dats m 0 c).arrAt_eq_of_after_last 23 t0_0 (by decide +kernel) _ fun (y : S128x512.Idx) => ?_
  obtain ⟨r, d, rfl⟩ : ∃ (r : Fin 128) (d : Fin 512), y = ix2 r d := ⟨y 0, y 1, eq_ix2 y⟩
  rw [after_23]
  show View.canon (run m c t0_0).2.2.2.2.2.2.2.1 (ix2 r d) = KM m c (ix2 r d)
  rw [c23, PP_eq]
  exact km_at m c r d

theorem g24 : (dats m 0 c).arrAt 24 cfg0.N = VM m c := by
  refine (dats m 0 c).arrAt_eq_of_after_last 24 t0_0 (by decide +kernel) _ fun (y : S128x512.Idx) => ?_
  obtain ⟨r, d, rfl⟩ : ∃ (r : Fin 128) (d : Fin 512), y = ix2 r d := ⟨y 0, y 1, eq_ix2 y⟩
  rw [after_24]
  show View.canon (run m c t0_0).2.2.2.2.2.2.2.2.1 (ix2 r d) = VM m c (ix2 r d)
  rw [c24, PP_eq]
  exact vm_at m c r d

theorem g25 : (dats m 0 c).arrAt 25 cfg0.N = LM m c := by
  refine (dats m 0 c).arrAt_eq_of_after_last 25 t0_0 (by decide +kernel) _ fun (y : S8x128.Idx) => ?_
  obtain ⟨r, d, rfl⟩ : ∃ (r : Fin 8) (d : Fin 128), y = ix2 r d := ⟨y 0, y 1, eq_ix2 y⟩
  rw [after_25]
  show View.canon (run m c t0_0).2.2.2.2.2.2.2.2.2.1 (ix2 r d) = LM m c (ix2 r d)
  rw [c25, PP_eq, l3_eq]
  exact lfT_at m c r d

theorem g30 : (dats m 0 c).arrAt 30 cfg0.N = RM m c := by
  refine (dats m 0 c).arrAt_eq_of_after_last 30 t0_0 (by decide +kernel) _ fun (y : S8x512.Idx) => ?_
  obtain ⟨r, d, rfl⟩ : ∃ (r : Fin 8) (d : Fin 512), y = ix2 r d := ⟨y 0, y 1, eq_ix2 y⟩
  rw [after_30]
  show View.canon (run m c t0_0).2.2.2.2.2.2.2.2.2.2.2.2.2.2.1 (ix2 r d) = RM m c (ix2 r d)
  rw [c30, PP_eq]
  exact xm_r_at m c r d

end Cert.Kernel3Ideal.Pre

end
-- ==== Proof.SmallPreEnd.lean ====
/-
The small call before the attention: its eleven results and its arguments after the run.
-/
module

public import proofs.«01_k».proof.Proof.SmallPreOut

@[expose] public section

set_option maxRecDepth 16384

noncomputable section

namespace Cert.Kernel3Ideal.Pre

open Cert.Kernel3Ideal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

attribute [local irreducible] dats run QS KS VS LS HS XS KT KM VM LM RM

/-- The run's last memory. -/
abbrev St := PUnit × MemSt nD τ sig (Elt Ideal)
/-- Every array of the call ends at what the proof data says. -/
def Ends (c : Dev nD) (r : St) : Prop :=
  ∀ w, r.2.mem ((c : Thread nD τ).loc (Pipeline.arrRef spec0 w)) = (dats m 0 c).arrAt w cfg0.N

variable {m} {c : Dev nD} {r : St} (h : Ends m c r)
include h

theorem end16 : r.2.mem ((c.tc : Thread nD τ).loc main_v59_0) = QS m c := (h 16).trans (g16 m c)
theorem end17 : r.2.mem ((c.tc : Thread nD τ).loc main_v59_1) = KS m c := (h 17).trans (g17 m c)
theorem end18 : r.2.mem ((c.tc : Thread nD τ).loc main_v59_2) = VS m c := (h 18).trans (g18 m c)
theorem end19 : r.2.mem ((c.tc : Thread nD τ).loc main_v59_3) = LS m c := (h 19).trans (g19 m c)
theorem end20 : r.2.mem ((c.tc : Thread nD τ).loc main_v59_4) = HS m c := (h 20).trans (g20 m c)
theorem end21 : r.2.mem ((c.tc : Thread nD τ).loc main_v59_5) = XS m c := (h 21).trans (g21 m c)
theorem end22 : r.2.mem ((c.tc : Thread nD τ).loc main_v59_6) = KT m c := (h 22).trans (g22 m c)
theorem end23 : r.2.mem ((c.tc : Thread nD τ).loc main_v59_7) = KM m c := (h 23).trans (g23 m c)
theorem end24 : r.2.mem ((c.tc : Thread nD τ).loc main_v59_8) = VM m c := (h 24).trans (g24 m c)
theorem end25 : r.2.mem ((c.tc : Thread nD τ).loc main_v59_9) = LM m c := (h 25).trans (g25 m c)
theorem end30 : r.2.mem ((c.tc : Thread nD τ).loc main_v59_14) = RM m c := (h 30).trans (g30 m c)

omit h
variable (m)

/-- After the call every result array is the reference's value and every argument array is as it was launched. -/
theorem results : θ_run defs (onTc (τ := τ) (main (F := Ideal))) ⟨m, fun _ => 0, ρ⟩ (fun r => ∀ c : Dev nD,
    r.2.mem ((c.tc : Thread nD τ).loc main_v59_0) = QS m c
    ∧ r.2.mem ((c.tc : Thread nD τ).loc main_v59_1) = KS m c
    ∧ r.2.mem ((c.tc : Thread nD τ).loc main_v59_2) = VS m c
    ∧ r.2.mem ((c.tc : Thread nD τ).loc main_v59_3) = LS m c
    ∧ r.2.mem ((c.tc : Thread nD τ).loc main_v59_4) = HS m c
    ∧ r.2.mem ((c.tc : Thread nD τ).loc main_v59_5) = XS m c
    ∧ r.2.mem ((c.tc : Thread nD τ).loc main_v59_6) = KT m c
    ∧ r.2.mem ((c.tc : Thread nD τ).loc main_v59_7) = KM m c
    ∧ r.2.mem ((c.tc : Thread nD τ).loc main_v59_8) = VM m c
    ∧ r.2.mem ((c.tc : Thread nD τ).loc main_v59_9) = LM m c
    ∧ r.2.mem ((c.tc : Thread nD τ).loc main_v59_14) = RM m c
    ∧ Kept m c r) := by
  refine (θ_run defs _ _).mono (fun r h c => ?_) (run_values m ρ)
  have e : Ends m c r := h.2 c
  exact ⟨end16 e, end17 e, end18 e, end19 e, end20 e, end21 e, end22 e, end23 e, end24 e, end25 e, end30 e, h.1 c⟩

end Cert.Kernel3Ideal.Pre

end
-- ==== Proof.SmallPost.lean ====
module

public import proofs.«01_k».proof.Proof.Gen.Kernel4Ideal.Value
public import proofs.«01_k».proof.Proof.Gen.Reference4Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel4Ideal.Post

open Cert.Kernel4Ideal Cert.Kernel4Ideal.Gen

variable (m : (ℓ : Loc nD τ sig) → Buf (Elt Ideal) ℓ) (c : Dev nD)

/-! ## The arguments and the reference's tensors over them -/

/-- The residual stream of the stacked rows: 128 rows of meta tokens and padding, then the 32 sample rows. -/
abbrev a0 : FVec Ideal S160x1024 .f32 := m ((c : Thread nD τ).loc main_arg0)
/-- The attention's result for these rows. -/
abbrev a1 : FVec Ideal S160x512 .f32 := m ((c : Thread nD τ).loc main_arg1)
/-- The normalised recurrence's result for these rows. -/
abbrev a2 : FVec Ideal S160x512 .f32 := m ((c : Thread nD τ).loc main_arg2)
/-- The attention's output norm. -/
abbrev a3 : FVec Ideal S1x512 .f32 := m ((c : Thread nD τ).loc main_arg3)
/-- The output projection. -/
abbrev a4 : FVec Ideal S1x1024x1024 .f32 := m ((c : Thread nD τ).loc main_arg4)
/-- The feed-forward norm. -/
abbrev a5 : FVec Ideal S1x1024 .f32 := m ((c : Thread nD τ).loc main_arg5)
/-- The up projection: gate and value halves side by side. -/
abbrev a6 : FVec Ideal S1x1024x5632 .f32 := m ((c : Thread nD τ).loc main_arg6)
/-- The gate convolution's three taps. -/
abbrev a7 : FVec Ideal S1x3x2816 .f32 := m ((c : Thread nD τ).loc main_arg7)
/-- The gate convolution's bias. -/
abbrev a8 : FVec Ideal S1x2816 .f32 := m ((c : Thread nD τ).loc main_arg8)
/-- The down projection. -/
abbrev a9 : FVec Ideal S1x2816x1024 .f32 := m ((c : Thread nD τ).loc main_arg9)
/-- The final norm. -/
abbrev a10 : FVec Ideal S1024 .f32 := m ((c : Thread nD τ).loc main_arg10)
/-- The two gate rows before each sample's row. -/
abbrev a11 : FVec Ideal S1x32x2x2816 .f32 := m ((c : Thread nD τ).loc main_arg11)

/-- The residual stream after the output projection, as the reference has it. -/
def X1 : FVec Ideal S160x1024 .f32 :=
  Cert.Reference4Ideal.Read.val_main_v17 (F := Ideal) (a0 m c) (a1 m c) (a2 m c) (a3 m c) (a4 m c)

/-- Gate and value before the convolution, side by side, as the reference has them. -/
def UP : FVec Ideal S160x5632 .f32 :=
  Cert.Reference4Ideal.Read.val_main_v33 (F := Ideal) (a0 m c) (a1 m c) (a2 m c) (a3 m c) (a4 m c) (a5 m c) (a6 m c)

/-- The samples' gate after the causal convolution, as the reference has it. -/
def CV : FVec Ideal S32x2816 .f32 :=
  Cert.Reference4Ideal.Read.val_main_v67 (F := Ideal) (a0 m c) (a1 m c) (a2 m c) (a3 m c) (a4 m c) (a5 m c) (a6 m c) (a7 m c)
    (a8 m c) (a11 m c)

/-- The reference's first result: the samples' output. -/
def YY : FVec Ideal S32x1024 .f32 :=
  Cert.Reference4Ideal.Read.val_main_v99 (F := Ideal) (a0 m c) (a1 m c) (a2 m c) (a3 m c) (a4 m c) (a5 m c) (a6 m c) (a7 m c)
    (a8 m c) (a9 m c) (a10 m c) (a11 m c)

/-- The reference's second result: the samples' gate rows before the convolution. -/
def GS : FVec Ideal S32x2816 .f32 :=
  Cert.Reference4Ideal.Read.val_main_v100 (F := Ideal) (a0 m c) (a1 m c) (a2 m c) (a3 m c) (a4 m c) (a5 m c) (a6 m c)

/-- The reference's third result: the last eight meta tokens' gate rows before the convolution. -/
def GM : FVec Ideal S8x2816 .f32 :=
  Cert.Reference4Ideal.Read.val_main_v101 (F := Ideal) (a0 m c) (a1 m c) (a2 m c) (a3 m c) (a4 m c) (a5 m c) (a6 m c)

/-- Every window is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] ∧ win0_16.index t = ![0, 0] :=
  (by decide +kernel : ∀ t : Fin grid0.N, _)

/-- The residual stream after the output projection is the reference's. -/
theorem x1_at (t : Fin cfg0.N) (r : Fin 160) (d : Fin 1024) :
    k0_pay2 (F := Ideal) (iblk m c 1 t) (iblk m c 3 t) (iblk m c 0 t) (iblk m c 4 t) (iblk m c 2 t) (iblk m c 5 t) (ix2 r d)
      = X1 m c (ix2 r d) := by
  open Cert.Reference4Ideal.Read in
  pointwise [k0_pay2, X1, val_main_v17, val_main_v16, val_main_v15, val_main_v14, val_main_v13, val_main_v12,
    val_main_v11, val_main_v10, val_main_v9, val_main_v8, val_main_v7, val_main_v6, val_main_v5, val_main_v4, val_main_v3,
    val_main_v2, val_main_v1, val_main_v0, val_main_cst, val_main_cst_0, val_main_cst_1]
  rw [add_assoc]
  blk_point [iblk, V, idx t]

/-- The up projection is the reference's. -/
theorem up_at (t : Fin cfg0.N) (r : Fin 160) (j : Fin 5632) :
    k0_pay5 (F := Ideal) (k0_pay3 (iblk m c 1 t) (iblk m c 3 t) (iblk m c 0 t) (iblk m c 4 t) (iblk m c 2 t) (iblk m c 5 t))
        (k0_pay4 (iblk m c 6 t)) (iblk m c 7 t) (ix2 r j)
      = UP m c (ix2 r j) := by
  have h17 : Cert.Reference4Ideal.Read.val_main_v17 (F := Ideal) (a0 m c) (a1 m c) (a2 m c) (a3 m c) (a4 m c) = X1 m c := rfl
  open Cert.Reference4Ideal.Read in
  pointwise [k0_pay5, k0_pay4, k0_pay3, x1_at, UP, val_main_v33, val_main_v32, val_main_v31, val_main_v30,
    val_main_v29, val_main_v28, val_main_v27, val_main_v26, val_main_v25, val_main_v24, val_main_v23, val_main_v22,
    val_main_v21, val_main_v20, val_main_v19, val_main_v18, val_main_cst_2, val_main_cst_3, val_main_cst_4, h17]
  blk_point [iblk, V, idx t]

/-- The samples' gate rows, as the convolution reads them. -/
theorem gs_at (t : Fin cfg0.N) (r : Fin 32) (j : Fin 2816) :
    k0_pay11 (F := Ideal) (k0_pay3 (iblk m c 1 t) (iblk m c 3 t) (iblk m c 0 t) (iblk m c 4 t) (iblk m c 2 t) (iblk m c 5 t))
        (k0_pay4 (iblk m c 6 t)) (iblk m c 7 t) (ix2 r j)
      = UP m c (ix2 ⟨128 + r.val, by omega⟩ ⟨j.val, by omega⟩) := by
  pointwise [k0_pay11, k0_pay6, up_at]

/-- The convolved gate of the samples, summed in the kernel's order, is the reference's. -/
theorem cv_at (t : Fin cfg0.N) (b9 : FVec Ideal S1x2816 .f32) (w8 : FVec Ideal S3x2816 .f32) (p12 p13 : FVec Ideal S32x2816 .f32)
    (h9 : b9 = iblk m c 9 t) (h8 : w8 = iblk m c 8 t) (h12 : p12 = iblk m c 12 t) (h13 : p13 = iblk m c 13 t) (r : Fin 32) (j : Fin 2816) :
    b9 (ix2 0 j) + w8 (ix2 0 j) * p12 (ix2 r j) + w8 (ix2 1 j) * p13 (ix2 r j)
        + w8 (ix2 2 j) * UP m c (ix2 ⟨128 + r.val, by omega⟩ ⟨j.val, by omega⟩)
      = CV m c (ix2 r j) := by
  have h33 : Cert.Reference4Ideal.Read.val_main_v33 (F := Ideal) (a0 m c) (a1 m c) (a2 m c) (a3 m c) (a4 m c) (a5 m c) (a6 m c) = UP m c := rfl
  open Cert.Reference4Ideal.Read in
  pointwise [CV, val_main_v67, val_main_v66, val_main_v65, val_main_v64, val_main_v63, val_main_v62,
    val_main_v61, val_main_v60, val_main_v59, val_main_v58, val_main_v57, val_main_v56, val_main_v55, val_main_v54, val_main_v53,
    val_main_v52, val_main_v51, val_main_v50, val_main_v49, val_main_v48, val_main_v47, val_main_v46, val_main_v45, val_main_v44,
    val_main_v43, val_main_v42, val_main_v41, val_main_v40, val_main_v39, val_main_v38, val_main_v37, val_main_v36, val_main_v34,
    val_main_cst_5, h33]
  simp only [add_assoc]
  subst h9 h8 h12 h13
  blk_point [iblk, V, idx t]

/-- The value half of the up projection. -/
theorem val_at (t : Fin cfg0.N) (r : Fin 160) (j : Fin 2816) :
    k0_pay7 (F := Ideal) (k0_pay3 (iblk m c 1 t) (iblk m c 3 t) (iblk m c 0 t) (iblk m c 4 t) (iblk m c 2 t) (iblk m c 5 t))
        (k0_pay4 (iblk m c 6 t)) (iblk m c 7 t) (ix2 r j)
      = UP m c (ix2 r ⟨2816 + j.val, by omega⟩) := by
  pointwise [k0_pay7, up_at]

/-- The convolution as the kernel's values hold it. -/
theorem conv_at (t : Fin cfg0.N) (b9 : FVec Ideal S1x2816 .f32) (w8 : FVec Ideal S3x2816 .f32) (p12 p13 : FVec Ideal S32x2816 .f32)
    (h9 : b9 = iblk m c 9 t) (h8 : w8 = iblk m c 8 t) (h12 : p12 = iblk m c 12 t) (h13 : p13 = iblk m c 13 t) (r : Fin 32) (j : Fin 2816) :
    b9 (ix2 0 j) + k0_pay12 w8 p12 (ix2 r j) + k0_pay8 w8 (ix2 1 j) * p13 (ix2 r j)
        + k0_pay8 w8 (ix2 2 j)
          * k0_pay11 (F := Ideal) (k0_pay3 (iblk m c 1 t) (iblk m c 3 t) (iblk m c 0 t) (iblk m c 4 t) (iblk m c 2 t) (iblk m c 5 t))
            (k0_pay4 (iblk m c 6 t)) (iblk m c 7 t) (ix2 r j)
      = CV m c (ix2 r j) := by
  rw [← cv_at m c t b9 w8 p12 p13 h9 h8 h12 h13 r j]
  pointwise [k0_pay12, k0_pay8, gs_at]

/-- The samples' residual stream after the feed-forward network. -/
def X2 : FVec Ideal S32x1024 .f32 :=
  Cert.Reference4Ideal.Read.val_main_v86 (F := Ideal) (a0 m c) (a1 m c) (a2 m c) (a3 m c) (a4 m c) (a5 m c) (a6 m c) (a7 m c)
    (a8 m c) (a9 m c) (a11 m c)

/-- The samples' residual stream after the feed-forward network is the reference's. The meta rows' convolution `w` is not read. -/
theorem x2_at (t : Fin cfg0.N) (X : FVec Ideal S160x1024 .f32) (vv : FVec Ideal S160x2816 .f32) (w8 : FVec Ideal S3x2816 .f32)
    (w : FVec Ideal S128x2816 .f32) (g g0 p13 : FVec Ideal S32x2816 .f32) (b9 : FVec Ideal S1x2816 .f32)
    (hX : ∀ (r : Fin 160) (d : Fin 1024), X (ix2 r d) = X1 m c (ix2 r d))
    (hv : ∀ (r : Fin 160) (j : Fin 2816), vv (ix2 r j) = UP m c (ix2 r ⟨2816 + j.val, by omega⟩))
    (hc : ∀ (r : Fin 32) (j : Fin 2816), b9 (ix2 0 j) + g0 (ix2 r j) + w8 (ix2 1 j) * p13 (ix2 r j) + w8 (ix2 2 j) * g (ix2 r j)
      = CV m c (ix2 r j)) (r : Fin 32) (d : Fin 1024) :
    k0_pay14 (F := Ideal) X vv w8 w g b9 g0 p13 (iblk m c 10 t) (ix2 r d) = X2 m c (ix2 r d) := by
  have h67 : Cert.Reference4Ideal.Read.val_main_v67 (F := Ideal) (a0 m c) (a1 m c) (a2 m c) (a3 m c) (a4 m c) (a5 m c) (a6 m c) (a7 m c)
    (a8 m c) (a11 m c) = CV m c := rfl
  have h33 : Cert.Reference4Ideal.Read.val_main_v33 (F := Ideal) (a0 m c) (a1 m c) (a2 m c) (a3 m c) (a4 m c) (a5 m c) (a6 m c) = UP m c := rfl
  have h17 : Cert.Reference4Ideal.Read.val_main_v17 (F := Ideal) (a0 m c) (a1 m c) (a2 m c) (a3 m c) (a4 m c) = X1 m c := rfl
  open Cert.Reference4Ideal.Read in
  pointwise [k0_pay14, hX, hv, hc, X2, val_main_v86, val_main_v85, val_main_v84, val_main_v83,
    val_main_v82, val_main_v81, val_main_v80, val_main_v79, val_main_v78, val_main_v77, val_main_v76, val_main_v75, val_main_v74,
    val_main_v73, val_main_v72, val_main_v71, val_main_v70, val_main_v69, val_main_v68, val_main_v35, val_main_cst_6, val_main_cst_7,
    val_main_cst_8, val_main_cst_9, h67, h33, h17]
  blk_point [iblk, V, idx t]

/-- The final norm. -/
theorem y_at (t : Fin cfg0.N) (X : FVec Ideal S32x1024 .f32) (q : FVec Ideal S32x1 .f32)
    (hX : ∀ (r : Fin 32) (d : Fin 1024), X (ix2 r d) = X2 m c (ix2 r d))
    (hq : ∀ r : Fin 32, q (ix2 r 0) = ∑ d : Fin 1024, X2 m c (ix2 r d) * X2 m c (ix2 r d)) (r : Fin 32) (d : Fin 1024) :
    k0_pay1 (F := Ideal) X (k0_pay15 (iblk m c 11 t)) q (Scalar.ofBits .f32 0x44800000#32) (ix2 r d) = YY m c (ix2 r d) := by
  have h86 : Cert.Reference4Ideal.Read.val_main_v86 (F := Ideal) (a0 m c) (a1 m c) (a2 m c) (a3 m c) (a4 m c) (a5 m c) (a6 m c) (a7 m c)
    (a8 m c) (a9 m c) (a11 m c) = X2 m c := rfl
  open Cert.Reference4Ideal.Read in
  pointwise [k0_pay1, k0_pay15, hX, hq, YY, val_main_v99, val_main_v98, val_main_v97, val_main_v96, val_main_v95, val_main_v94, val_main_v93,
    val_main_v92, val_main_v91, val_main_v90, val_main_v89, val_main_v88, val_main_v87, val_main_cst_10, val_main_cst_11, val_main_cst_12, h86]
  blk_point [iblk, V, idx t]

/-! ## The result arrays -/

/-- The grid's one point. -/
abbrev t0 : Fin cfg0.N := ⟨0, by rw [show cfg0.N = 1 from N_0]; exact Nat.one_pos⟩

theorem emb14 (z : S32x1024.Idx) : ((cfg0.win 14).blk t0).view.emb z = z := by
  have h : win0_14.index t0 = ![0, 0] := (idx t0).2.2.2.2.2.2.2.2.2.2.2.2.2.2.1
  have h0 : win0_14.index t0 (0 : Fin 2) = 0 := by rw [h]; rfl
  have h1 : win0_14.index t0 (1 : Fin 2) = 0 := by rw [h]; rfl
  funext a; apply Fin.ext
  match a with
  | ⟨0, _⟩ => show win0_14.index t0 (0 : Fin 2) * 32 + 1 * (z 0).val = (z 0).val; omega
  | ⟨1, _⟩ => show win0_14.index t0 (1 : Fin 2) * 1024 + 1 * (z 1).val = (z 1).val; omega

theorem emb15 (z : S32x2816.Idx) : ((cfg0.win 15).blk t0).view.emb z = z := by
  have h : win0_15.index t0 = ![0, 0] := (idx t0).2.2.2.2.2.2.2.2.2.2.2.2.2.2.2.1
  have h0 : win0_15.index t0 (0 : Fin 2) = 0 := by rw [h]; rfl
  have h1 : win0_15.index t0 (1 : Fin 2) = 0 := by rw [h]; rfl
  funext a; apply Fin.ext
  match a with
  | ⟨0, _⟩ => show win0_15.index t0 (0 : Fin 2) * 32 + 1 * (z 0).val = (z 0).val; omega
  | ⟨1, _⟩ => show win0_15.index t0 (1 : Fin 2) * 2816 + 1 * (z 1).val = (z 1).val; omega

theorem emb16 (z : S8x2816.Idx) : ((cfg0.win 16).blk t0).view.emb z = z := by
  have h : win0_16.index t0 = ![0, 0] := (idx t0).2.2.2.2.2.2.2.2.2.2.2.2.2.2.2.2
  have h0 : win0_16.index t0 (0 : Fin 2) = 0 := by rw [h]; rfl
  have h1 : win0_16.index t0 (1 : Fin 2) = 0 := by rw [h]; rfl
  funext a; apply Fin.ext
  match a with
  | ⟨0, _⟩ => show win0_16.index t0 (0 : Fin 2) * 8 + 1 * (z 0).val = (z 0).val; omega
  | ⟨1, _⟩ => show win0_16.index t0 (1 : Fin 2) * 2816 + 1 * (z 1).val = (z 1).val; omega

theorem zero2 : ∀ a : Fin 2, (![0, 0] : Fin 2 → Nat) a = 0 := by decide

/-! The body loads every block whole. -/

theorem ld0 {e : EltTy} (X : Vec Ideal S160x512 e) : View.ld X r0_0 = X := View.ld_unit_lit _ X zero2
theorem ld1 {e : EltTy} (X : Vec Ideal S1x512 e) : View.ld X r0_1 = X := View.ld_unit_lit _ X zero2
theorem ld2 {e : EltTy} (X : Vec Ideal S160x1024 e) : View.ld X r0_2 = X := View.ld_unit_lit _ X zero2
theorem ld3 {e : EltTy} (X : Vec Ideal S512x1024 e) : View.ld X r0_3 = X := View.ld_unit_lit _ X zero2
theorem ld4 {e : EltTy} (X : Vec Ideal S1x1024 e) : View.ld X r0_4 = X := View.ld_unit_lit _ X zero2
theorem ld5 {e : EltTy} (X : Vec Ideal S1024x5632 e) : View.ld X r0_5 = X := View.ld_unit_lit _ X zero2
theorem ld6 {e : EltTy} (X : Vec Ideal S3x2816 e) : View.ld X r0_6 = X := View.ld_unit_lit _ X zero2
theorem ld7 {e : EltTy} (X : Vec Ideal S1x2816 e) : View.ld X r0_7 = X := View.ld_unit_lit _ X zero2
theorem ld8 {e : EltTy} (X : Vec Ideal S32x2816 e) : View.ld X r0_8 = X := View.ld_unit_lit _ X zero2
theorem ld10 {e : EltTy} (X : Vec Ideal S2816x1024 e) : View.ld X r0_10 = X := View.ld_unit_lit _ X zero2

/-- The first result array is the reference's. -/
theorem g14 : (dats m 0 c).arrAt 14 cfg0.N = YY m c := by
  funext (y : S32x1024.Idx)
  obtain ⟨r, d, rfl⟩ : ∃ (r : Fin 32) (d : Fin 1024), y = ix2 r d := ⟨y 0, y 1, eq_ix2 y⟩
  have b := congrFun (Value.blocks14 m c t0 rfl) (ix2 r d)
  rw [Value.flushed14] at b
  have b' : (dats m 0 c).arrAt 14 cfg0.N (((cfg0.win 14).blk t0).view.emb (ix2 r d)) = _ := b
  rw [emb14] at b'
  refine b'.trans ?_
  show out0_14 (F := Ideal) (iblk m c 0 t0) (iblk m c 1 t0) (iblk m c 2 t0) (iblk m c 3 t0) (iblk m c 4 t0) (iblk m c 5 t0) (iblk m c 6 t0)
    (iblk m c 7 t0) (iblk m c 8 t0) (iblk m c 9 t0) (iblk m c 10 t0) (iblk m c 11 t0) (iblk m c 12 t0) (iblk m c 13 t0) (ix2 r d) = _
  unfold_out out0_14
  rw [View.canon_cons_unit_lit _ _ _ zero2]
  simp only [ld0, ld1, ld2, ld3, ld4, ld5, ld6, ld7, ld8, ld10]
  have hx := fun w => x2_at m c t0 _ _ (k0_pay8 (iblk m c 8 t0)) w _ (k0_pay12 (iblk m c 8 t0) (iblk m c 12 t0)) (iblk m c 13 t0)
    (iblk m c 9 t0) (x1_at m c t0) (val_at m c t0) (conv_at m c t0 _ _ _ _ rfl rfl rfl rfl)
  refine y_at m c t0 _ _ (hx _) (fun r => ?_) _ _
  pointwise [k0_pay16]
  exact Finset.sum_congr rfl fun d _ => congrArg₂ (· * ·) (hx _ r d) (hx _ r d)

/-- The second result array is the reference's. -/
theorem g15 : (dats m 0 c).arrAt 15 cfg0.N = GS m c := by
  funext (y : S32x2816.Idx)
  obtain ⟨r, d, rfl⟩ : ∃ (r : Fin 32) (d : Fin 2816), y = ix2 r d := ⟨y 0, y 1, eq_ix2 y⟩
  have b := congrFun (Value.blocks15 m c t0 rfl) (ix2 r d)
  rw [Value.flushed15] at b
  have b' : (dats m 0 c).arrAt 15 cfg0.N (((cfg0.win 15).blk t0).view.emb (ix2 r d)) = _ := b
  rw [emb15] at b'
  refine b'.trans ?_
  show out0_15 (F := Ideal) (iblk m c 0 t0) (iblk m c 1 t0) (iblk m c 2 t0) (iblk m c 3 t0) (iblk m c 4 t0) (iblk m c 5 t0) (iblk m c 6 t0)
    (iblk m c 7 t0) (iblk m c 8 t0) (iblk m c 9 t0) (iblk m c 10 t0) (iblk m c 11 t0) (iblk m c 12 t0) (iblk m c 13 t0) (ix2 r d) = _
  unfold_out out0_15
  rw [View.canon_cons_unit_lit _ _ _ zero2]
  simp only [ld0, ld1, ld2, ld3, ld4, ld5, ld6, ld7, ld8, ld10]
  rw [gs_at]
  have h33 : Cert.Reference4Ideal.Read.val_main_v33 (F := Ideal) (a0 m c) (a1 m c) (a2 m c) (a3 m c) (a4 m c) (a5 m c) (a6 m c) = UP m c := rfl
  open Cert.Reference4Ideal.Read in
  pointwise [GS, val_main_v100, val_main_v34, h33]

/-- The third result array is the reference's. -/
theorem g16 : (dats m 0 c).arrAt 16 cfg0.N = GM m c := by
  funext (y : S8x2816.Idx)
  obtain ⟨r, d, rfl⟩ : ∃ (r : Fin 8) (d : Fin 2816), y = ix2 r d := ⟨y 0, y 1, eq_ix2 y⟩
  have b := congrFun (Value.blocks16 m c t0 rfl) (ix2 r d)
  rw [Value.flushed16] at b
  have b' : (dats m 0 c).arrAt 16 cfg0.N (((cfg0.win 16).blk t0).view.emb (ix2 r d)) = _ := b
  rw [emb16] at b'
  refine b'.trans ?_
  show out0_16 (F := Ideal) (iblk m c 0 t0) (iblk m c 1 t0) (iblk m c 2 t0) (iblk m c 3 t0) (iblk m c 4 t0) (iblk m c 5 t0) (iblk m c 6 t0)
    (iblk m c 7 t0) (iblk m c 8 t0) (iblk m c 9 t0) (iblk m c 10 t0) (iblk m c 11 t0) (iblk m c 12 t0) (iblk m c 13 t0) (ix2 r d) = _
  unfold_out out0_16
  rw [View.canon_cons_unit_lit _ _ _ zero2]
  simp only [ld0, ld1, ld2, ld3, ld4, ld5, ld6, ld7, ld8, ld10]
  have h33 : Cert.Reference4Ideal.Read.val_main_v33 (F := Ideal) (a0 m c) (a1 m c) (a2 m c) (a3 m c) (a4 m c) (a5 m c) (a6 m c) = UP m c := rfl
  open Cert.Reference4Ideal.Read in
  pointwise [k0_pay13, k0_pay9, k0_pay6, up_at, GM, val_main_v101, val_main_v34, h33]

end Cert.Kernel4Ideal.Post

end
-- ==== Proof.lean ====
module

public import proofs.«01_k».proof.Proof.Gen.Kernel1.Frame
public import proofs.«01_k».proof.Proof.Gen.Kernel1Ideal.Frame
public import proofs.«01_k».proof.Proof.Gen.Reference1Ideal.Run
public import proofs.«01_k».proof.Proof.Gen.Reference1Ideal.Read
public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame.Runs
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.FfnOut
public import proofs.«01_k».proof.Proof.InprojBits
public import proofs.«01_k».proof.Proof.InprojEnd
public import proofs.«01_k».proof.Proof.SmallPreBits
public import proofs.«01_k».proof.Proof.SmallPreEnd
public import proofs.«01_k».proof.Proof.SmallPost
public import Idealize.ShloMosaic.Adequacy
public import Idealize.ShloMosaic.Init

@[expose] public section

noncomputable section

namespace Cert.Proof

open Idealize.ShloMosaic Idealize.ShloMosaic.TcCoe Idealize.SL.Sem

/-- The projection's reference leaves every argument as it was, and it declares no semaphore. -/
theorem frame_reference1 : Cert.quiescent_Reference1Ideal (hReference1Ideal := Cert.Reference1Ideal.Gen.facts) := fun m ρ _ =>
  (θ_run Cert.Reference1Ideal.defs _ _).mono (fun r h => ⟨fun c => (h c).2.2.2.2, Idealize.ShloMosaic.sem_eq_zero_of_no_sems (by decide) r.2⟩)
    (Cert.Reference1Ideal.Value.run (F := Ideal) m ρ)

/-- The value claim of the projection of a prompt: its log gates, its last rows, its keys and its values are the reference's. -/
theorem value1 : Cert.algebraic_Kernel1Ideal_Reference1Ideal (hKernel1Ideal := Cert.Kernel1Ideal.Gen.facts)
    (hReference1Ideal := Cert.Reference1Ideal.Gen.facts) := by
  intro m ρ m' ρ' _ hargs
  refine ⟨fun c => Cert.Kernel1Ideal.In.LF m c, fun c => Cert.Kernel1Ideal.In.XL m c,
    fun c => Cert.Kernel1Ideal.In.KT m c, fun c => Cert.Kernel1Ideal.In.VT m c, ?_, ?_⟩
  · exact Cert.Kernel1Ideal.In.results m ρ
  · refine (θ_run Cert.Reference1Ideal.defs _ _).mono (fun r h c => ?_) (Cert.Reference1Ideal.Value.run (F := Ideal) m' ρ')
    obtain ⟨h0, h1, h2, h3, _, _, _, _, _, _, _, _, _, _, _, h15, h16⟩ := hargs c
    have e0 : m' ((c.tc : Thread Cert.Reference1Ideal.nD Cert.Reference1Ideal.τ).loc Cert.Reference1Ideal.main_arg0) = Cert.Kernel1Ideal.In.a0 m c := h0
    have e1 : m' ((c.tc : Thread Cert.Reference1Ideal.nD Cert.Reference1Ideal.τ).loc Cert.Reference1Ideal.main_arg1) = Cert.Kernel1Ideal.In.a1 m c := h1
    have e2 : m' ((c.tc : Thread Cert.Reference1Ideal.nD Cert.Reference1Ideal.τ).loc Cert.Reference1Ideal.main_arg2) = Cert.Kernel1Ideal.In.a2 m c := h2
    have e3 : m' ((c.tc : Thread Cert.Reference1Ideal.nD Cert.Reference1Ideal.τ).loc Cert.Reference1Ideal.main_arg3) = Cert.Kernel1Ideal.In.a3 m c := h3
    have e15 : m' ((c.tc : Thread Cert.Reference1Ideal.nD Cert.Reference1Ideal.τ).loc Cert.Reference1Ideal.main_arg15) = Cert.Kernel1Ideal.In.a15 m c := h15
    have e16 : m' ((c.tc : Thread Cert.Reference1Ideal.nD Cert.Reference1Ideal.τ).loc Cert.Reference1Ideal.main_arg16) = Cert.Kernel1Ideal.In.a16 m c := h16
    refine ⟨(h c).1.trans ((Cert.Reference1Ideal.Read.val_main_v33_eq _ _).trans ?_),
      (h c).2.1.trans ((Cert.Reference1Ideal.Read.val_main_v34_eq _ _ _).trans ?_),
      (h c).2.2.1.trans ((Cert.Reference1Ideal.Read.val_main_v35_eq _ _ _ _).trans ?_),
      (h c).2.2.2.1.trans ((Cert.Reference1Ideal.Read.val_main_v36_eq _ _ _ _).trans ?_), (h c).2.2.2.2⟩
    · rw [e0, e1, e2, e3]
      rfl
    · show Cert.Reference1Ideal.Read.val_main_v34 (F := Ideal) (m' ((c.tc : Thread Cert.Reference1Ideal.nD Cert.Reference1Ideal.τ).loc Cert.Reference1Ideal.main_arg0))
        (m' ((c.tc : Thread Cert.Reference1Ideal.nD Cert.Reference1Ideal.τ).loc Cert.Reference1Ideal.main_arg1))
        (m' ((c.tc : Thread Cert.Reference1Ideal.nD Cert.Reference1Ideal.τ).loc Cert.Reference1Ideal.main_arg2)) = _
      rw [e0, e1, e2]
      rfl
    · show Cert.Reference1Ideal.Read.val_main_v35 (F := Ideal) (m' ((c.tc : Thread Cert.Reference1Ideal.nD Cert.Reference1Ideal.τ).loc Cert.Reference1Ideal.main_arg0))
        (m' ((c.tc : Thread Cert.Reference1Ideal.nD Cert.Reference1Ideal.τ).loc Cert.Reference1Ideal.main_arg1))
        (m' ((c.tc : Thread Cert.Reference1Ideal.nD Cert.Reference1Ideal.τ).loc Cert.Reference1Ideal.main_arg2))
        (m' ((c.tc : Thread Cert.Reference1Ideal.nD Cert.Reference1Ideal.τ).loc Cert.Reference1Ideal.main_arg15)) = _
      rw [e0, e1, e2, e15]
      rfl
    · show Cert.Reference1Ideal.Read.val_main_v36 (F := Ideal) (m' ((c.tc : Thread Cert.Reference1Ideal.nD Cert.Reference1Ideal.τ).loc Cert.Reference1Ideal.main_arg0))
        (m' ((c.tc : Thread Cert.Reference1Ideal.nD Cert.Reference1Ideal.τ).loc Cert.Reference1Ideal.main_arg1))
        (m' ((c.tc : Thread Cert.Reference1Ideal.nD Cert.Reference1Ideal.τ).loc Cert.Reference1Ideal.main_arg2))
        (m' ((c.tc : Thread Cert.Reference1Ideal.nD Cert.Reference1Ideal.τ).loc Cert.Reference1Ideal.main_arg16)) = _
      rw [e0, e1, e2, e16]
      rfl

/-- The reference's frame: its run leaves every argument as it was, and it declares no semaphore. -/
theorem frame_reference2 : Cert.quiescent_Reference2Ideal (hReference2Ideal := Cert.Reference2Ideal.Gen.facts) := fun m ρ _ =>
  (θ_run Cert.Reference2Ideal.defs _ _).mono (fun r h => ⟨fun c => (h c).2.2, Idealize.ShloMosaic.sem_eq_zero_of_no_sems (by decide) r.2⟩)
    (Cert.Reference2Ideal.Value.run (F := Ideal) m ρ)

/-- The value claim of the feed-forward call: both results of the idealized kernel are the reference's. -/
theorem value2 : Cert.algebraic_Kernel2Ideal_Reference2Ideal (hKernel2Ideal := Cert.Kernel2Ideal.Gen.facts)
    (hReference2Ideal := Cert.Reference2Ideal.Gen.facts) := by
  intro m ρ m' ρ' _ hargs
  refine ⟨fun c => Cert.Kernel2Ideal.Ffn.YY m c, fun c => Cert.Kernel2Ideal.Ffn.GR m c, ?_, ?_⟩
  · exact (θ_run Cert.Kernel2Ideal.defs _ _).mono
      (fun r h c => ⟨(h c).1.trans (Cert.Kernel2Ideal.Ffn.g13 m c), (h c).2.1.trans (Cert.Kernel2Ideal.Ffn.g14 m c), (h c).2.2⟩)
      (Cert.Kernel2Ideal.Value.run (F := Ideal) m ρ)
  · refine (θ_run Cert.Reference2Ideal.defs _ _).mono (fun r h c => ?_) (Cert.Reference2Ideal.Value.run (F := Ideal) m' ρ')
    obtain ⟨h0, h1, h2, h3, h4, h5, h6, h7, h8, h9, h10, h11⟩ := hargs c
    have e0 : StableHlo.launchContents m' c (Proc.devRef .tc Cert.Reference2Ideal.main_arg0) = Cert.Kernel2Ideal.Ffn.a0 m c := h0
    have e1 : StableHlo.launchContents m' c (Proc.devRef .tc Cert.Reference2Ideal.main_arg1) = Cert.Kernel2Ideal.Ffn.a1 m c := h1
    have e2 : StableHlo.launchContents m' c (Proc.devRef .tc Cert.Reference2Ideal.main_arg2) = Cert.Kernel2Ideal.Ffn.a2 m c := h2
    have e3 : StableHlo.launchContents m' c (Proc.devRef .tc Cert.Reference2Ideal.main_arg3) = Cert.Kernel2Ideal.Ffn.a3 m c := h3
    have e4 : StableHlo.launchContents m' c (Proc.devRef .tc Cert.Reference2Ideal.main_arg4) = Cert.Kernel2Ideal.Ffn.a4 m c := h4
    have e5 : StableHlo.launchContents m' c (Proc.devRef .tc Cert.Reference2Ideal.main_arg5) = Cert.Kernel2Ideal.Ffn.a5 m c := h5
    have e6 : StableHlo.launchContents m' c (Proc.devRef .tc Cert.Reference2Ideal.main_arg6) = Cert.Kernel2Ideal.Ffn.a6 m c := h6
    have e7 : StableHlo.launchContents m' c (Proc.devRef .tc Cert.Reference2Ideal.main_arg7) = Cert.Kernel2Ideal.Ffn.a7 m c := h7
    have e8 : StableHlo.launchContents m' c (Proc.devRef .tc Cert.Reference2Ideal.main_arg8) = Cert.Kernel2Ideal.Ffn.a8 m c := h8
    have e9 : StableHlo.launchContents m' c (Proc.devRef .tc Cert.Reference2Ideal.main_arg9) = Cert.Kernel2Ideal.Ffn.a9 m c := h9
    have e10 : StableHlo.launchContents m' c (Proc.devRef .tc Cert.Reference2Ideal.main_arg10) = Cert.Kernel2Ideal.Ffn.a10 m c := h10
    have e11 : StableHlo.launchContents m' c (Proc.devRef .tc Cert.Reference2Ideal.main_arg11) = Cert.Kernel2Ideal.Ffn.a11 m c := h11
    refine ⟨(h c).1.trans ((Cert.Reference2Ideal.Read.val_main_v97_eq _).trans ?_),
      (h c).2.1.trans ((Cert.Reference2Ideal.Read.val_main_v98_eq _).trans ?_), (h c).2.2⟩
    · rw [e0, e1, e2, e3, e4, e5, e6, e7, e8, e9, e10, e11]
      rfl
    · rw [e0, e1, e2, e3, e4, e5, e6]
      rfl

/-- The first small call's reference leaves every argument as it was, and it declares no semaphore. -/
theorem frame_reference3 : Cert.quiescent_Reference3Ideal (hReference3Ideal := Cert.Reference3Ideal.Gen.facts) := fun m ρ _ =>
  (θ_run Cert.Reference3Ideal.defs _ _).mono (fun r h => ⟨fun c => (h c).2.2.2.2.2.2.2.2.2.2.2,
      Idealize.ShloMosaic.sem_eq_zero_of_no_sems (by decide) r.2⟩)
    (Cert.Reference3Ideal.Value.run (F := Ideal) m ρ)

/-- The value claim of the small call before the attention: its eleven results are the reference's. -/
theorem value3 : Cert.algebraic_Kernel3Ideal_Reference3Ideal (hKernel3Ideal := Cert.Kernel3Ideal.Gen.facts)
    (hReference3Ideal := Cert.Reference3Ideal.Gen.facts) := by
  intro m ρ m' ρ' _ hargs
  refine ⟨fun c => Cert.Kernel3Ideal.Pre.QS m c, fun c => Cert.Kernel3Ideal.Pre.KS m c, fun c => Cert.Kernel3Ideal.Pre.VS m c,
    fun c => Cert.Kernel3Ideal.Pre.LS m c, fun c => Cert.Kernel3Ideal.Pre.HS m c, fun c => Cert.Kernel3Ideal.Pre.XS m c,
    fun c => Cert.Kernel3Ideal.Pre.KT m c, fun c => Cert.Kernel3Ideal.Pre.KM m c, fun c => Cert.Kernel3Ideal.Pre.VM m c,
    fun c => Cert.Kernel3Ideal.Pre.LM m c, fun c => Cert.Kernel3Ideal.Pre.RM m c, ?_, ?_⟩
  · exact Cert.Kernel3Ideal.Pre.results m ρ
  · refine (θ_run Cert.Reference3Ideal.defs _ _).mono (fun r h c => ?_) (Cert.Reference3Ideal.Value.run (F := Ideal) m' ρ')
    obtain ⟨h0, h1, h2, h3, h4, h5, h6, h7, h8, h9, h10, h11, _, h13, h14⟩ := hargs c
    have e0 : StableHlo.launchContents m' c (Proc.devRef .tc Cert.Reference3Ideal.main_arg0) = Cert.Kernel3Ideal.Pre.a0 m c := h0
    have e1 : StableHlo.launchContents m' c (Proc.devRef .tc Cert.Reference3Ideal.main_arg1) = Cert.Kernel3Ideal.Pre.a1 m c := h1
    have e2 : StableHlo.launchContents m' c (Proc.devRef .tc Cert.Reference3Ideal.main_arg2) = Cert.Kernel3Ideal.Pre.a2 m c := h2
    have e3 : StableHlo.launchContents m' c (Proc.devRef .tc Cert.Reference3Ideal.main_arg3) = Cert.Kernel3Ideal.Pre.a3 m c := h3
    have e4 : StableHlo.launchContents m' c (Proc.devRef .tc Cert.Reference3Ideal.main_arg4) = Cert.Kernel3Ideal.Pre.a4 m c := h4
    have e5 : StableHlo.launchContents m' c (Proc.devRef .tc Cert.Reference3Ideal.main_arg5) = Cert.Kernel3Ideal.Pre.a5 m c := h5
    have e6 : StableHlo.launchContents m' c (Proc.devRef .tc Cert.Reference3Ideal.main_arg6) = Cert.Kernel3Ideal.Pre.a6 m c := h6
    have e7 : StableHlo.launchContents m' c (Proc.devRef .tc Cert.Reference3Ideal.main_arg7) = Cert.Kernel3Ideal.Pre.a7 m c := h7
    have e8 : StableHlo.launchContents m' c (Proc.devRef .tc Cert.Reference3Ideal.main_arg8) = Cert.Kernel3Ideal.Pre.a8 m c := h8
    have e9 : StableHlo.launchContents m' c (Proc.devRef .tc Cert.Reference3Ideal.main_arg9) = Cert.Kernel3Ideal.Pre.a9 m c := h9
    have e10 : StableHlo.launchContents m' c (Proc.devRef .tc Cert.Reference3Ideal.main_arg10) = Cert.Kernel3Ideal.Pre.a10 m c := h10
    have e11 : StableHlo.launchContents m' c (Proc.devRef .tc Cert.Reference3Ideal.main_arg11) = Cert.Kernel3Ideal.Pre.a11 m c := h11
    have e13 : StableHlo.launchContents m' c (Proc.devRef .tc Cert.Reference3Ideal.main_arg13) = Cert.Kernel3Ideal.Pre.a13 m c := h13
    have e14 : StableHlo.launchContents m' c (Proc.devRef .tc Cert.Reference3Ideal.main_arg14) = Cert.Kernel3Ideal.Pre.a14 m c := h14
    refine ⟨(h c).1.trans ((Cert.Reference3Ideal.Read.val_main_v144_eq _).trans ?_),
      (h c).2.1.trans ((Cert.Reference3Ideal.Read.val_main_v145_eq _).trans ?_),
      (h c).2.2.1.trans ((Cert.Reference3Ideal.Read.val_main_v146_eq _).trans ?_),
      (h c).2.2.2.1.trans ((Cert.Reference3Ideal.Read.val_main_v147_eq _).trans ?_),
      (h c).2.2.2.2.1.trans ((Cert.Reference3Ideal.Read.val_main_v148_eq _).trans ?_),
      (h c).2.2.2.2.2.1.trans ((Cert.Reference3Ideal.Read.val_main_v149_eq _).trans ?_),
      (h c).2.2.2.2.2.2.1.trans ((Cert.Reference3Ideal.Read.val_main_v150_eq _).trans ?_),
      (h c).2.2.2.2.2.2.2.1.trans ((Cert.Reference3Ideal.Read.val_main_v132_eq _).trans ?_),
      (h c).2.2.2.2.2.2.2.2.1.trans ((Cert.Reference3Ideal.Read.val_main_v133_eq _).trans ?_),
      (h c).2.2.2.2.2.2.2.2.2.1.trans ((Cert.Reference3Ideal.Read.val_main_v151_eq _).trans ?_),
      (h c).2.2.2.2.2.2.2.2.2.2.1.trans ((Cert.Reference3Ideal.Read.val_main_v152_eq _).trans ?_),
      (h c).2.2.2.2.2.2.2.2.2.2.2⟩
    · rw [e1, e2, e3]
      rfl
    · rw [e1, e2, e3]
      rfl
    · rw [e1, e2, e3]
      rfl
    · rw [e1, e2, e3, e4]
      rfl
    · rw [e1, e2, e3, e5, e6, e7, e8, e9, e10, e11, e13, e14]
      rfl
    · rw [e1, e2, e3]
      rfl
    · rw [e0, e2, e3]
      rfl
    · rw [e0, e2, e3]
      rfl
    · rw [e0, e2, e3]
      rfl
    · rw [e0, e2, e3, e4]
      rfl
    · rw [e0, e2, e3]
      rfl

/-- The second small call's reference leaves every argument as it was, and it declares no semaphore. -/
theorem frame_reference4 : Cert.quiescent_Reference4Ideal (hReference4Ideal := Cert.Reference4Ideal.Gen.facts) := fun m ρ _ =>
  (θ_run Cert.Reference4Ideal.defs _ _).mono (fun r h => ⟨fun c => (h c).2.2.2, Idealize.ShloMosaic.sem_eq_zero_of_no_sems (by decide) r.2⟩)
    (Cert.Reference4Ideal.Value.run (F := Ideal) m ρ)

/-- The value claim of the small feed-forward call: its three results are the reference's. -/
theorem value4 : Cert.algebraic_Kernel4Ideal_Reference4Ideal (hKernel4Ideal := Cert.Kernel4Ideal.Gen.facts)
    (hReference4Ideal := Cert.Reference4Ideal.Gen.facts) := by
  intro m ρ m' ρ' _ hargs
  refine ⟨fun c => Cert.Kernel4Ideal.Post.YY m c, fun c => Cert.Kernel4Ideal.Post.GS m c, fun c => Cert.Kernel4Ideal.Post.GM m c, ?_, ?_⟩
  · exact (θ_run Cert.Kernel4Ideal.defs _ _).mono
      (fun r h c => ⟨(h c).1.trans (Cert.Kernel4Ideal.Post.g14 m c), (h c).2.1.trans (Cert.Kernel4Ideal.Post.g15 m c),
        (h c).2.2.1.trans (Cert.Kernel4Ideal.Post.g16 m c), (h c).2.2.2⟩)
      (Cert.Kernel4Ideal.Value.run_blocks (F := Ideal) m ρ)
  · refine (θ_run Cert.Reference4Ideal.defs _ _).mono (fun r h c => ?_) (Cert.Reference4Ideal.Value.run (F := Ideal) m' ρ')
    obtain ⟨h0, h1, h2, h3, h4, h5, h6, h7, h8, h9, h10, h11⟩ := hargs c
    have e0 : StableHlo.launchContents m' c (Proc.devRef .tc Cert.Reference4Ideal.main_arg0) = Cert.Kernel4Ideal.Post.a0 m c := h0
    have e1 : StableHlo.launchContents m' c (Proc.devRef .tc Cert.Reference4Ideal.main_arg1) = Cert.Kernel4Ideal.Post.a1 m c := h1
    have e2 : StableHlo.launchContents m' c (Proc.devRef .tc Cert.Reference4Ideal.main_arg2) = Cert.Kernel4Ideal.Post.a2 m c := h2
    have e3 : StableHlo.launchContents m' c (Proc.devRef .tc Cert.Reference4Ideal.main_arg3) = Cert.Kernel4Ideal.Post.a3 m c := h3
    have e4 : StableHlo.launchContents m' c (Proc.devRef .tc Cert.Reference4Ideal.main_arg4) = Cert.Kernel4Ideal.Post.a4 m c := h4
    have e5 : StableHlo.launchContents m' c (Proc.devRef .tc Cert.Reference4Ideal.main_arg5) = Cert.Kernel4Ideal.Post.a5 m c := h5
    have e6 : StableHlo.launchContents m' c (Proc.devRef .tc Cert.Reference4Ideal.main_arg6) = Cert.Kernel4Ideal.Post.a6 m c := h6
    have e7 : StableHlo.launchContents m' c (Proc.devRef .tc Cert.Reference4Ideal.main_arg7) = Cert.Kernel4Ideal.Post.a7 m c := h7
    have e8 : StableHlo.launchContents m' c (Proc.devRef .tc Cert.Reference4Ideal.main_arg8) = Cert.Kernel4Ideal.Post.a8 m c := h8
    have e9 : StableHlo.launchContents m' c (Proc.devRef .tc Cert.Reference4Ideal.main_arg9) = Cert.Kernel4Ideal.Post.a9 m c := h9
    have e10 : StableHlo.launchContents m' c (Proc.devRef .tc Cert.Reference4Ideal.main_arg10) = Cert.Kernel4Ideal.Post.a10 m c := h10
    have e11 : StableHlo.launchContents m' c (Proc.devRef .tc Cert.Reference4Ideal.main_arg11) = Cert.Kernel4Ideal.Post.a11 m c := h11
    refine ⟨(h c).1.trans ((Cert.Reference4Ideal.Read.val_main_v99_eq _).trans ?_),
      (h c).2.1.trans ((Cert.Reference4Ideal.Read.val_main_v100_eq _).trans ?_),
      (h c).2.2.1.trans ((Cert.Reference4Ideal.Read.val_main_v101_eq _).trans ?_), (h c).2.2.2⟩
    · rw [e0, e1, e2, e3, e4, e5, e6, e7, e8, e9, e10, e11]
      rfl
    · rw [e0, e1, e2, e3, e4, e5, e6]
      rfl
    · rw [e0, e1, e2, e3, e4, e5, e6]
      rfl

theorem claim : Cert.Claim := ⟨Cert.Kernel1.Gen.facts, Cert.Kernel1Ideal.Gen.facts, Cert.Reference1Ideal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel1.In.frame, fun m ρ _ => Cert.Kernel1Ideal.In.frame m ρ, frame_reference1,
  fun m ρ _ => Cert.Kernel2.Gen.frame m ρ, fun m ρ _ => Cert.Kernel2Ideal.Gen.frame m ρ, frame_reference2,
  Cert.Kernel3.Pre.frame, fun m ρ _ => Cert.Kernel3Ideal.Pre.frame m ρ, frame_reference3,
  fun m ρ _ => Cert.Kernel4.Gen.frame m ρ, fun m ρ _ => Cert.Kernel4Ideal.Gen.frame m ρ, frame_reference4,
  trivial, value1, trivial, value2, trivial, value3, trivial, value4⟩

end Cert.Proof

end
